-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1]⟩ ⟨2, ![4096, 1]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 1024, 2048]⟩ ⟨3, ![8, 1024, 2048]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 2048, 1024]⟩ ⟨3, ![8, 2048, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v88) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x1 : Shape := ⟨2, ![1024, 1]⟩
abbrev S2x1024x2048 : Shape := ⟨3, ![2, 1024, 2048]⟩
abbrev S2x2048x1024 : Shape := ⟨3, ![2, 2048, 1024]⟩
abbrev S3x1024x1024 : Shape := ⟨3, ![3, 1024, 1024]⟩
abbrev S3x1024x1 : Shape := ⟨3, ![3, 1024, 1]⟩
abbrev S2x1024x1024 : Shape := ⟨3, ![2, 1024, 1024]⟩
abbrev S1024x512 : Shape := ⟨2, ![1024, 512]⟩
abbrev S512x1024 : Shape := ⟨2, ![512, 1024]⟩
abbrev S3 : Shape := ⟨1, ![3]⟩
abbrev S2 : Shape := ⟨1, ![2]⟩
abbrev S_ : Shape := ⟨0, ![]⟩
abbrev S1 : Shape := ⟨1, ![1]⟩
abbrev S1x1024x1024 : Shape := ⟨3, ![1, 1024, 1024]⟩
abbrev S1x1024x1 : Shape := ⟨3, ![1, 1024, 1]⟩
abbrev S1x1024x512 : Shape := ⟨3, ![1, 1024, 512]⟩
abbrev S1x512x1024 : Shape := ⟨3, ![1, 512, 1024]⟩
abbrev S256x1 : Shape := ⟨2, ![256, 1]⟩
abbrev S256x1024 : Shape := ⟨2, ![256, 1024]⟩
abbrev S256x512 : Shape := ⟨2, ![256, 512]⟩

abbrev nBuf : Space → Nat
  | .hbm => 5
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S1024x1, .i32⟩
  | .hbm, ⟨2, _⟩ => ⟨S2x1024x2048, .f32⟩
  | .hbm, ⟨3, _⟩ => ⟨S2x2048x1024, .f32⟩
  | .hbm, ⟨4, _⟩ => ⟨S1024x1024, .f32⟩
  | .local _ .vmem, ⟨0, _⟩ => ⟨S1024x1024, .f32⟩
  | .local _ .vmem, ⟨1, _⟩ => ⟨S1024x1, .i32⟩
  | .local _ .vmem, ⟨2, _⟩ => ⟨S1024x1024, .f32⟩
  | .local _ .vmem, ⟨3, _⟩ => ⟨S3x1024x1024, .f32⟩
  | .local _ .vmem, ⟨4, _⟩ => ⟨S3x1024x1, .i32⟩
  | .local _ .vmem, ⟨5, _⟩ => ⟨S3x1024x1024, .f32⟩
  | .local _ .vmem, ⟨6, _⟩ => ⟨S2x1024x1024, .f32⟩
  | .local _ .vmem, ⟨7, _⟩ => ⟨S1024x512, .f32⟩
  | .local _ .vmem, ⟨8, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v15 : BitVec 32 := Scalar.addi v2 c1_i32_6
  let c4_i32_7 : BitVec 32 := 4#32
  let c0_i32_8 : BitVec 32 := 0#32
  let v16 : BitVec 1 := Scalar.cmpi .eq c4_i32_7 c0_i32_8
  let c1_i32_9 : BitVec 32 := 1#32
  let v17 : BitVec 32 := Scalar.select v16 c1_i32_9 c4_i32_7
  let v18 : BitVec 32 := Scalar.remsi v15 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_14 : BitVec 32 := 1#32
  let v26 : BitVec 32 := Scalar.muli v25 c1_i32_14
  let v27 : BitVec 32 := Scalar.addi c0_i32_15 v26
  v27.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v28 : BitVec 32 := Scalar.addi v2 c2_i32
  let c4_i32_16 : BitVec 32 := 4#32
  let c0_i32_17 : BitVec 32 := 0#32
  let v29 : BitVec 1 := Scalar.cmpi .eq c4_i32_16 c0_i32_17
  let c1_i32_18 : BitVec 32 := 1#32
  let v30 : BitVec 32 := Scalar.select v29 c1_i32_18 c4_i32_16
  let v31 : BitVec 32 := Scalar.remsi v28 v30
  let c0_i32_20 : BitVec 32 := 0#32
  let v33 : BitVec 1 := Scalar.cmpi .slt v31 c0_i32_20
  let c0_i32_21 : BitVec 32 := 0#32
  let v34 : BitVec 1 := Scalar.cmpi .slt v30 c0_i32_21
  let v35 : BitVec 1 := Scalar.xori v33 v34
  let c0_i32_19 : BitVec 32 := 0#32
  let v32 : BitVec 1 := Scalar.cmpi .ne v31 c0_i32_19
  let v36 : BitVec 1 := Scalar.andi v35 v32
  let v37 : BitVec 32 := Scalar.addi v31 v30
  let v38 : BitVec 32 := Scalar.select v36 v37 v31
  let c1_i32_23 : BitVec 32 := 1#32
  let v39 : BitVec 32 := Scalar.muli v38 c1_i32_23
  let v40 : BitVec 32 := Scalar.addi c0_i32_24 v39
  v40.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v41 : BitVec 32 := Scalar.addi v2 c3_i32
  let c4_i32_25 : BitVec 32 := 4#32
  let c0_i32_26 : BitVec 32 := 0#32
  let v42 : BitVec 1 := Scalar.cmpi .eq c4_i32_25 c0_i32_26
  let c1_i32_27 : BitVec 32 := 1#32
  let v43 : BitVec 32 := Scalar.select v42 c1_i32_27 c4_i32_25
  let v44 : BitVec 32 := Scalar.remsi v41 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c1_i32_32 : BitVec 32 := 1#32
  let v52 : BitVec 32 := Scalar.muli v51 c1_i32_32
  let v53 : BitVec 32 := Scalar.addi c0_i32_33 v52
  v53.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_38 : BitVec 32 := 1#32
  let v54 : BitVec 32 := Scalar.muli v13 c1_i32_38
  let v55 : BitVec 32 := Scalar.addi c0_i32_39 v54
  v55.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_45 : BitVec 32 := 1#32
  let v62 : BitVec 32 := Scalar.muli v13 c1_i32_45
  let v63 : BitVec 32 := Scalar.addi c0_i32_46 v62
  v63.toNat
def k0_dev6 (d0 : Dev nD) : Nat :=
  let c0_i32_675 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_674 : BitVec 32 := 1#32
  let v856 : BitVec 32 := Scalar.muli v13 c1_i32_674
  let v857 : BitVec 32 := Scalar.addi c0_i32_675 v856
  v857.toNat
def k0_dev7 (d0 : Dev nD) : Nat :=
  let c0_i32_685 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_684 : BitVec 32 := 1#32
  let v866 : BitVec 32 := Scalar.muli v13 c1_i32_684
  let v867 : BitVec 32 := Scalar.addi c0_i32_685 v866
  v867.toNat
def k0_dev8 (d0 : Dev nD) : Nat :=
  let c0_i32_1705 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1692 : BitVec 32 := 1#32
  let v1878 : BitVec 32 := Scalar.subi v2 c1_i32_1692
  let c0_i32_1693 : BitVec 32 := 0#32
  let v1879 : BitVec 32 := Scalar.subi v1878 c0_i32_1693
  let c4_i32_1694 : BitVec 32 := 4#32
  let c0_i32_1695 : BitVec 32 := 0#32
  let v1880 : BitVec 1 := Scalar.cmpi .eq c4_i32_1694 c0_i32_1695
  let c1_i32_1696 : BitVec 32 := 1#32
  let v1881 : BitVec 32 := Scalar.select v1880 c1_i32_1696 c4_i32_1694
  let v1882 : BitVec 32 := Scalar.remsi v1879 v1881
  let c0_i32_1698 : BitVec 32 := 0#32
  let v1884 : BitVec 1 := Scalar.cmpi .slt v1882 c0_i32_1698
  let c0_i32_1699 : BitVec 32 := 0#32
  let v1885 : BitVec 1 := Scalar.cmpi .slt v1881 c0_i32_1699
  let v1886 : BitVec 1 := Scalar.xori v1884 v1885
  let c0_i32_1697 : BitVec 32 := 0#32
  let v1883 : BitVec 1 := Scalar.cmpi .ne v1882 c0_i32_1697
  let v1887 : BitVec 1 := Scalar.andi v1886 v1883
  let v1888 : BitVec 32 := Scalar.addi v1882 v1881
  let v1889 : BitVec 32 := Scalar.select v1887 v1888 v1882
  let c1_i32_1704 : BitVec 32 := 1#32
  let v1890 : BitVec 32 := Scalar.muli v1889 c1_i32_1704
  let v1891 : BitVec 32 := Scalar.addi c0_i32_1705 v1890
  v1891.toNat
def k0_dev9 (d0 : Dev nD) : Nat :=
  let c0_i32_1735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1734 : BitVec 32 := 1#32
  let v1916 : BitVec 32 := Scalar.muli v13 c1_i32_1734
  let v1917 : BitVec 32 := Scalar.addi c0_i32_1735 v1916
  v1917.toNat
def k0_dev10 (d0 : Dev nD) : Nat :=
  let c0_i32_1745 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1744 : BitVec 32 := 1#32
  let v1926 : BitVec 32 := Scalar.muli v13 c1_i32_1744
  let v1927 : BitVec 32 := Scalar.addi c0_i32_1745 v1926
  v1927.toNat
def k0_dev11 (d0 : Dev nD) : Nat :=
  let c0_i32_2765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2752 : BitVec 32 := 1#32
  let v2938 : BitVec 32 := Scalar.subi v2 c1_i32_2752
  let c1_i32_2753 : BitVec 32 := 1#32
  let v2939 : BitVec 32 := Scalar.subi v2938 c1_i32_2753
  let c4_i32_2754 : BitVec 32 := 4#32
  let c0_i32_2755 : BitVec 32 := 0#32
  let v2940 : BitVec 1 := Scalar.cmpi .eq c4_i32_2754 c0_i32_2755
  let c1_i32_2756 : BitVec 32 := 1#32
  let v2941 : BitVec 32 := Scalar.select v2940 c1_i32_2756 c4_i32_2754
  let v2942 : BitVec 32 := Scalar.remsi v2939 v2941
  let c0_i32_2758 : BitVec 32 := 0#32
  let v2944 : BitVec 1 := Scalar.cmpi .slt v2942 c0_i32_2758
  let c0_i32_2759 : BitVec 32 := 0#32
  let v2945 : BitVec 1 := Scalar.cmpi .slt v2941 c0_i32_2759
  let v2946 : BitVec 1 := Scalar.xori v2944 v2945
  let c0_i32_2757 : BitVec 32 := 0#32
  let v2943 : BitVec 1 := Scalar.cmpi .ne v2942 c0_i32_2757
  let v2947 : BitVec 1 := Scalar.andi v2946 v2943
  let v2948 : BitVec 32 := Scalar.addi v2942 v2941
  let v2949 : BitVec 32 := Scalar.select v2947 v2948 v2942
  let c1_i32_2764 : BitVec 32 := 1#32
  let v2950 : BitVec 32 := Scalar.muli v2949 c1_i32_2764
  let v2951 : BitVec 32 := Scalar.addi c0_i32_2765 v2950
  v2951.toNat
def k0_dev12 (d0 : Dev nD) : Nat :=
  let c0_i32_3814 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3801 : BitVec 32 := 1#32
  let v3984 : BitVec 32 := Scalar.subi v2 c1_i32_3801
  let c2_i32_3802 : BitVec 32 := 2#32
  let v3985 : BitVec 32 := Scalar.subi v3984 c2_i32_3802
  let c4_i32_3803 : BitVec 32 := 4#32
  let c0_i32_3804 : BitVec 32 := 0#32
  let v3986 : BitVec 1 := Scalar.cmpi .eq c4_i32_3803 c0_i32_3804
  let c1_i32_3805 : BitVec 32 := 1#32
  let v3987 : BitVec 32 := Scalar.select v3986 c1_i32_3805 c4_i32_3803
  let v3988 : BitVec 32 := Scalar.remsi v3985 v3987
  let c0_i32_3807 : BitVec 32 := 0#32
  let v3990 : BitVec 1 := Scalar.cmpi .slt v3988 c0_i32_3807
  let c0_i32_3808 : BitVec 32 := 0#32
  let v3991 : BitVec 1 := Scalar.cmpi .slt v3987 c0_i32_3808
  let v3992 : BitVec 1 := Scalar.xori v3990 v3991
  let c0_i32_3806 : BitVec 32 := 0#32
  let v3989 : BitVec 1 := Scalar.cmpi .ne v3988 c0_i32_3806
  let v3993 : BitVec 1 := Scalar.andi v3992 v3989
  let v3994 : BitVec 32 := Scalar.addi v3988 v3987
  let v3995 : BitVec 32 := Scalar.select v3993 v3994 v3988
  let c1_i32_3813 : BitVec 32 := 1#32
  let v3996 : BitVec 32 := Scalar.muli v3995 c1_i32_3813
  let v3997 : BitVec 32 := Scalar.addi c0_i32_3814 v3996
  v3997.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x1024 : Shape := ⟨2, ![4096, 1024]⟩
abbrev S4096x1 : Shape := ⟨2, ![4096, 1]⟩
abbrev S8x1024x2048 : Shape := ⟨3, ![8, 1024, 2048]⟩
abbrev S8x2048x1024 : Shape := ⟨3, ![8, 2048, 1024]⟩
abbrev S_ : Shape := ⟨0, ![]⟩
abbrev S1x1024x2048 : Shape := ⟨3, ![1, 1024, 2048]⟩
abbrev S1024x2048 : Shape := ⟨2, ![1024, 2048]⟩
abbrev S4096x2048 : Shape := ⟨2, ![4096, 2048]⟩
abbrev S1x2048x1024 : Shape := ⟨3, ![1, 2048, 1024]⟩
abbrev S2048x1024 : Shape := ⟨2, ![2048, 1024]⟩

abbrev nBuf : Space → Nat
  | .hbm => 118
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1, .i32⟩
  | .hbm, ⟨2, _⟩ => ⟨S8x1024x2048, .f32⟩
  | .hbm, ⟨3, _⟩ => ⟨S8x2048x1024, .f32⟩
  | .hbm, ⟨4, _⟩ => ⟨S_, .f32⟩
  | .hbm, ⟨5, _⟩ => ⟨S4096x1024, .f32⟩
  | .hbm, ⟨6, _⟩ => ⟨S_, .i32⟩
  | .hbm, ⟨7, _⟩ => ⟨S4096x1, .i32⟩
  | .hbm, ⟨8, _⟩ => ⟨S4096x1, .i1⟩
  | .hbm, ⟨9, _⟩ => ⟨S1x1024x2048, .f32⟩
  | .hbm, ⟨10, _⟩ => ⟨S1024x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S1x2048x1024, .f32⟩
  | .hbm, ⟨16, _⟩ => ⟨S2048x1024, .f32⟩
  | .hbm, ⟨17, _⟩ => ⟨S4096x1024, .f32⟩
  | .hbm, ⟨18, _⟩ => ⟨S4096x1024, .i1⟩
  | .hbm, ⟨19, _⟩ => ⟨S4096x1024, .f32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S1x1024x2048, .f32⟩
  | .hbm, ⟨24, _⟩ => ⟨S1024x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S1x2048x1024, .f32⟩
  | .hbm, ⟨30, _⟩ => ⟨S2048x1024, .f32⟩
  | .hbm, ⟨31, _⟩ => ⟨S4096x1024, .f32⟩
  | .hbm, ⟨32, _⟩ => ⟨S4096x1024, .i1⟩
  | .hbm, ⟨33, _⟩ => ⟨S4096x1024, .f32⟩
  | .hbm, ⟨34, _⟩ => ⟨S_, .i32⟩
  | .hbm, ⟨35, _⟩ => ⟨S4096x1, .i32⟩
  | .hbm, ⟨36, _⟩ => ⟨S4096x1, .i1⟩
  | .hbm, ⟨37, _⟩ => ⟨S1x1024x2048, .f32⟩
  | .hbm, ⟨38, _⟩ => ⟨S1024x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S1x2048x1024, .f32⟩
  | .hbm, ⟨44, _⟩ => ⟨S2048x1024, .f32⟩
  | .hbm, ⟨45, _⟩ => ⟨S4096x1024, .f32⟩
  | .hbm, ⟨46, _⟩ => ⟨S4096x1024, .i1⟩
  | .hbm, ⟨47, _⟩ => ⟨S4096x1024, .f32⟩
  | .hbm, ⟨48, _⟩ => ⟨S_, .i32⟩
  | .hbm, ⟨49, _⟩ => ⟨S4096x1, .i32⟩
  | .hbm, ⟨50, _⟩ => ⟨S4096x1, .i1⟩
  | .hbm, ⟨51, _⟩ => ⟨S1x1024x2048, .f32⟩
  | .hbm, ⟨52, _⟩ => ⟨S1024x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S1x2048x1024, .f32⟩
  | .hbm, ⟨58, _⟩ => ⟨S2048x1024, .f32⟩
  | .hbm, ⟨59, _⟩ => ⟨S4096x1024, .f32⟩
  | .hbm, ⟨60, _⟩ => ⟨S4096x1024, .i1⟩
  | .hbm, ⟨61, _⟩ => ⟨S4096x1024, .f32⟩
  | .hbm, ⟨62, _⟩ => ⟨S_, .i32⟩
  | .hbm, ⟨63, _⟩ => ⟨S4096x1, .i32⟩
  | .hbm, ⟨64, _⟩ => ⟨S4096x1, .i1⟩
  | .hbm, ⟨65, _⟩ => ⟨S1x1024x2048, .f32⟩
  | .hbm, ⟨66, _⟩ => ⟨S1024x2048, .f32⟩
  | .hbm, ⟨67, _⟩ => ⟨S4096x2048, .f32⟩
  | .hbm, ⟨68, _⟩ => ⟨S_, .f32⟩
  | .hbm, ⟨69, _⟩ => ⟨S4096x2048, .f32⟩
  | .hbm, ⟨70, _⟩ => ⟨S4096x2048, .f32⟩
  | .hbm, ⟨71, _⟩ => ⟨S1x2048x1024, .f32⟩
  | .hbm, ⟨72, _⟩ => ⟨S2048x1024, .f32⟩
  | .hbm, ⟨73, _⟩ => ⟨S4096x1024, .f32⟩
  | .hbm, ⟨74, _⟩ => ⟨S4096x1024, .i1⟩
  | .hbm, ⟨75, _⟩ => ⟨S4096x1024, .f32⟩
  | .hbm, ⟨76, _⟩ => ⟨S_, .i32⟩
  | .hbm, ⟨77, _⟩ => ⟨S4096x1, .i32⟩
  | .hbm, ⟨78, _⟩ => ⟨S4096x1, .i1⟩
  | .hbm, ⟨79, _⟩ => ⟨S1x1024x2048, .f32⟩
  | .hbm, ⟨80, _⟩ => ⟨S1024x2048, .f32⟩
  | .hbm, ⟨81, _⟩ => ⟨S4096x2048, .f32⟩
  | .hbm, ⟨82, _⟩ => ⟨S_, .f32⟩
  | .hbm, ⟨83, _⟩ => ⟨S4096x2048, .f32⟩
  | .hbm, ⟨84, _⟩ => ⟨S4096x2048, .f32⟩
  | .hbm, ⟨85, _⟩ => ⟨S1x2048x1024, .f32⟩
  | .hbm, ⟨86, _⟩ => ⟨S2048x1024, .f32⟩
  | .hbm, ⟨87, _⟩ => ⟨S4096x1024, .f32⟩
  | .hbm, ⟨88, _⟩ => ⟨S4096x1024, .i1⟩
  | .hbm, ⟨89, _⟩ => ⟨S4096x1024, .f32⟩
  | .hbm, ⟨90, _⟩ => ⟨S_, .i32⟩
  | .hbm, ⟨91, _⟩ => ⟨S4096x1, .i32⟩
  | .hbm, ⟨92, _⟩ => ⟨S4096x1, .i1⟩
  | .hbm, ⟨93, _⟩ => ⟨S1x1024x2048, .f32⟩
  | .hbm, ⟨94, _⟩ => ⟨S1024x2048, .f32⟩
  | .hbm, ⟨95, _⟩ => ⟨S4096x2048, .f32⟩
  | .hbm, ⟨96, _⟩ => ⟨S_, .f32⟩
  | .hbm, ⟨97, _⟩ => ⟨S4096x2048, .f32⟩
  | .hbm, ⟨98, _⟩ => ⟨S4096x2048, .f32⟩
  | .hbm, ⟨99, _⟩ => ⟨S1x2048x1024, .f32⟩
  | .hbm, ⟨100, _⟩ => ⟨S2048x1024, .f32⟩
  | .hbm, ⟨101, _⟩ => ⟨S4096x1024, .f32⟩
  | .hbm, ⟨102, _⟩ => ⟨S4096x1024, .i1⟩
  | .hbm, ⟨103, _⟩ => ⟨S4096x1024, .f32⟩
  | .hbm, ⟨104, _⟩ => ⟨S_, .i32⟩
  | .hbm, ⟨105, _⟩ => ⟨S4096x1, .i32⟩
  | .hbm, ⟨106, _⟩ => ⟨S4096x1, .i1⟩
  | .hbm, ⟨107, _⟩ => ⟨S1x1024x2048, .f32⟩
  | .hbm, ⟨108, _⟩ => ⟨S1024x2048, .f32⟩
  | .hbm, ⟨109, _⟩ => ⟨S4096x2048, .f32⟩
  | .hbm, ⟨110, _⟩ => ⟨S_, .f32⟩
  | .hbm, ⟨111, _⟩ => ⟨S4096x2048, .f32⟩
  | .hbm, ⟨112, _⟩ => ⟨S4096x2048, .f32⟩
  | .hbm, ⟨113, _⟩ => ⟨S1x2048x1024, .f32⟩
  | .hbm, ⟨114, _⟩ => ⟨S2048x1024, .f32⟩
  | .hbm, ⟨115, _⟩ => ⟨S4096x1024, .f32⟩
  | .hbm, ⟨116, _⟩ => ⟨S4096x1024, .i1⟩
  | .hbm, ⟨117, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call1_v0 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call2_v0 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call3_v0 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call4_v0 : Ref sig .tc := ⟨.hbm, 74, rfl⟩
abbrev main_v55 : Ref sig .tc := ⟨.hbm, 75, rfl⟩
abbrev main_c_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_call5_v0 : Ref sig .tc := ⟨.hbm, 88, rfl⟩
abbrev main_v66 : Ref sig .tc := ⟨.hbm, 89, rfl⟩
abbrev main_c_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_call6_v0 : Ref sig .tc := ⟨.hbm, 102, rfl⟩
abbrev main_v77 : Ref sig .tc := ⟨.hbm, 103, rfl⟩
abbrev main_c_13 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_call7_v0 : Ref sig .tc := ⟨.hbm, 116, rfl⟩
abbrev main_v88 : Ref sig .tc := ⟨.hbm, 117, rfl⟩

abbrev nD : Nat := 1
abbrev τ : Topo := Topo.v7x

variable {F : FTy → Type} [FloatOps F]
-- ==== Proof.ProgI.lean ====
/- The kernel function written as a short structured program, and the fact that the printed function is that
   program. The expert pass (`pass`) is eight weight blocks (`blk`) of four row tiles (`tile`). -/
module

public import proofs.«01_k».proof.Proof.Gen.KernelIdeal.Skeleton

@[expose] public section

noncomputable section

namespace Cert.KernelIdeal.Moe

open Idealize.ShloMosaic Idealize.SL.Sem
open Cert.KernelIdeal Cert.KernelIdeal.Gen

variable {F : FTy → Type} [FloatOps F]

/-- The programs of one device's tensor core. -/
abbrev TP (F : FTy → Type) (α : Type) := Prog (TpuEff nD τ sig (Elt F) Λ₀ .tc) α

/-- What one tile writes: the accumulator's rows plus the masked rows' two products with a rectification between. -/
def tileVal (v : BitVec 32) (a : Vec F S256x1 .i32) (x : Vec F S256x1024 .f32) (w1 : Vec F S1024x512 .f32)
    (d : Vec F S256x1024 .f32) (w2 : Vec F S512x1024 .f32) : FVec F S256x1024 .f32 :=
  addf (shapeCast S256x1024 d shapeCasts_S256x1024_S256x1024)
    (matmul dot_S256x512_S512x1024_S256x1024_1_0_0_1_n_n none
      (maximumf
        (matmul dot_S256x1024_S1024x512_S256x512_1_0_0_1_n_n none
          (mulf (shapeCast S256x1024 x shapeCasts_S256x1024_S256x1024)
            (broadcastTo S256x1024
              (sitofp .f32 (extui 32 (cmpi .eq (shapeCast S256x1 a shapeCasts_S256x1_S256x1) (broadcast S256x1 v)) natLt_1_32))
              broadcasts_S256x1_S256x1024))
          w1 (constant S256x512 .f32 0x00000000#32))
        (broadcast S256x512 (Scalar.ofBits .f32 0x00000000#32)))
      w2 (constant S256x1024 .f32 0x00000000#32))

section
variable (x : Memref sig .tc .vmem S1024x1024 .f32) (a : Memref sig .tc .vmem S1024x1 .i32)
  (d : Memref sig .tc .vmem S1024x1024 .f32)
  (W1 : Memref sig .tc .hbm S2x1024x2048 .f32) (W2 : Memref sig .tc .hbm S2x2048x1024 .f32)
  (w1 : Memref sig .tc .vmem S1024x512 .f32) (h1 : w1.IsWhole) (w2 : Memref sig .tc .vmem S512x1024 .f32) (h2 : w2.IsWhole)
  (sm : DmaSems sig S2)

/-- One tile: rows `r … r+255` of the accumulator `d`. -/
def tile (v : BitVec 32) (r : ℕ) (hr : ∀ i, (![r, 0] : Fin 2 → Nat) i + S256x1024.size i ≤ S1024x1024.size i)
    (ha : ∀ i, (![r, 0] : Fin 2 → Nat) i + S256x1.size i ≤ S1024x1.size i) : TP F PUnit := do
  let va : Vec F S256x1 .i32 ← Prog.lift (.load a (Rect.unit (s := S1024x1) ![r, 0] S256x1.size ha).toLoadRect (View.loadsAt_vmem h_S256x1))
  let vx : Vec F S256x1024 .f32 ← Prog.lift (.load x (Rect.unit (s := S1024x1024) ![r, 0] S256x1024.size hr).toLoadRect (View.loadsAt_vmem h_S256x1024))
  let vw1 : Vec F S1024x512 .f32 ← Prog.lift (.load w1 (Rect.unit (s := S1024x512) ![0, 0] S1024x512.size inb_S1024x512_S1024x512_0_0).toLoadRect (View.loadsAt_vmem h_S1024x512))
  let vd : Vec F S256x1024 .f32 ← Prog.lift (.load d (Rect.unit (s := S1024x1024) ![r, 0] S256x1024.size hr).toLoadRect (View.loadsAt_vmem h_S256x1024))
  let vw2 : Vec F S512x1024 .f32 ← Prog.lift (.load w2 (Rect.unit (s := S512x1024) ![0, 0] S512x1024.size inb_S512x1024_S512x1024_0_0).toLoadRect (View.loadsAt_vmem h_S512x1024))
  let _ : Vec F S256x1024 .f32 ← Prog.lift (.load d (Rect.unit (s := S1024x1024) ![r, 0] S256x1024.size hr).toLoadRect (View.loadsAt_vmem h_S256x1024))
  Prog.lift (.store d (Rect.unit (s := S1024x1024) ![r, 0] S256x1024.size hr) (tileVal v va vx vw1 vd vw2) Finset.univ (View.stores_vmem_bits_univ h_S256x1024 rfl) (.inl rfl))

/-- Start the fetch of 512 columns of expert `e`'s first weight. -/
def fetch1 (e o : ℕ) (ho1 : ∀ i, (![e, 0, o] : Fin 3 → Nat) i + S1x1024x512.size i ≤ S2x1024x2048.size i) : TP F PUnit :=
  Prog.lift (.enqueueDma ((W1.slice (Rect.unit (s := S2x1024x2048) ![e, 0, o] S1x1024x512.size ho1) (fun _ => rfl)).squeeze S1024x512 squeezes_S1x1024x512_S1024x512)
    (.here w1) (.dma ((sm.slice (Rect.unit (s := S2) ![0] S1.size inb_S2_S1_0)).squeeze S_ squeezes_S1_S_).sem)
    ((View.wordExact_bits rfl).reshape _ _) h1.wordExact ⟨Or.inl rfl, trivial⟩)

/-- Start the fetch of 512 rows of expert `e`'s second weight. -/
def fetch2 (e o : ℕ) (ho2 : ∀ i, (![e, o, 0] : Fin 3 → Nat) i + S1x512x1024.size i ≤ S2x2048x1024.size i) : TP F PUnit :=
  Prog.lift (.enqueueDma ((W2.slice (Rect.unit (s := S2x2048x1024) ![e, o, 0] S1x512x1024.size ho2) (fun _ => rfl)).squeeze S512x1024 squeezes_S1x512x1024_S512x1024)
    (.here w2) (.dma ((sm.slice (Rect.unit (s := S2) ![1] S1.size inb_S2_S1_1)).squeeze S_ squeezes_S1_S_).sem)
    ((View.wordExact_bits rfl).reshape _ _) h2.wordExact ⟨Or.inl rfl, trivial⟩)

/-- Wait for the first weight's fetch. -/
def fetched1 (e o : ℕ) (ho1 : ∀ i, (![e, 0, o] : Fin 3 → Nat) i + S1x1024x512.size i ≤ S2x1024x2048.size i) : TP F PUnit :=
  Prog.lift (.waitDma2 ((sm.slice (Rect.unit (s := S2) ![0] S1.size inb_S2_S1_0)).squeeze S_ squeezes_S1_S_).sem
    ((W1.slice (Rect.unit (s := S2x1024x2048) ![e, 0, o] S1x1024x512.size ho1) (fun _ => rfl)).squeeze S1024x512 squeezes_S1x1024x512_S1024x512)
    w1 ((View.wordExact_bits rfl).reshape _ _) h1.wordExact)

/-- Wait for the second weight's fetch. -/
def fetched2 (e o : ℕ) (ho2 : ∀ i, (![e, o, 0] : Fin 3 → Nat) i + S1x512x1024.size i ≤ S2x2048x1024.size i) : TP F PUnit :=
  Prog.lift (.waitDma2 ((sm.slice (Rect.unit (s := S2) ![1] S1.size inb_S2_S1_1)).squeeze S_ squeezes_S1_S_).sem
    ((W2.slice (Rect.unit (s := S2x2048x1024) ![e, o, 0] S1x512x1024.size ho2) (fun _ => rfl)).squeeze S512x1024 squeezes_S1x512x1024_S512x1024)
    w2 ((View.wordExact_bits rfl).reshape _ _) h2.wordExact)

/-- One weight block: fetch 512 columns of the first weight and 512 rows of the second, then the four tiles. -/
def blk (v : BitVec 32) (e o : ℕ)
    (ho1 : ∀ i, (![e, 0, o] : Fin 3 → Nat) i + S1x1024x512.size i ≤ S2x1024x2048.size i)
    (ho2 : ∀ i, (![e, o, 0] : Fin 3 → Nat) i + S1x512x1024.size i ≤ S2x2048x1024.size i) : TP F PUnit := do
  fetch1 W1 w1 h1 sm e o ho1
  fetch2 W2 w2 h2 sm e o ho2
  fetched1 W1 w1 h1 sm e o ho1
  fetched2 W2 w2 h2 sm e o ho2
  tile x a d w1 w2 v 0 inb_S1024x1024_S256x1024_0_0 inb_S1024x1_S256x1_0_0
  tile x a d w1 w2 v 256 inb_S1024x1024_S256x1024_256_0 inb_S1024x1_S256x1_256_0
  tile x a d w1 w2 v 512 inb_S1024x1024_S256x1024_512_0 inb_S1024x1_S256x1_512_0
  tile x a d w1 w2 v 768 inb_S1024x1024_S256x1024_768_0 inb_S1024x1_S256x1_768_0

/-- The four blocks of one expert of the device. -/
def expert (v : BitVec 32) (e : ℕ)
    (g1 : ∀ o, o = 0 ∨ o = 512 ∨ o = 1024 ∨ o = 1536 → ∀ i, (![e, 0, o] : Fin 3 → Nat) i + S1x1024x512.size i ≤ S2x1024x2048.size i)
    (g2 : ∀ o, o = 0 ∨ o = 512 ∨ o = 1024 ∨ o = 1536 → ∀ i, (![e, o, 0] : Fin 3 → Nat) i + S1x512x1024.size i ≤ S2x2048x1024.size i) : TP F PUnit := do
  blk x a d W1 W2 w1 h1 w2 h2 sm v e 0 (g1 0 (by simp)) (g2 0 (by simp))
  blk x a d W1 W2 w1 h1 w2 h2 sm v e 512 (g1 512 (by simp)) (g2 512 (by simp))
  blk x a d W1 W2 w1 h1 w2 h2 sm v e 1024 (g1 1024 (by simp)) (g2 1024 (by simp))
  blk x a d W1 W2 w1 h1 w2 h2 sm v e 1536 (g1 1536 (by simp)) (g2 1536 (by simp))

theorem inbW1 (e : ℕ) (he : e < 2) (o : ℕ) (ho : o = 0 ∨ o = 512 ∨ o = 1024 ∨ o = 1536) :
    ∀ i, (![e, 0, o] : Fin 3 → Nat) i + S1x1024x512.size i ≤ S2x1024x2048.size i := by
  intro i
  fin_cases i
  · show e + 1 ≤ 2; omega
  · show 0 + 1024 ≤ 1024; omega
  · show o + 512 ≤ 2048; omega

theorem inbW2 (e : ℕ) (he : e < 2) (o : ℕ) (ho : o = 0 ∨ o = 512 ∨ o = 1024 ∨ o = 1536) :
    ∀ i, (![e, o, 0] : Fin 3 → Nat) i + S1x512x1024.size i ≤ S2x2048x1024.size i := by
  intro i
  fin_cases i
  · show e + 1 ≤ 2; omega
  · show o + 512 ≤ 2048; omega
  · show 0 + 1024 ≤ 1024; omega

/-- Clear the accumulator. -/
def clear : TP F PUnit := do
  let _ : Vec F S1024x1024 .f32 ← Prog.lift (.load d (Rect.unit (s := S1024x1024) ![0, 0] S1024x1024.size inb_S1024x1024_S1024x1024_0_0).toLoadRect (View.loadsAt_vmem h_S1024x1024))
  Prog.lift (.store d (Rect.unit (s := S1024x1024) ![0, 0] S1024x1024.size inb_S1024x1024_S1024x1024_0_0) (broadcast S1024x1024 (Scalar.ofBits (F := F) .f32 0x00000000#32)) Finset.univ (View.stores_vmem_bits_univ h_S1024x1024 rfl) (.inl rfl))

/-- The whole expert pass over a token block: clear the accumulator, then the device's two experts. -/
def pass (v2 : BitVec 32) : TP F PUnit := do
  clear d
  expert x a d W1 W2 w1 h1 w2 h2 sm (Scalar.addi (Scalar.muli v2 2#32) 0#32) 0 (inbW1 0 (by omega)) (inbW2 0 (by omega))
  expert x a d W1 W2 w1 h1 w2 h2 sm (Scalar.addi (Scalar.muli v2 2#32) 1#32) 1 (inbW1 1 (by omega)) (inbW2 1 (by omega))

end

/-- Slot `i` of a three-slot buffer of token blocks. -/
abbrev slot3 (m : Memref sig .tc .vmem S3x1024x1024 .f32) (i : ℕ) (h : ∀ a, (![i, 0, 0] : Fin 3 → Nat) a + S1x1024x1024.size a ≤ S3x1024x1024.size a) :
    Memref sig .tc .vmem S1024x1024 .f32 :=
  (m.slice (Rect.unit (s := S3x1024x1024) ![i, 0, 0] S1x1024x1024.size h) (fun _ => rfl)).squeeze S1024x1024 squeezes_S1x1024x1024_S1024x1024

/-- Slot `i` of the three-slot buffer of assignment columns. -/
abbrev slotA (m : Memref sig .tc .vmem S3x1024x1 .i32) (i : ℕ) (h : ∀ a, (![i, 0, 0] : Fin 3 → Nat) a + S1x1024x1.size a ≤ S3x1024x1.size a) :
    Memref sig .tc .vmem S1024x1 .i32 :=
  (m.slice (Rect.unit (s := S3x1024x1) ![i, 0, 0] S1x1024x1.size h) (fun _ => rfl)).squeeze S1024x1 squeezes_S1x1024x1_S1024x1

/-- Slot `i` of the two-slot buffer of outgoing partial results. -/
abbrev slot2 (m : Memref sig .tc .vmem S2x1024x1024 .f32) (i : ℕ) (h : ∀ a, (![i, 0, 0] : Fin 3 → Nat) a + S1x1024x1024.size a ≤ S2x1024x1024.size a) :
    Memref sig .tc .vmem S1024x1024 .f32 :=
  (m.slice (Rect.unit (s := S2x1024x1024) ![i, 0, 0] S1x1024x1024.size h) (fun _ => rfl)).squeeze S1024x1024 squeezes_S1x1024x1024_S1024x1024

/-- Semaphore `i` of an array of three. -/
abbrev sem3 (m : DmaSems sig S3) (i : ℕ) (h : ∀ a, (![i] : Fin 1 → Nat) a + S1.size a ≤ S3.size a) : DmaSem sig :=
  ((m.slice (Rect.unit (s := S3) ![i] S1.size h)).squeeze S_ squeezes_S1_S_).sem

/-- Semaphore `i` of an array of two. -/
abbrev sem2 (m : DmaSems sig S2) (i : ℕ) (h : ∀ a, (![i] : Fin 1 → Nat) a + S1.size a ≤ S2.size a) : DmaSem sig :=
  ((m.slice (Rect.unit (s := S2) ![i] S1.size h)).squeeze S_ squeezes_S1_S_).sem

/-- The device's place on the ring, as the kernel computes it. -/
def posW (d0 : Dev nD) : BitVec 32 := Scalar.remsi (Scalar.divsi (Dev.word d0) 1#32) 4#32

/-- Add slot `i` of `m` into the whole of `d`. -/
def addSlot (d : Memref sig .tc .vmem S1024x1024 .f32) (m : Memref sig .tc .vmem S3x1024x1024 .f32) (i : ℕ)
    (h : ∀ a, (![i, 0, 0] : Fin 3 → Nat) a + S1x1024x1024.size a ≤ S3x1024x1024.size a) : TP F PUnit := do
  let u : Vec F S1024x1024 .f32 ← Prog.lift (.load d (Rect.unit (s := S1024x1024) ![0, 0] S1024x1024.size inb_S1024x1024_S1024x1024_0_0).toLoadRect (View.loadsAt_vmem h_S1024x1024))
  let w : Vec F S1x1024x1024 .f32 ← Prog.lift (.load m (Rect.unit (s := S3x1024x1024) ![i, 0, 0] S1x1024x1024.size h).toLoadRect (View.loadsAt_vmem h_S1x1024x1024))
  let _ : Vec F S1024x1024 .f32 ← Prog.lift (.load d (Rect.unit (s := S1024x1024) ![0, 0] S1024x1024.size inb_S1024x1024_S1024x1024_0_0).toLoadRect (View.loadsAt_vmem h_S1024x1024))
  Prog.lift (.store d (Rect.unit (s := S1024x1024) ![0, 0] S1024x1024.size inb_S1024x1024_S1024x1024_0_0) (addf (shapeCast S1024x1024 u shapeCasts_S1024x1024_S1024x1024) (shapeCast S1024x1024 w shapeCasts_S1x1024x1024_S1024x1024)) Finset.univ (View.stores_vmem_bits_univ h_S1024x1024 rfl) (.inl rfl))

/-- The kernel function. -/
def kern (arg0 : Memref sig .tc .vmem S1024x1024 .f32) (harg0 : arg0.IsWhole)
    (arg1 : Memref sig .tc .vmem S1024x1 .i32) (harg1 : arg1.IsWhole)
    (arg2 : Memref sig .tc .hbm S2x1024x2048 .f32) (harg2 : arg2.IsWhole)
    (arg3 : Memref sig .tc .hbm S2x2048x1024 .f32) (harg3 : arg3.IsWhole)
    (arg4 : Memref sig .tc .vmem S1024x1024 .f32) (harg4 : arg4.IsWhole)
    (arg5 : Memref sig .tc .vmem S3x1024x1024 .f32) (harg5 : arg5.IsWhole)
    (arg6 : Memref sig .tc .vmem S3x1024x1 .i32) (harg6 : arg6.IsWhole)
    (arg7 : Memref sig .tc .vmem S3x1024x1024 .f32) (harg7 : arg7.IsWhole)
    (arg8 : Memref sig .tc .vmem S2x1024x1024 .f32) (harg8 : arg8.IsWhole)
    (arg9 : Memref sig .tc .vmem S1024x512 .f32) (harg9 : arg9.IsWhole)
    (arg10 : Memref sig .tc .vmem S512x1024 .f32) (harg10 : arg10.IsWhole)
    (arg11 : DmaSems sig S3)
    (arg12 : DmaSems sig S3)
    (arg13 : DmaSems sig S3)
    (arg14 : DmaSems sig S3)
    (arg15 : DmaSems sig S2)
    (arg16 : DmaSems sig S3)
    (arg17 : DmaSems sig S2) : TP F PUnit := do
  let d0 : Dev nD ← Prog.lift .deviceId
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  semSignalWord (⟨k0_dev3 d0, k0_dev3_lt d0⟩ : Dev nD) (SemArray.scalar (sig.barrier 0 rfl) : Sems sig S_).sem 1#32
  semWaitWord (SemArray.scalar (sig.barrier 0 rfl) : Sems sig S_).sem 3#32
  Prog.lift (.enqueueDma arg0 (.remote (Dev.tc (⟨k0_dev4 d0, k0_dev4_lt d0⟩ : Dev nD)) (slot3 arg5 0 inb_S3x1024x1024_S1x1024x1024_0_0_0) (.dma (sem3 arg11 0 inb_S3_S1_0))) (.dma (sem3 arg12 0 inb_S3_S1_0)) harg0.wordExact ((View.wordExact_bits rfl).reshape _ _) ⟨⟨rfl, Or.inl rfl⟩, trivial⟩)
  Prog.lift (.enqueueDma arg1 (.remote (Dev.tc (⟨k0_dev5 d0, k0_dev5_lt d0⟩ : Dev nD)) (slotA arg6 0 inb_S3x1024x1_S1x1024x1_0_0_0) (.dma (sem3 arg13 0 inb_S3_S1_0))) (.dma (sem3 arg14 0 inb_S3_S1_0)) harg1.wordExact ((View.wordExact_bits rfl).reshape _ _) ⟨⟨rfl, Or.inl rfl⟩, trivial⟩)
  pass arg0 arg1 arg4 arg2 arg3 arg9 harg9 arg10 harg10 arg17 (posW d0)
  Prog.lift (.waitDma2 (sem3 arg12 0 inb_S3_S1_0) arg0 (slot3 arg5 0 inb_S3x1024x1024_S1x1024x1024_0_0_0) harg0.wordExact ((View.wordExact_bits rfl).reshape _ _))
  Prog.lift (.waitDma2 (sem3 arg14 0 inb_S3_S1_0) arg1 (slotA arg6 0 inb_S3x1024x1_S1x1024x1_0_0_0) harg1.wordExact ((View.wordExact_bits rfl).reshape _ _))
  Prog.lift (.enqueueDma (slot3 arg5 0 inb_S3x1024x1024_S1x1024x1024_0_0_0) (.remote (Dev.tc (⟨k0_dev6 d0, k0_dev6_lt d0⟩ : Dev nD)) (slot3 arg5 1 inb_S3x1024x1024_S1x1024x1024_1_0_0) (.dma (sem3 arg11 1 inb_S3_S1_1))) (.dma (sem3 arg12 1 inb_S3_S1_1)) ((View.wordExact_bits rfl).reshape _ _) ((View.wordExact_bits rfl).reshape _ _) ⟨⟨rfl, Or.inl rfl⟩, trivial⟩)
  Prog.lift (.enqueueDma (slotA arg6 0 inb_S3x1024x1_S1x1024x1_0_0_0) (.remote (Dev.tc (⟨k0_dev7 d0, k0_dev7_lt d0⟩ : Dev nD)) (slotA arg6 1 inb_S3x1024x1_S1x1024x1_1_0_0) (.dma (sem3 arg13 1 inb_S3_S1_1))) (.dma (sem3 arg14 1 inb_S3_S1_1)) ((View.wordExact_bits rfl).reshape _ _) ((View.wordExact_bits rfl).reshape _ _) ⟨⟨rfl, Or.inl rfl⟩, trivial⟩)
  pass (slot3 arg5 0 inb_S3x1024x1024_S1x1024x1024_0_0_0) (slotA arg6 0 inb_S3x1024x1_S1x1024x1_0_0_0) (slot2 arg8 0 inb_S2x1024x1024_S1x1024x1024_0_0_0) arg2 arg3 arg9 harg9 arg10 harg10 arg17 (posW d0)
  Prog.lift (.enqueueDma (slot2 arg8 0 inb_S2x1024x1024_S1x1024x1024_0_0_0) (.remote (Dev.tc (⟨k0_dev8 d0, k0_dev8_lt d0⟩ : Dev nD)) (slot3 arg7 0 inb_S3x1024x1024_S1x1024x1024_0_0_0) (.dma (sem2 arg15 0 inb_S2_S1_0))) (.dma (sem3 arg16 0 inb_S3_S1_0)) ((View.wordExact_bits rfl).reshape _ _) ((View.wordExact_bits rfl).reshape _ _) ⟨⟨rfl, Or.inl rfl⟩, trivial⟩)
  Prog.lift (.waitDma2 (sem3 arg12 1 inb_S3_S1_1) (slot3 arg5 0 inb_S3x1024x1024_S1x1024x1024_0_0_0) (slot3 arg5 1 inb_S3x1024x1024_S1x1024x1024_1_0_0) ((View.wordExact_bits rfl).reshape _ _) ((View.wordExact_bits rfl).reshape _ _))
  Prog.lift (.waitDma2 (sem3 arg14 1 inb_S3_S1_1) (slotA arg6 0 inb_S3x1024x1_S1x1024x1_0_0_0) (slotA arg6 1 inb_S3x1024x1_S1x1024x1_1_0_0) ((View.wordExact_bits rfl).reshape _ _) ((View.wordExact_bits rfl).reshape _ _))
  Prog.lift (.enqueueDma (slot3 arg5 1 inb_S3x1024x1024_S1x1024x1024_1_0_0) (.remote (Dev.tc (⟨k0_dev9 d0, k0_dev9_lt d0⟩ : Dev nD)) (slot3 arg5 2 inb_S3x1024x1024_S1x1024x1024_2_0_0) (.dma (sem3 arg11 2 inb_S3_S1_2))) (.dma (sem3 arg12 2 inb_S3_S1_2)) ((View.wordExact_bits rfl).reshape _ _) ((View.wordExact_bits rfl).reshape _ _) ⟨⟨rfl, Or.inl rfl⟩, trivial⟩)
  Prog.lift (.enqueueDma (slotA arg6 1 inb_S3x1024x1_S1x1024x1_1_0_0) (.remote (Dev.tc (⟨k0_dev10 d0, k0_dev10_lt d0⟩ : Dev nD)) (slotA arg6 2 inb_S3x1024x1_S1x1024x1_2_0_0) (.dma (sem3 arg13 2 inb_S3_S1_2))) (.dma (sem3 arg14 2 inb_S3_S1_2)) ((View.wordExact_bits rfl).reshape _ _) ((View.wordExact_bits rfl).reshape _ _) ⟨⟨rfl, Or.inl rfl⟩, trivial⟩)
  pass (slot3 arg5 1 inb_S3x1024x1024_S1x1024x1024_1_0_0) (slotA arg6 1 inb_S3x1024x1_S1x1024x1_1_0_0) (slot2 arg8 1 inb_S2x1024x1024_S1x1024x1024_1_0_0) arg2 arg3 arg9 harg9 arg10 harg10 arg17 (posW d0)
  Prog.lift (.enqueueDma (slot2 arg8 1 inb_S2x1024x1024_S1x1024x1024_1_0_0) (.remote (Dev.tc (⟨k0_dev11 d0, k0_dev11_lt d0⟩ : Dev nD)) (slot3 arg7 1 inb_S3x1024x1024_S1x1024x1024_1_0_0) (.dma (sem2 arg15 1 inb_S2_S1_1))) (.dma (sem3 arg16 1 inb_S3_S1_1)) ((View.wordExact_bits rfl).reshape _ _) ((View.wordExact_bits rfl).reshape _ _) ⟨⟨rfl, Or.inl rfl⟩, trivial⟩)
  Prog.lift (.waitDma2 (sem3 arg12 2 inb_S3_S1_2) (slot3 arg5 1 inb_S3x1024x1024_S1x1024x1024_1_0_0) (slot3 arg5 2 inb_S3x1024x1024_S1x1024x1024_2_0_0) ((View.wordExact_bits rfl).reshape _ _) ((View.wordExact_bits rfl).reshape _ _))
  Prog.lift (.waitDma2 (sem3 arg14 2 inb_S3_S1_2) (slotA arg6 1 inb_S3x1024x1_S1x1024x1_1_0_0) (slotA arg6 2 inb_S3x1024x1_S1x1024x1_2_0_0) ((View.wordExact_bits rfl).reshape _ _) ((View.wordExact_bits rfl).reshape _ _))
  Prog.lift (.waitDma2 (sem2 arg15 0 inb_S2_S1_0) (slot3 arg7 0 inb_S3x1024x1024_S1x1024x1024_0_0_0) (slot2 arg8 0 inb_S2x1024x1024_S1x1024x1024_0_0_0) ((View.wordExact_bits rfl).reshape _ _) ((View.wordExact_bits rfl).reshape _ _))
  pass (slot3 arg5 2 inb_S3x1024x1024_S1x1024x1024_2_0_0) (slotA arg6 2 inb_S3x1024x1_S1x1024x1_2_0_0) (slot2 arg8 0 inb_S2x1024x1024_S1x1024x1024_0_0_0) arg2 arg3 arg9 harg9 arg10 harg10 arg17 (posW d0)
  Prog.lift (.enqueueDma (slot2 arg8 0 inb_S2x1024x1024_S1x1024x1024_0_0_0) (.remote (Dev.tc (⟨k0_dev12 d0, k0_dev12_lt d0⟩ : Dev nD)) (slot3 arg7 2 inb_S3x1024x1024_S1x1024x1024_2_0_0) (.dma (sem2 arg15 0 inb_S2_S1_0))) (.dma (sem3 arg16 2 inb_S3_S1_2)) ((View.wordExact_bits rfl).reshape _ _) ((View.wordExact_bits rfl).reshape _ _) ⟨⟨rfl, Or.inl rfl⟩, trivial⟩)
  Prog.lift (.waitDma2 (sem3 arg16 0 inb_S3_S1_0) (slot2 arg8 0 inb_S2x1024x1024_S1x1024x1024_0_0_0) (slot3 arg7 0 inb_S3x1024x1024_S1x1024x1024_0_0_0) ((View.wordExact_bits rfl).reshape _ _) ((View.wordExact_bits rfl).reshape _ _))
  Prog.lift (.waitDma2 (sem3 arg16 1 inb_S3_S1_1) (slot2 arg8 1 inb_S2x1024x1024_S1x1024x1024_1_0_0) (slot3 arg7 1 inb_S3x1024x1024_S1x1024x1024_1_0_0) ((View.wordExact_bits rfl).reshape _ _) ((View.wordExact_bits rfl).reshape _ _))
  Prog.lift (.waitDma2 (sem3 arg16 2 inb_S3_S1_2) (slot2 arg8 0 inb_S2x1024x1024_S1x1024x1024_0_0_0) (slot3 arg7 2 inb_S3x1024x1024_S1x1024x1024_2_0_0) ((View.wordExact_bits rfl).reshape _ _) ((View.wordExact_bits rfl).reshape _ _))
  addSlot arg4 arg7 0 inb_S3x1024x1024_S1x1024x1024_0_0_0
  addSlot arg4 arg7 1 inb_S3x1024x1024_S1x1024x1024_1_0_0
  addSlot arg4 arg7 2 inb_S3x1024x1024_S1x1024x1024_2_0_0
  Prog.lift (.waitDma2 (sem3 arg11 0 inb_S3_S1_0) (slot3 arg5 0 inb_S3x1024x1024_S1x1024x1024_0_0_0) arg0 ((View.wordExact_bits rfl).reshape _ _) harg0.wordExact)
  Prog.lift (.waitDma2 (sem3 arg13 0 inb_S3_S1_0) (slotA arg6 0 inb_S3x1024x1_S1x1024x1_0_0_0) arg1 ((View.wordExact_bits rfl).reshape _ _) harg1.wordExact)
  Prog.lift (.waitDma2 (sem3 arg11 1 inb_S3_S1_1) (slot3 arg5 1 inb_S3x1024x1024_S1x1024x1024_1_0_0) (slot3 arg5 0 inb_S3x1024x1024_S1x1024x1024_0_0_0) ((View.wordExact_bits rfl).reshape _ _) ((View.wordExact_bits rfl).reshape _ _))
  Prog.lift (.waitDma2 (sem3 arg13 1 inb_S3_S1_1) (slotA arg6 1 inb_S3x1024x1_S1x1024x1_1_0_0) (slotA arg6 0 inb_S3x1024x1_S1x1024x1_0_0_0) ((View.wordExact_bits rfl).reshape _ _) ((View.wordExact_bits rfl).reshape _ _))
  Prog.lift (.waitDma2 (sem3 arg11 2 inb_S3_S1_2) (slot3 arg5 2 inb_S3x1024x1024_S1x1024x1024_2_0_0) (slot3 arg5 1 inb_S3x1024x1024_S1x1024x1024_1_0_0) ((View.wordExact_bits rfl).reshape _ _) ((View.wordExact_bits rfl).reshape _ _))
  Prog.lift (.waitDma2 (sem3 arg13 2 inb_S3_S1_2) (slotA arg6 2 inb_S3x1024x1_S1x1024x1_2_0_0) (slotA arg6 1 inb_S3x1024x1_S1x1024x1_1_0_0) ((View.wordExact_bits rfl).reshape _ _) ((View.wordExact_bits rfl).reshape _ _))
  Prog.lift (.waitDma2 (sem2 arg15 1 inb_S2_S1_1) (slot3 arg7 1 inb_S3x1024x1024_S1x1024x1024_1_0_0) (slot2 arg8 1 inb_S2x1024x1024_S1x1024x1024_1_0_0) ((View.wordExact_bits rfl).reshape _ _) ((View.wordExact_bits rfl).reshape _ _))
  Prog.lift (.waitDma2 (sem2 arg15 0 inb_S2_S1_0) (slot3 arg7 2 inb_S3x1024x1024_S1x1024x1024_2_0_0) (slot2 arg8 0 inb_S2x1024x1024_S1x1024x1024_0_0_0) ((View.wordExact_bits rfl).reshape _ _) ((View.wordExact_bits rfl).reshape _ _))

end Cert.KernelIdeal.Moe
-- ==== Proof.OwnI.lean ====
/- Rules over `owns`: a load and a store through a memref held at known contents, and a local transfer of a slice
   into a whole buffer with its wait while the device still owes. -/
module

public import proofs.«01_k».proof.Proof.ProgI
public import Idealize.ShloMosaic.Lib.Pipeline.Launch
public import Idealize.ShloMosaic.Lib.Pipeline.Kit
public import Idealize.ShloMosaic.Lib.Pipeline.FrameBody
public import Idealize.ShloMosaic.Lib.Transfers
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the ring's rounds, whose duties are numbered by `Fin 3`; and the whole user algebra: the
    pipeline's rounds, the ring's, the local transfers' counters. -/
abbrev UB : Type := URounds (GSem nD τ sig) (Fin 3)
abbrev UU : Type := UR sig nD τ × (UB × Counters)

local notation "𝕄" => MT nD τ sig Unit (Elt F) ℕ UU ℕ

abbrev EC : UEmb Counters (MT nD τ sig Unit (Elt F) ℕ UU ℕ) := countersEmb
abbrev 𝒱₀ : Variants := Variants.none

/-- A program of device `c` runs to `Q`. -/
abbrev runs {α : Type} (c : Dev nD) (p : TP F α) (Q : α → sProp 𝕄) : sProp 𝕄 :=
  wp frame (wpE (defs₀ (F := F)) 𝒱₀ (c : Thread nD τ) none) Set.univ p Q

/-- What device `c` still owes, whatever waits it has recorded. -/
def ow (c : Dev nD) (O : CellTallies nD τ sig Unit) : sProp 𝕄 := iprop(∃ W, owes (c : Thread nD τ) O W)

section
variable {α : Type} {sp : CoreSpace} {s : Shape} {e : EltTy}

theorem run_load (c : Dev nD) {Q : α → sProp 𝕄} {m : Memref sig .tc sp s e} {r : Rect s} {hl : m.view.LoadsAt r.toLoadRect}
    {k : (r.shape.Idx → Elt F e) → TP F α} {q : PosShare TreeShare} {X : s.Idx → Elt F e} :
    (owns (c : Thread nD τ) m q X : sProp 𝕄)
      ⊢ iprop((owns (c : Thread nD τ) m q X -∗ runs c (k (View.ld X r)) Q) -∗ runs c (.op (.load m r.toLoadRect hl) k) Q) := by
  unfold owns
  iintro ⟨%f, %hf, H⟩ Hk
  iapply (wp_load 𝒱₀ (c : Thread nD τ) none Set.univ (m := m) (View.setOn_subset_set _ _)) $$ H
  iintro H
  rw [View.readAt_eq_ld, hf]
  iapply Hk
  iexists f
  isplitr
  · ipureintro; exact hf
  · iexact H

theorem run_store (c : Dev nD) {Q : α → sProp 𝕄} {m : Memref sig .tc sp s e} {r : Rect s} {w : r.shape.Idx → Elt F e}
    {hx : (m.access r).Stores Finset.univ} {hm : (Finset.univ : Finset r.shape.Idx) = Finset.univ ∨ ∀ a, r.stride a = 1}
    {k : PUnit → TP F α} {X : s.Idx → Elt F e} :
    (owns (c : Thread nD τ) m fullShare X : sProp 𝕄)
      ⊢ iprop((owns (c : Thread nD τ) m fullShare (r.overlay X w) -∗ runs c (k ⟨⟩) Q)
          -∗ runs c (.op (.store m r w Finset.univ hx hm) k) Q) := by
  unfold owns
  iintro ⟨%f, %hf, H⟩ Hk
  iapply (wp_store 𝒱₀ (c : Thread nD τ) none Set.univ (m := m) (r := r) (Mk := Finset.univ) (Memref.setOn_access_subset m r _)) $$ H
  iintro H
  iapply Hk
  iexists (m.access r).write (Elt F) f w Finset.univ
  isplitr
  · ipureintro
    funext y
    by_cases hy : y ∈ r.set
    · obtain ⟨x, rfl⟩ := r.exists_idx_of_mem hy
      rw [show r.idx x = r.emb x from rfl, r.overlay_emb]
      exact View.read_slice_write_emb r f w (Finset.mem_univ x)
    · rw [r.overlay_of_not_mem _ _ hy, ← hf]
      exact View.read_slice_write_of_not_mem r f w _ (by rw [Rect.map_emb_univ]; exact hy)
  · iexact H

end

/-- Issue a local transfer of all of `src` into all of `dst`; until the wait the device holds the transfer in flight. -/
theorem run_fetch (c : Dev nD) {α : Type} {Q : α → sProp 𝕄} {sp sp' : Space} {s : Shape} {e : EltTy}
    {src : Memref sig (c : Thread nD τ).2.kind sp s e} {dst : Memref sig (c : Thread nD τ).2.kind sp' s e} {sm : DmaSem sig}
    {hsrc : src.view.WordExact} {hdst : dst.view.WordExact} {hsem : DmaTarget.Typed (nD := nD) sp (.dma sm) (.here dst)}
    {k : PUnit → TP F α} {q : PosShare TreeShare} {f : Buf (Elt F) (src.view.loc (c : Thread nD τ))} {Y : s.Idx → Elt F e}
    (hN : 0 < dst.view.dmaCredit) :
    iprop((src.view.loc (c : Thread nD τ) ↦[src.view.set]{q} f) ∗ owns (c : Thread nD τ) dst fullShare Y
        ∗ semVal ((c : Thread nD τ), SemLoc.dma sm) 0)
      ⊢ iprop((Transfers.Flight (EC (F := F)) (c : Thread nD τ) (.dma sm) () dst.view.dmaCredit
              iprop(owns (c : Thread nD τ) dst fullShare (src.view.read (Elt F) f) ∗ (src.view.loc (c : Thread nD τ) ↦[src.view.set]{q} f))
            -∗ runs c (k ⟨⟩) Q)
          -∗ runs c (.op (.enqueueDma src (.here dst) (.dma sm) hsrc hdst hsem) k) Q) := by
  iintro ⟨Hs, Hd, Hv⟩ Hk
  unfold owns
  icases Hd with ⟨%g, %hg, Hd⟩
  iapply (Transfers.wp_dmaLocal (EC (F := F)) 𝒱₀ (c : Thread nD τ) none (src := src) (dst := dst) () dst.view.dmaCredit rfl hN (Finset.Subset.refl _)) $$ [Hs Hd Hv]
  · isplitl [Hs]; · iexact Hs
    isplitl [Hd] <;> iassumption
  iintro HF
  iapply Hk
  have h : iprop((dst.view.loc (c : Thread nD τ) ↦[dst.view.set]{fullShare} (dst.view.write (Elt F) g (ReadAs.same.apply (src.view.read (Elt F) f)) Finset.univ))
        ∗ (src.view.loc (c : Thread nD τ) ↦[src.view.set]{q} f))
      ⊢ (iprop((∃ f', ⌜dst.view.read (Elt F) f' = src.view.read (Elt F) f⌝ ∗ (dst.view.loc (c : Thread nD τ) ↦[dst.view.set]{fullShare} f'))
        ∗ (src.view.loc (c : Thread nD τ) ↦[src.view.set]{q} f)) : sProp 𝕄) := by
    iintro ⟨H1, H2⟩
    isplitl [H1]
    · iexists (dst.view.write (Elt F) g (ReadAs.same.apply (src.view.read (Elt F) f)) Finset.univ)
      isplitr
      · ipureintro; exact View.read_write_univ _ _
      · iexact H1
    · iexact H2
  iapply (Transfers.Flight_mono (EC (F := F)) (c : Thread nD τ) h) $$ HF

/-- Wait for a transfer in flight, still owing `O`. -/
theorem run_fetched (c : Dev nD) {α : Type} {Q : α → sProp 𝕄} {sp sp' : Space} {s s' : Shape} {e e' : EltTy}
    {srcw : Memref sig .tc sp' s' e'} {dstw : Memref sig .tc sp s e} {sm : DmaSem sig}
    {hsrc : srcw.view.WordExact} {hdst : dstw.view.WordExact}
    {k : PUnit → TP F α} {D : sProp 𝕄} {O : CellTallies nD τ sig Unit} :
    iprop(Transfers.Flight (EC (F := F)) (c : Thread nD τ) (.dma sm) () dstw.view.dmaCredit D ∗ ow c O
        ∗ MayWait (c : Thread nD τ) (.dma sm) () O)
      ⊢ iprop(((D ∗ semVal ((c : Thread nD τ), SemLoc.dma sm) 0 ∗ ow c O) -∗ runs c (k ⟨⟩) Q)
          -∗ runs c (.op (.waitDma2 sm srcw dstw hsrc hdst) k) Q) := by
  unfold ow
  iintro ⟨HF, ⟨%W, HO⟩, HM⟩ Hk
  iapply (Transfers.wp_waitLocalO (EC (F := F)) 𝒱₀ (c : Thread nD τ) none () rfl) $$ [HF HO HM]
  · isplitl [HF]; · iexact HF
    isplitl [HO] <;> iassumption
  iintro ⟨HD, Hv, HO⟩
  iapply Hk
  isplitl [HD]; · iexact HD
  isplitl [Hv]; · iexact Hv
  iexists _; iexact HO

end Cert.KernelIdeal.Moe
-- ==== Proof.PassI.lean ====
/- The expert pass on one device, with the contents it leaves: a tile, a weight block, an expert, a pass. -/
module

public import proofs.«01_k».proof.Proof.OwnI

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### Contents -/

/-- The accumulator after one tile. -/
def tileUpd (v : BitVec 32) (r : ℕ) (hr : ∀ i, (![r, 0] : Fin 2 → Nat) i + S256x1024.size i ≤ S1024x1024.size i)
    (ha : ∀ i, (![r, 0] : Fin 2 → Nat) i + S256x1.size i ≤ S1024x1.size i)
    (A : Vec F S1024x1 .i32) (X : Vec F S1024x1024 .f32) (U : Vec F S1024x512 .f32) (V : Vec F S512x1024 .f32)
    (D : Vec F S1024x1024 .f32) : Vec F S1024x1024 .f32 :=
  (Rect.unit (s := S1024x1024) ![r, 0] S256x1024.size hr).overlay D
    (tileVal v (View.ld A (Rect.unit (s := S1024x1) ![r, 0] S256x1.size ha))
      (View.ld X (Rect.unit (s := S1024x1024) ![r, 0] S256x1024.size hr))
      (View.ld U (Rect.unit (s := S1024x512) ![0, 0] S1024x512.size inb_S1024x512_S1024x512_0_0))
      (View.ld D (Rect.unit (s := S1024x1024) ![r, 0] S256x1024.size hr))
      (View.ld V (Rect.unit (s := S512x1024) ![0, 0] S512x1024.size inb_S512x1024_S512x1024_0_0)))

/-- Columns `o … o+511` of expert `e`'s first weight. -/
def w1blk (B : Vec F S2x1024x2048 .f32) (e o : ℕ)
    (ho1 : ∀ i, (![e, 0, o] : Fin 3 → Nat) i + S1x1024x512.size i ≤ S2x1024x2048.size i) : Vec F S1024x512 .f32 :=
  fun j => B ((Rect.unit (s := S2x1024x2048) ![e, 0, o] S1x1024x512.size ho1).idx (Shape.reshapeEquiv squeezes_S1x1024x512_S1024x512.numel_eq j))

/-- Rows `o … o+511` of expert `e`'s second weight. -/
def w2blk (B : Vec F S2x2048x1024 .f32) (e o : ℕ)
    (ho2 : ∀ i, (![e, o, 0] : Fin 3 → Nat) i + S1x512x1024.size i ≤ S2x2048x1024.size i) : Vec F S512x1024 .f32 :=
  fun j => B ((Rect.unit (s := S2x2048x1024) ![e, o, 0] S1x512x1024.size ho2).idx (Shape.reshapeEquiv squeezes_S1x512x1024_S512x1024.numel_eq j))

/-- The accumulator after the four tiles of one weight block. -/
def tilesUpd (v : BitVec 32) (A : Vec F S1024x1 .i32) (X : Vec F S1024x1024 .f32) (U : Vec F S1024x512 .f32)
    (V : Vec F S512x1024 .f32) (D : Vec F S1024x1024 .f32) : Vec F S1024x1024 .f32 :=
  tileUpd v 768 inb_S1024x1024_S256x1024_768_0 inb_S1024x1_S256x1_768_0 A X U V
    (tileUpd v 512 inb_S1024x1024_S256x1024_512_0 inb_S1024x1_S256x1_512_0 A X U V
      (tileUpd v 256 inb_S1024x1024_S256x1024_256_0 inb_S1024x1_S256x1_256_0 A X U V
        (tileUpd v 0 inb_S1024x1024_S256x1024_0_0 inb_S1024x1_S256x1_0_0 A X U V D)))

/-- The accumulator after one weight block. -/
def blkUpd (v : BitVec 32) (e : ℕ) (he : e < 2) (o : ℕ) (ho : o = 0 ∨ o = 512 ∨ o = 1024 ∨ o = 1536)
    (B1 : Vec F S2x1024x2048 .f32) (B2 : Vec F S2x2048x1024 .f32) (A : Vec F S1024x1 .i32) (X : Vec F S1024x1024 .f32)
    (D : Vec F S1024x1024 .f32) : Vec F S1024x1024 .f32 :=
  tilesUpd v A X (w1blk B1 e o (inbW1 e he o ho)) (w2blk B2 e o (inbW2 e he o ho)) D

/-- The accumulator after one expert. -/
def expertUpd (v : BitVec 32) (e : ℕ) (he : e < 2)
    (B1 : Vec F S2x1024x2048 .f32) (B2 : Vec F S2x2048x1024 .f32) (A : Vec F S1024x1 .i32) (X : Vec F S1024x1024 .f32)
    (D : Vec F S1024x1024 .f32) : Vec F S1024x1024 .f32 :=
  blkUpd v e he 1536 (by simp) B1 B2 A X (blkUpd v e he 1024 (by simp) B1 B2 A X
    (blkUpd v e he 512 (by simp) B1 B2 A X (blkUpd v e he 0 (by simp) B1 B2 A X D)))

/-- The accumulator after a pass over a token block `X` with its assignment column `A`, on the device at place `v2`. -/
def passVal (v2 : BitVec 32) (B1 : Vec F S2x1024x2048 .f32) (B2 : Vec F S2x2048x1024 .f32) (A : Vec F S1024x1 .i32)
    (X : Vec F S1024x1024 .f32) : Vec F S1024x1024 .f32 :=
  expertUpd (Scalar.addi (Scalar.muli v2 2#32) 1#32) 1 (by omega) B1 B2 A X
    (expertUpd (Scalar.addi (Scalar.muli v2 2#32) 0#32) 0 (by omega) B1 B2 A X
      (broadcast S1024x1024 (Scalar.ofBits (F := F) .f32 0x00000000#32)))

/-! ### The runs -/

section
variable (c : Dev nD)
  {x : Memref sig .tc .vmem S1024x1024 .f32} {a : Memref sig .tc .vmem S1024x1 .i32}
  {d : Memref sig .tc .vmem S1024x1024 .f32}
  {W1 : Memref sig .tc .hbm S2x1024x2048 .f32} {W2 : Memref sig .tc .hbm S2x2048x1024 .f32}
  {w1 : Memref sig .tc .vmem S1024x512 .f32} {h1 : w1.IsWhole} {w2 : Memref sig .tc .vmem S512x1024 .f32} {h2 : w2.IsWhole}
  {sm : DmaSems sig S2}

/-- A load through the whole of a memref reads its contents. -/
theorem ld_whole {s : Shape} {e : EltTy} (X : s.Idx → Elt F e) (o : Fin s.rank → ℕ) (h : ∀ i, o i + s.size i ≤ s.size i) :
    View.ld X (Rect.unit (s := s) o s.size h) = X := by
  funext x
  have : (Rect.unit (s := s) o s.size h).idx x = x := by
    funext i
    apply Fin.ext
    have : o i = 0 := by have := h i; omega
    show o i + 1 * (x i : ℕ) = x i
    omega
  exact congrArg X this

/-- A store through the whole of a memref leaves what was stored. -/
theorem overlay_whole {s : Shape} {α : Type} (X Y : s.Idx → α) (o : Fin s.rank → ℕ) (h : ∀ i, o i + s.size i ≤ s.size i) :
    (Rect.unit (s := s) o s.size h).overlay X Y = Y := by
  funext x
  have e : (Rect.unit (s := s) o s.size h).emb x = x := by
    funext i
    apply Fin.ext
    have : o i = 0 := by have := h i; omega
    show o i + 1 * (x i : ℕ) = x i
    omega
  conv_lhs => rw [← e]
  exact Rect.overlay_emb _ _ _ _

/-- What a pass reads and does not change, the accumulator, and the fetch buffers with whatever they hold. -/
def opens (qx qa : PosShare TreeShare) (x : Memref sig .tc .vmem S1024x1024 .f32) (a : Memref sig .tc .vmem S1024x1 .i32)
    (d : Memref sig .tc .vmem S1024x1024 .f32) (w1 : Memref sig .tc .vmem S1024x512 .f32) (w2 : Memref sig .tc .vmem S512x1024 .f32)
    (X : Vec F S1024x1024 .f32) (A : Vec F S1024x1 .i32) (D : Vec F S1024x1024 .f32) (U : Vec F S1024x512 .f32)
    (V : Vec F S512x1024 .f32) : sProp 𝕄 :=
  iprop(owns (c : Thread nD τ) x qx X ∗ owns (c : Thread nD τ) a qa A ∗ owns (c : Thread nD τ) d fullShare D
    ∗ owns (c : Thread nD τ) w1 fullShare U ∗ owns (c : Thread nD τ) w2 fullShare V)

theorem run_tile {α : Type} {Q : α → sProp 𝕄} {qx qa : PosShare TreeShare} {v : BitVec 32} {r : ℕ}
    {hr : ∀ i, (![r, 0] : Fin 2 → Nat) i + S256x1024.size i ≤ S1024x1024.size i}
    {ha : ∀ i, (![r, 0] : Fin 2 → Nat) i + S256x1.size i ≤ S1024x1.size i}
    {X : Vec F S1024x1024 .f32} {A : Vec F S1024x1 .i32} {D : Vec F S1024x1024 .f32} {U : Vec F S1024x512 .f32}
    {V : Vec F S512x1024 .f32} {K : PUnit → TP F α} :
    (opens c qx qa x a d w1 w2 X A D U V : sProp 𝕄)
      ⊢ iprop((opens c qx qa x a d w1 w2 X A (tileUpd v r hr ha A X U V D) U V -∗ runs c (K ⟨⟩) Q)
          -∗ runs c (tile x a d w1 w2 v r hr ha >>= K) Q) := by
  unfold opens tile
  iintro ⟨Hx, Ha, Hd, H1, H2⟩ Hk
  iapply (run_load c) $$ Ha
  iintro Ha
  iapply (run_load c) $$ Hx
  iintro Hx
  iapply (run_load c) $$ H1
  iintro H1
  iapply (run_load c) $$ Hd
  iintro Hd
  iapply (run_load c) $$ H2
  iintro H2
  iapply (run_load c) $$ Hd
  iintro Hd
  iapply (run_store c) $$ Hd
  iintro Hd
  iapply Hk
  isplitl [Hx]; · iexact Hx
  isplitl [Ha]; · iexact Ha
  isplitl [Hd]; · iexact Hd
  isplitl [H1] <;> iassumption

/-- The four tiles of one weight block. -/
theorem run_tiles {α : Type} {Q : α → sProp 𝕄} {qx qa : PosShare TreeShare} {v : BitVec 32}
    {X : Vec F S1024x1024 .f32} {A : Vec F S1024x1 .i32} {D : Vec F S1024x1024 .f32} {U : Vec F S1024x512 .f32}
    {V : Vec F S512x1024 .f32} {K : PUnit → TP F α} :
    (opens c qx qa x a d w1 w2 X A D U V : sProp 𝕄)
      ⊢ iprop((opens c qx qa x a d w1 w2 X A (tilesUpd v A X U V D) U V -∗ runs c (K ⟨⟩) Q)
          -∗ runs c (tile x a d w1 w2 v 0 inb_S1024x1024_S256x1024_0_0 inb_S1024x1_S256x1_0_0 >>= fun _ =>
              tile x a d w1 w2 v 256 inb_S1024x1024_S256x1024_256_0 inb_S1024x1_S256x1_256_0 >>= fun _ =>
              tile x a d w1 w2 v 512 inb_S1024x1024_S256x1024_512_0 inb_S1024x1_S256x1_512_0 >>= fun _ =>
              tile x a d w1 w2 v 768 inb_S1024x1024_S256x1024_768_0 inb_S1024x1_S256x1_768_0 >>= K) Q) := by
  iintro H Hk
  iapply (run_tile c) $$ H
  iintro H
  iapply (run_tile c) $$ H
  iintro H
  iapply (run_tile c) $$ H
  iintro H
  iapply (run_tile c) $$ H
  iintro H
  iapply Hk
  iexact H

/-- What the weight fetches use: both weight operands at fixed contents, the two semaphores at rest, and what the device
    still owes. -/
def feed (W1 : Memref sig .tc .hbm S2x1024x2048 .f32) (W2 : Memref sig .tc .hbm S2x2048x1024 .f32) (sm : DmaSems sig S2)
    (f1 : Buf (Elt F) (W1.view.loc (c : Thread nD τ))) (f2 : Buf (Elt F) (W2.view.loc (c : Thread nD τ)))
    (O : CellTallies nD τ sig Unit) : sProp 𝕄 :=
  iprop((W1.view.loc (c : Thread nD τ) ↦[W1.view.set]{fullShare} f1) ∗ (W2.view.loc (c : Thread nD τ) ↦[W2.view.set]{fullShare} f2)
    ∗ semVal ((c : Thread nD τ), SemLoc.dma (sem2 sm 0 inb_S2_S1_0)) 0 ∗ semVal ((c : Thread nD τ), SemLoc.dma (sem2 sm 1 inb_S2_S1_1)) 0
    ∗ ow c O)

/-- That the device may wait on both fetch semaphores while owing `O`. -/
def mayFeed (sm : DmaSems sig S2) (O : CellTallies nD τ sig Unit) : sProp 𝕄 :=
  iprop(MayWait (c : Thread nD τ) (.dma (sem2 sm 0 inb_S2_S1_0)) () O ∗ MayWait (c : Thread nD τ) (.dma (sem2 sm 1 inb_S2_S1_1)) () O)

instance (sm : DmaSems sig S2) (O : CellTallies nD τ sig Unit) : BI.Persistent (mayFeed (F := F) c sm O) := by
  unfold mayFeed; infer_instance

theorem run_feed (hw1 : 0 < w1.view.dmaCredit) (hw2 : 0 < w2.view.dmaCredit)
    {α : Type} {Q : α → sProp 𝕄} {e o : ℕ}
    {ho1 : ∀ i, (![e, 0, o] : Fin 3 → Nat) i + S1x1024x512.size i ≤ S2x1024x2048.size i}
    {ho2 : ∀ i, (![e, o, 0] : Fin 3 → Nat) i + S1x512x1024.size i ≤ S2x2048x1024.size i}
    {f1 : Buf (Elt F) (W1.view.loc (c : Thread nD τ))} {f2 : Buf (Elt F) (W2.view.loc (c : Thread nD τ))}
    {O : CellTallies nD τ sig Unit} {U : Vec F S1024x512 .f32} {V : Vec F S512x1024 .f32} {K : PUnit → TP F α} :
    iprop(owns (c : Thread nD τ) w1 fullShare U ∗ owns (c : Thread nD τ) w2 fullShare V ∗ feed c W1 W2 sm f1 f2 O ∗ mayFeed c sm O)
      ⊢ iprop((iprop(owns (c : Thread nD τ) w1 fullShare (w1blk (W1.view.read (Elt F) f1) e o ho1)
              ∗ owns (c : Thread nD τ) w2 fullShare (w2blk (W2.view.read (Elt F) f2) e o ho2) ∗ feed c W1 W2 sm f1 f2 O) -∗ runs c (K ⟨⟩) Q)
          -∗ runs c (fetch1 W1 w1 h1 sm e o ho1 >>= fun _ => fetch2 W2 w2 h2 sm e o ho2 >>= fun _ =>
              fetched1 W1 w1 h1 sm e o ho1 >>= fun _ => fetched2 W2 w2 h2 sm e o ho2 >>= K) Q) := by
  have hs1 : (((W1.slice (Rect.unit (s := S2x1024x2048) ![e, 0, o] S1x1024x512.size ho1) (fun _ => rfl)).squeeze S1024x512
      squeezes_S1x1024x512_S1024x512).view.set) ⊆ W1.view.set :=
    (View.set_reshape _ _).subset.trans (W1.view.set_slice_subset _)
  have hs2 : (((W2.slice (Rect.unit (s := S2x2048x1024) ![e, o, 0] S1x512x1024.size ho2) (fun _ => rfl)).squeeze S512x1024
      squeezes_S1x512x1024_S512x1024).view.set) ⊆ W2.view.set :=
    (View.set_reshape _ _).subset.trans (W2.view.set_slice_subset _)
  unfold feed fetch1 fetch2 fetched1 fetched2 mayFeed
  iintro ⟨H1, H2, ⟨HW1, HW2, Hv1, Hv2, HO⟩, #HM1, #HM2⟩ Hk
  ihave HW1 := (pointsTo_split_subset hs1).1 $$ HW1
  icases HW1 with ⟨HW1, HR1⟩
  ihave HW2 := (pointsTo_split_subset hs2).1 $$ HW2
  icases HW2 with ⟨HW2, HR2⟩
  iapply (run_fetch c hw1) $$ [HW1 H1 Hv1]
  · isplitl [HW1]; · iexact HW1
    isplitl [H1] <;> iassumption
  iintro HF1
  iapply (run_fetch c hw2) $$ [HW2 H2 Hv2]
  · isplitl [HW2]; · iexact HW2
    isplitl [H2] <;> iassumption
  iintro HF2
  iapply (run_fetched c) $$ [HF1 HO]
  · isplitl [HF1]; · iexact HF1
    isplitl [HO]; · iexact HO
    iexact HM1
  iintro ⟨⟨H1, HW1⟩, Hv1, HO⟩
  iapply (run_fetched c) $$ [HF2 HO]
  · isplitl [HF2]; · iexact HF2
    isplitl [HO]; · iexact HO
    iexact HM2
  iintro ⟨⟨H2, HW2⟩, Hv2, HO⟩
  iapply Hk
  isplitl [H1]; · iexact H1
  isplitl [H2]; · iexact H2
  isplitl [HW1 HR1]
  · iapply (pointsTo_split_subset hs1).2
    isplitl [HW1] <;> iassumption
  isplitl [HW2 HR2]
  · iapply (pointsTo_split_subset hs2).2
    isplitl [HW2] <;> iassumption
  isplitl [Hv1]; · iexact Hv1
  isplitl [Hv2] <;> iassumption

/-- The state between weight blocks: the fetch buffers hold anything. -/
def mid (qx qa : PosShare TreeShare) (x : Memref sig .tc .vmem S1024x1024 .f32) (a : Memref sig .tc .vmem S1024x1 .i32)
    (d : Memref sig .tc .vmem S1024x1024 .f32) (w1 : Memref sig .tc .vmem S1024x512 .f32) (w2 : Memref sig .tc .vmem S512x1024 .f32)
    (W1 : Memref sig .tc .hbm S2x1024x2048 .f32) (W2 : Memref sig .tc .hbm S2x2048x1024 .f32) (sm : DmaSems sig S2)
    (f1 : Buf (Elt F) (W1.view.loc (c : Thread nD τ))) (f2 : Buf (Elt F) (W2.view.loc (c : Thread nD τ)))
    (O : CellTallies nD τ sig Unit) (X : Vec F S1024x1024 .f32) (A : Vec F S1024x1 .i32) (D : Vec F S1024x1024 .f32) : sProp 𝕄 :=
  iprop((∃ U V, opens c qx qa x a d w1 w2 X A D U V) ∗ feed c W1 W2 sm f1 f2 O)

theorem run_blk (hw1 : 0 < w1.view.dmaCredit) (hw2 : 0 < w2.view.dmaCredit)
    {α : Type} {Q : α → sProp 𝕄} {qx qa : PosShare TreeShare} {v : BitVec 32} {e : ℕ} (he : e < 2) {o : ℕ}
    (ho : o = 0 ∨ o = 512 ∨ o = 1024 ∨ o = 1536)
    {ho1 : ∀ i, (![e, 0, o] : Fin 3 → Nat) i + S1x1024x512.size i ≤ S2x1024x2048.size i}
    {ho2 : ∀ i, (![e, o, 0] : Fin 3 → Nat) i + S1x512x1024.size i ≤ S2x2048x1024.size i}
    {f1 : Buf (Elt F) (W1.view.loc (c : Thread nD τ))} {f2 : Buf (Elt F) (W2.view.loc (c : Thread nD τ))}
    {O : CellTallies nD τ sig Unit} {X : Vec F S1024x1024 .f32} {A : Vec F S1024x1 .i32} {D : Vec F S1024x1024 .f32}
    {K : PUnit → TP F α} :
    iprop(mid c qx qa x a d w1 w2 W1 W2 sm f1 f2 O X A D ∗ mayFeed c sm O)
      ⊢ iprop((mid c qx qa x a d w1 w2 W1 W2 sm f1 f2 O X A
              (blkUpd v e he o ho (W1.view.read (Elt F) f1) (W2.view.read (Elt F) f2) A X D) -∗ runs c (K ⟨⟩) Q)
          -∗ runs c (blk x a d W1 W2 w1 h1 w2 h2 sm v e o ho1 ho2 >>= K) Q) := by
  unfold mid blk
  simp only [bind_assoc]
  unfold opens
  iintro ⟨⟨⟨%U, %V, Hx, Ha, Hd, H1, H2⟩, HF⟩, #HM⟩ Hk
  iapply (run_feed c hw1 hw2) $$ [H1 H2 HF]
  · isplitl [H1]; · iexact H1
    isplitl [H2]; · iexact H2
    isplitl [HF]; · iexact HF
    iexact HM
  iintro ⟨H1, H2, HF⟩
  iapply (run_tiles c) $$ [Hx Ha Hd H1 H2]
  · unfold opens
    isplitl [Hx]; · iexact Hx
    isplitl [Ha]; · iexact Ha
    isplitl [Hd]; · iexact Hd
    isplitl [H1] <;> iassumption
  unfold opens
  iintro H
  iapply Hk
  isplitl [H]
  · iexists _, _; iexact H
  · iexact HF

theorem run_expert (hw1 : 0 < w1.view.dmaCredit) (hw2 : 0 < w2.view.dmaCredit)
    {α : Type} {Q : α → sProp 𝕄} {qx qa : PosShare TreeShare} {v : BitVec 32} {e : ℕ} (he : e < 2)
    {g1 : ∀ o, o = 0 ∨ o = 512 ∨ o = 1024 ∨ o = 1536 → ∀ i, (![e, 0, o] : Fin 3 → Nat) i + S1x1024x512.size i ≤ S2x1024x2048.size i}
    {g2 : ∀ o, o = 0 ∨ o = 512 ∨ o = 1024 ∨ o = 1536 → ∀ i, (![e, o, 0] : Fin 3 → Nat) i + S1x512x1024.size i ≤ S2x2048x1024.size i}
    {f1 : Buf (Elt F) (W1.view.loc (c : Thread nD τ))} {f2 : Buf (Elt F) (W2.view.loc (c : Thread nD τ))}
    {O : CellTallies nD τ sig Unit} {X : Vec F S1024x1024 .f32} {A : Vec F S1024x1 .i32} {D : Vec F S1024x1024 .f32}
    {K : PUnit → TP F α} :
    iprop(mid c qx qa x a d w1 w2 W1 W2 sm f1 f2 O X A D ∗ mayFeed c sm O)
      ⊢ iprop((mid c qx qa x a d w1 w2 W1 W2 sm f1 f2 O X A
              (expertUpd v e he (W1.view.read (Elt F) f1) (W2.view.read (Elt F) f2) A X D) -∗ runs c (K ⟨⟩) Q)
          -∗ runs c (expert x a d W1 W2 w1 h1 w2 h2 sm v e g1 g2 >>= K) Q) := by
  unfold expert
  simp only [bind_assoc]
  iintro ⟨H, #HM⟩ Hk
  iapply (run_blk c hw1 hw2 he (by simp)) $$ [H]
  · isplitl [H]; · iexact H
    iexact HM
  iintro H
  iapply (run_blk c hw1 hw2 he (by simp)) $$ [H]
  · isplitl [H]; · iexact H
    iexact HM
  iintro H
  iapply (run_blk c hw1 hw2 he (by simp)) $$ [H]
  · isplitl [H]; · iexact H
    iexact HM
  iintro H
  iapply (run_blk c hw1 hw2 he (by simp)) $$ [H]
  · isplitl [H]; · iexact H
    iexact HM
  iintro H
  iapply Hk
  iexact H

/-- A pass leaves the accumulator at `passVal`, whatever it held. -/
theorem run_pass (hw1 : 0 < w1.view.dmaCredit) (hw2 : 0 < w2.view.dmaCredit)
    {α : Type} {Q : α → sProp 𝕄} {qx qa : PosShare TreeShare} {v2 : BitVec 32}
    {f1 : Buf (Elt F) (W1.view.loc (c : Thread nD τ))} {f2 : Buf (Elt F) (W2.view.loc (c : Thread nD τ))}
    {O : CellTallies nD τ sig Unit} {X : Vec F S1024x1024 .f32} {A : Vec F S1024x1 .i32} {D : Vec F S1024x1024 .f32}
    {K : PUnit → TP F α} :
    iprop(mid c qx qa x a d w1 w2 W1 W2 sm f1 f2 O X A D ∗ mayFeed c sm O)
      ⊢ iprop((mid c qx qa x a d w1 w2 W1 W2 sm f1 f2 O X A
              (passVal v2 (W1.view.read (Elt F) f1) (W2.view.read (Elt F) f2) A X) -∗ runs c (K ⟨⟩) Q)
          -∗ runs c (pass x a d W1 W2 w1 h1 w2 h2 sm v2 >>= K) Q) := by
  unfold pass clear
  simp only [bind_assoc]
  unfold mid opens
  iintro ⟨⟨⟨%U, %V, Hx, Ha, Hd, H1, H2⟩, HF⟩, #HM⟩ Hk
  iapply (run_load c) $$ Hd
  iintro Hd
  iapply (run_store c) $$ Hd
  rw [overlay_whole]
  iintro Hd
  iapply (run_expert c hw1 hw2 (by omega) (g1 := inbW1 0 (by omega)) (g2 := inbW2 0 (by omega))) $$ [Hx Ha Hd H1 H2 HF]
  · isplitl
    · unfold mid opens
      isplitr [HF]
      · iexists U, V
        isplitl [Hx]; · iexact Hx
        isplitl [Ha]; · iexact Ha
        isplitl [Hd]; · iexact Hd
        isplitl [H1] <;> iassumption
      · iexact HF
    · iexact HM
  iintro H
  iapply (run_expert c hw1 hw2 (by omega) (g1 := inbW1 1 (by omega)) (g2 := inbW2 1 (by omega))) $$ [H]
  · isplitl [H]; · iexact H
    iexact HM
  unfold mid opens
  iintro H
  iapply Hk
  iexact H

end

end Cert.KernelIdeal.Moe
-- ==== Proof.RingI.lean ====
/- The protocol of the ring: the cells, what each holds, what each device owes, and in what order waits may happen. -/
module

public import proofs.«01_k».proof.Proof.PassI
public import proofs.«01_k».proof.Proof.Gen.KernelIdeal.Launch
public import proofs.«01_k».proof.Proof.Gen.KernelIdeal.Points
public import Idealize.ShloMosaic.Lib.MemrefSat

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The pipeline's part of the ghost state, and the ring's. -/
abbrev EP : Emb (UR sig nD τ) (MT nD τ sig Unit (Elt F) ℕ UU ℕ) := embL
def EB : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance EB_landsIn : (EB : Emb UB 𝕄).LandsIn (upEmb : UEmb _ 𝕄) := by unfold EB; infer_instance

variable (m : (ℓ : Loc nD τ sig) → Buf (Elt F) ℓ)

/-! ### The ring of four -/

set_option backward.proofsInPublic true in
/-- The device `j` places on from `c`. -/
def rot (j : ℕ) (c : Dev nD) : Dev nD := ⟨(c.val + j) % 4, Nat.mod_lt _ (by decide)⟩

/-! ### The buffers -/

abbrev xM : Memref sig .tc .vmem S1024x1024 .f32 := Memref.whole cc0_stg0_0
abbrev aM : Memref sig .tc .vmem S1024x1 .i32 := Memref.whole cc0_stg1_0
abbrev oM : Memref sig .tc .vmem S1024x1024 .f32 := Memref.whole cc0_stg2_0
abbrev W1M : Memref sig .tc .hbm S2x1024x2048 .f32 := Memref.whole main_arg2
abbrev W2M : Memref sig .tc .hbm S2x2048x1024 .f32 := Memref.whole main_arg3
abbrev xs0 : Memref sig .tc .vmem S1024x1024 .f32 := slot3 (Memref.whole cc0_scratch0) 0 inb_S3x1024x1024_S1x1024x1024_0_0_0
abbrev xs1 : Memref sig .tc .vmem S1024x1024 .f32 := slot3 (Memref.whole cc0_scratch0) 1 inb_S3x1024x1024_S1x1024x1024_1_0_0
abbrev xs2 : Memref sig .tc .vmem S1024x1024 .f32 := slot3 (Memref.whole cc0_scratch0) 2 inb_S3x1024x1024_S1x1024x1024_2_0_0
abbrev as0 : Memref sig .tc .vmem S1024x1 .i32 := slotA (Memref.whole cc0_scratch1) 0 inb_S3x1024x1_S1x1024x1_0_0_0
abbrev as1 : Memref sig .tc .vmem S1024x1 .i32 := slotA (Memref.whole cc0_scratch1) 1 inb_S3x1024x1_S1x1024x1_1_0_0
abbrev as2 : Memref sig .tc .vmem S1024x1 .i32 := slotA (Memref.whole cc0_scratch1) 2 inb_S3x1024x1_S1x1024x1_2_0_0
abbrev pb0 : Memref sig .tc .vmem S1024x1024 .f32 := slot3 (Memref.whole cc0_scratch2) 0 inb_S3x1024x1024_S1x1024x1024_0_0_0
abbrev pb1 : Memref sig .tc .vmem S1024x1024 .f32 := slot3 (Memref.whole cc0_scratch2) 1 inb_S3x1024x1024_S1x1024x1024_1_0_0
abbrev pb2 : Memref sig .tc .vmem S1024x1024 .f32 := slot3 (Memref.whole cc0_scratch2) 2 inb_S3x1024x1024_S1x1024x1024_2_0_0
abbrev ps0 : Memref sig .tc .vmem S1024x1024 .f32 := slot2 (Memref.whole cc0_scratch3) 0 inb_S2x1024x1024_S1x1024x1024_0_0_0
abbrev ps1 : Memref sig .tc .vmem S1024x1024 .f32 := slot2 (Memref.whole cc0_scratch3) 1 inb_S2x1024x1024_S1x1024x1024_1_0_0
abbrev u1M : Memref sig .tc .vmem S1024x512 .f32 := Memref.whole cc0_scratch4
abbrev u2M : Memref sig .tc .vmem S512x1024 .f32 := Memref.whole cc0_scratch5

/-- The credit of one token block's transfer, and of one assignment column's. -/
def NX : ℕ := RefSig.tileCredit S1024x1024 .f32
def NA : ℕ := RefSig.tileCredit S1024x1 .i32

theorem credit_x {sp : CoreSpace} (M : Memref sig .tc sp S1024x1024 .f32) : M.view.dmaCredit = NX := rfl
theorem credit_a {sp : CoreSpace} (M : Memref sig .tc sp S1024x1 .i32) : M.view.dmaCredit = NA := rfl
theorem NX_pos : 0 < NX := by rw [← credit_x xM]; exact View.dmaCredit_pos _ (by decide)
theorem NA_pos : 0 < NA := by rw [← credit_a aM]; exact View.dmaCredit_pos _ (by decide)

/-! ### The cells -/

/-- The runtime's barrier semaphore. -/
abbrev barS : Sem sig := (SemArray.scalar (sig.barrier 0 rfl) : Sems sig S_).sem

/-- The eighteen semaphores of the protocol: the barrier's, then per slot the sending and receiving ones of the token
    blocks (1–3, 4–6), of the assignments (7–9, 10–12), and of the partial results (13–14, 15–17). -/
abbrev ksem : Fin 18 → SemLoc sig := Fin.cases (.reg barS) fun k => .dma (⟨k.val + 3, by show k.val + 3 < 22; omega⟩ : Fin 22)
abbrev kc (c : Dev nD) (k : Fin 18) : GSem nD τ sig := ((c : Thread nD τ), ksem k)

/-- Which of the eighteen a semaphore is. -/
def kidx : SemLoc sig → Option (Fin 18)
  | .reg _ => some 0
  | .dma q => if h : 3 ≤ q.val ∧ q.val < 20 then some ⟨q.val - 2, by omega⟩ else none

theorem kidx_ksem (k : Fin 18) : kidx (ksem k) = some k := by revert k; decide

theorem ksem_injective : Function.Injective ksem := fun a b h => by
  have := congrArg kidx h; rw [kidx_ksem, kidx_ksem] at this; exact Option.some.inj this

/-! ### Contents -/

/-- Device `c`'s block of the tokens and of the assignments. -/
def xb (c : Dev nD) : Vec F S1024x1024 .f32 := (win0_0.blk (0 : Fin 1)).view.read (Elt F) (m ((c : Thread nD τ).loc main_arg0))
def ab (c : Dev nD) : Vec F S1024x1 .i32 := (win0_1.blk (0 : Fin 1)).view.read (Elt F) (m ((c : Thread nD τ).loc main_arg1))
/-- What device `d`'s experts contribute to device `e`'s block. -/
def pv (d e : Dev nD) : Vec F S1024x1024 .f32 :=
  passVal (posW d) (W1M.view.read (Elt F) (m ((d : Thread nD τ).loc main_arg2))) (W2M.view.read (Elt F) (m ((d : Thread nD τ).loc main_arg3)))
    (ab m e) (xb m e)
/-- The kernel's result on device `c`. -/
def outV (c : Dev nD) : Vec F S1024x1024 .f32 :=
  addf (addf (addf (pv m c c) (pv m (rot 1 c) c)) (pv m (rot 2 c) c)) (pv m (rot 3 c) c)

/-! ### The schedule -/

/-- A buffer of device `c`, whatever it holds. -/
abbrev some' {s : Shape} {e : EltTy} (c : Dev nD) (M : Memref sig .tc .vmem s e) : sProp 𝕄 := iprop(∃ Y, owns (c : Thread nD τ) M fullShare Y)

/-- What the barrier hands device `c`: by its duty `d`, the buffers of device `c + d + 1` that `c` writes. -/
def barPay (c : Dev nD) (d : Fin 3) : sProp 𝕄 := match d with
  | 0 => iprop(some' (rot 1 c) xs0 ∗ some' (rot 1 c) xs1 ∗ some' (rot 1 c) xs2 ∗ some' (rot 1 c) as0 ∗ some' (rot 1 c) as1
      ∗ some' (rot 1 c) as2 ∗ some' (rot 1 c) pb2)
  | 1 => some' (rot 2 c) pb1
  | 2 => some' (rot 3 c) pb0

/-- What each cell of device `c` hands its owner. -/
def pay (c : Dev nD) (k : Fin 18) (r : ℕ) (d : Fin 3) : sProp 𝕄 := match k.val with
  | 0 => barPay c d
  | 1 => owns (c : Thread nD τ) xM fullShare.left (xb m c)
  | 2 => owns (c : Thread nD τ) xs0 fullShare.left (xb m (rot 3 c))
  | 3 => owns (c : Thread nD τ) xs1 fullShare.left (xb m (rot 2 c))
  | 4 => owns (c : Thread nD τ) xs0 fullShare (xb m (rot 3 c))
  | 5 => owns (c : Thread nD τ) xs1 fullShare (xb m (rot 2 c))
  | 6 => owns (c : Thread nD τ) xs2 fullShare (xb m (rot 1 c))
  | 7 => owns (c : Thread nD τ) aM fullShare.left (ab m c)
  | 8 => owns (c : Thread nD τ) as0 fullShare.left (ab m (rot 3 c))
  | 9 => owns (c : Thread nD τ) as1 fullShare.left (ab m (rot 2 c))
  | 10 => owns (c : Thread nD τ) as0 fullShare (ab m (rot 3 c))
  | 11 => owns (c : Thread nD τ) as1 fullShare (ab m (rot 2 c))
  | 12 => owns (c : Thread nD τ) as2 fullShare (ab m (rot 1 c))
  | 13 => if r = 0 then owns (c : Thread nD τ) ps0 fullShare (pv m c (rot 3 c)) else owns (c : Thread nD τ) ps0 fullShare (pv m c (rot 1 c))
  | 14 => owns (c : Thread nD τ) ps1 fullShare (pv m c (rot 2 c))
  | 15 => owns (c : Thread nD τ) pb0 fullShare (pv m (rot 1 c) c)
  | 16 => owns (c : Thread nD τ) pb1 fullShare (pv m (rot 2 c) c)
  | 17 => owns (c : Thread nD τ) pb2 fullShare (pv m (rot 3 c) c)
  | _ => iprop(emp)

instance pay_storable (c : Dev nD) (k : Fin 18) (r : ℕ) (d : Fin 3) : BI.Storable (upEmb : UEmb _ 𝕄) (pay m c k r d) := by
  unfold pay
  split
  case h_1 => unfold barPay; split <;> infer_instance
  case h_14 => split <;> infer_instance
  all_goals infer_instance

/-- The duties of a cell's round: a barrier's three; the one transfer of any other, two rounds of it on the first
    partial-result slot. -/
def dut (k : Fin 18) (r : ℕ) : Finset (Fin 3) :=
  if k = 0 then (if r = 0 then Finset.univ else ∅) else if r = 0 ∨ (k = 13 ∧ r = 1) then {0} else ∅

/-- The units a duty of cell `k` brings. -/
def amt (k : Fin 18) : ℕ := if k = 0 then 1 else if 7 ≤ k.val ∧ k.val ≤ 12 then NA else NX

theorem amt_pos (k : Fin 18) : 0 < amt k := by
  unfold amt; split
  · exact Nat.one_pos
  split
  · exact NA_pos
  · exact NX_pos

def ringRd : Rounds.Schedule (GSem nD τ sig) (Fin 3) 𝕄 where
  duties g r := if g.1.2 = .tc then (match kidx g.2 with | some k => dut k r | none => ∅) else ∅
  amount g _ _ := match kidx g.2 with | some k => amt k | none => 1
  payload g r d := match kidx g.2 with | some k => pay m g.1.1 k r d | none => iprop(emp)
  unitless _ := False
  amount_pos g r d _ := by
    split
    · exact amt_pos _
    · exact Nat.one_pos

instance ringRd_storable (g : GSem nD τ sig) (r : ℕ) (d : Fin 3) :
    BI.Storable (upEmb : UEmb _ 𝕄) ((ringRd (F := F) m).payload g r d) := by
  dsimp only [ringRd]
  split <;> infer_instance

theorem duties_kc (c : Dev nD) (k : Fin 18) (r : ℕ) : (ringRd (F := F) m).duties (kc c k) r = dut k r := by
  dsimp only [ringRd]; rw [if_pos rfl, kidx_ksem]
theorem amount_kc (c : Dev nD) (k : Fin 18) (r : ℕ) (d : Fin 3) : (ringRd (F := F) m).amount (kc c k) r d = amt k := by
  dsimp only [ringRd]; rw [kidx_ksem]
theorem payload_kc (c : Dev nD) (k : Fin 18) (r : ℕ) (d : Fin 3) : (ringRd (F := F) m).payload (kc c k) r d = pay m c k r d := by
  dsimp only [ringRd]; rw [kidx_ksem]
theorem expect_one (c : Dev nD) {k : Fin 18} {r : ℕ} (h : dut k r = {0}) : (ringRd (F := F) m).expect (kc c k) r = amt k := by
  unfold Schedule.expect Schedule.amountOf; rw [duties_kc, h, Finset.sum_singleton, amount_kc]
theorem expect_bar (c : Dev nD) : (ringRd (F := F) m).expect (kc c 0) 0 = 3 := by
  unfold Schedule.expect Schedule.amountOf
  rw [duties_kc, Finset.sum_congr rfl fun d _ => amount_kc m c 0 0 d]; rfl

/-! ### What is owed, and the order of the waits -/

/-- The dues of device `c` still to pay: `(j, k)` is one duty of cell `k` of the device `j` places on; the next to pay
    comes first. -/
def owe (c : Dev nD) : List (ℕ × Fin 18) → CellTallies nD τ sig Unit
  | [] => 0
  | p :: l => owe c l + tallyAt (kc (rot p.1 c) p.2) () (amt p.2)

/-- All of them. -/
def dues : List (ℕ × Fin 18) :=
  [(1, 0), (2, 0), (3, 0), (1, 4), (1, 10), (1, 5), (1, 11), (3, 15), (1, 6), (1, 12), (2, 16), (1, 17)]

def L (g : GSem nD τ sig) : Finset Unit := if g.1.2 = .tc then {()} else ∅
theorem L_of_ne (g : GSem nD τ sig) (h : g.1.2 ≠ .tc) : L g = ∅ := if_neg h

/-- A cell's level: a device waits on it only while everything it owes lies above. -/
def klv : Fin 18 → ℕ := ![1, 0, 0, 0, 2, 3, 4, 0, 0, 0, 2, 3, 4, 0, 0, 5, 5, 5]
def lv (g : GSem nD τ sig) (_ : Unit) : ℕ := match kidx g.2 with | some k => klv k | none => 0

theorem lv_kc (c : Dev nD) (k : Fin 18) : lv (kc c k) () = klv k := by unfold lv; rw [kidx_ksem]

omit [FloatOps F] in
theorem owe_pos {c : Dev nD} {g : GSem nD τ sig} {u : Unit} : ∀ {l : List (ℕ × Fin 18)}, 0 < owe c l g u → ∃ p ∈ l, g = kc (rot p.1 c) p.2
  | [], h => absurd h (Nat.lt_irrefl 0)
  | p :: l, h => by
    rcases Pipeline.add_pos_cases h with h | h
    · obtain ⟨q, hq, e⟩ := owe_pos h; exact ⟨q, List.mem_cons_of_mem _ hq, e⟩
    · exact ⟨p, List.mem_cons_self, (Pipeline.tallyAt_pos h).1⟩

theorem mayWait_owe (c : Dev nD) {sm : SemLoc sig} {l : List (ℕ × Fin 18)} (h : ∀ p ∈ l, lv ((c : Thread nD τ), sm) () < klv p.2) :
    (levAts L lv : sProp 𝕄) ⊢ MayWait (c : Thread nD τ) sm () (owe c l) :=
  Pipeline.mayWait_of_levAts (by unfold L; rw [if_pos rfl]; exact Finset.mem_singleton_self _) fun g u hg => by
    obtain ⟨p, hp, rfl⟩ := owe_pos hg
    refine ⟨by unfold L; rw [if_pos rfl]; exact Finset.mem_singleton_self _, ?_⟩
    rw [show lv (kc (rot p.1 c) p.2) u = klv p.2 from lv_kc _ _]; exact h p hp

theorem mayFeed_owe (c : Dev nD) {l : List (ℕ × Fin 18)} (h : ∀ p ∈ l, 0 < klv p.2) :
    (levAts L lv : sProp 𝕄) ⊢ mayFeed c cc0_scratch12 (owe c l) := by
  unfold mayFeed
  have h0 : (levAts L lv : sProp 𝕄) ⊢ MayWait (c : Thread nD τ) (.dma (sem2 cc0_scratch12 0 inb_S2_S1_0)) () (owe c l) :=
    mayWait_owe c fun p hp => h p hp
  have h1 : (levAts L lv : sProp 𝕄) ⊢ MayWait (c : Thread nD τ) (.dma (sem2 cc0_scratch12 1 inb_S2_S1_1)) () (owe c l) :=
    mayWait_owe c fun p hp => h p hp
  iintro #H
  isplitr
  · iapply h0; iexact H
  · iapply h1; iexact H

end Cert.KernelIdeal.Moe

end
-- ==== Proof.StepsI.lean ====
/- One step of the protocol at a time: a signal, the barrier's wait, a transfer to another device, a wait for one, the
   closing of a cell. -/
module

public import proofs.«01_k».proof.Proof.RingI

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 18 → ℕ)

/-- What every device knows: the invariant of every cell, that each has begun, and the levels. -/
def known : sProp 𝕄 :=
  iprop(bigSep Finset.univ (fun p : Dev nD × Fin 18 => cellInv EB (ringRd m) (K p) (kc p.1 p.2))
    ∗ bigSep Finset.univ (fun p : Dev nD × Fin 18 => reached EB (kc p.1 p.2) 0)
    ∗ levAts L lv)

instance known_persistent : BI.Persistent (known m K : sProp 𝕄) := by unfold known; infer_instance

theorem known_inv (c : Dev nD) (k : Fin 18) : (known m K : sProp 𝕄) ⊢ cellInv EB (ringRd m) (K (c, k)) (kc c k) := by
  have h : (bigSep Finset.univ (fun p : Dev nD × Fin 18 => cellInv EB (ringRd m) (K p) (kc p.1 p.2)) : sProp 𝕄)
      ⊢ cellInv EB (ringRd m) (K (c, k)) (kc c k) := bigSep_elim (Finset.mem_univ (c, k))
  unfold known
  iintro ⟨H, -, -⟩
  iapply h; iexact H

theorem known_reached (c : Dev nD) (k : Fin 18) : (known m K : sProp 𝕄) ⊢ reached EB (kc c k) 0 := by
  have h : (bigSep Finset.univ (fun p : Dev nD × Fin 18 => reached EB (kc p.1 p.2) 0) : sProp 𝕄)
      ⊢ reached EB (kc c k) 0 := bigSep_elim (Finset.mem_univ (c, k))
  unfold known
  iintro ⟨-, H, -⟩
  iapply h; iexact H

theorem known_lev : (known m K : sProp 𝕄) ⊢ levAts L lv := by
  unfold known
  iintro ⟨-, -, H⟩
  iexact H

theorem known_feed (c : Dev nD) {l : List (ℕ × Fin 18)} (h : ∀ p ∈ l, 0 < klv p.2) :
    (known m K : sProp 𝕄) ⊢ mayFeed c cc0_scratch12 (owe c l) := (known_lev m K).trans (mayFeed_owe c h)

/-- A transfer's wait on cell `k` of its own: the round closes and its payload comes out. -/
theorem run_wait (c : Dev nD) (k : Fin 18) (r : ℕ) {α : Type} {Q : α → sProp 𝕄} {sp sp' : Space} {s s' : Shape} {e e' : EltTy}
    {srcw : Memref sig .tc sp' s' e'} {dstw : Memref sig .tc sp s e} {sm : DmaSem sig}
    {hsrc : srcw.view.WordExact} {hdst : dstw.view.WordExact} {f : PUnit → TP F α} {l : List (ℕ × Fin 18)}
    (hs : SemLoc.dma sm = ksem k) (hN : dstw.view.dmaCredit = amt k) (hd : dut k r = {0}) (hl : ∀ p ∈ l, klv k < klv p.2) :
    iprop(known m K ∗ cred (tallyAt (kc c k) () (amt k)) ∗ ow c (owe c l) ∗ atPos EB (kc c k) r ∅ 0)
      ⊢ iprop(((ow c (owe c l) ∗ atPos EB (kc c k) (r + 1) ∅ 0 ∗ reached EB (kc c k) (r + 1) ∗ pay m c k r 0) -∗ runs c (f ⟨⟩) Q)
          -∗ runs c (.op (.waitDma2 sm srcw dstw hsrc hdst) f) Q) := by
  have hw : (known m K : sProp 𝕄) ⊢ MayWait (c : Thread nD τ) (ksem k) () (owe c l) :=
    (known_lev m K).trans (mayWait_owe c fun p hp => by rw [show lv ((c : Thread nD τ), ksem k) () = klv k from lv_kc c k]; exact hl p hp)
  unfold ow
  iintro ⟨#HK, Hc, ⟨%W, HO⟩, Hat⟩ Hk
  ihave HI := (known_inv m K c k) $$ HK
  ihave HM := hw $$ HK
  iapply (Rounds.wp_wait_rest_token 𝒱₀ EB (ringRd m) (c : Thread nD τ) none (κ := K (c, k)) (sm := ksem k)
      (hs ▸ wpE_waitDma2_eq 𝒱₀ (c : Thread nD τ) none Set.univ) (Set.mem_univ _) () (O := owe c l) (W := W) (R := r) (m := 0) (T := ∅)
      (by rw [expect_one m c hd, hN, Nat.zero_add])) $$ [HI Hc HO HM Hat]
  · isplitl [HI]; · iexact HI
    isplitl [Hc]; · rw [hN]; iexact Hc
    isplitl [HO]; · iexact HO
    isplitl [HM]; · iexact HM
    iexact Hat
  iintro ⟨HO, Hat, Hr, Hp⟩
  have hpay : (bigSep ((ringRd (F := F) m).duties (kc c k) r \ ∅) (fun d => (ringRd (F := F) m).payload (kc c k) r d) : sProp 𝕄) ⊢ pay m c k r 0 := by
    rw [duties_kc, hd, Finset.sdiff_empty, bigSep_singleton, payload_kc]
  iapply Hk
  isplitl [HO]; · iexists _; iexact HO
  isplitl [Hat]; · iexact Hat
  isplitl [Hr]; · iexact Hr
  iapply hpay; iexact Hp

/-- The barrier's wait: what its three duties bring. -/
theorem run_barwait (c : Dev nD) {α : Type} {Q : α → sProp 𝕄} {f : PUnit → TP F α} {l : List (ℕ × Fin 18)}
    (hl : ∀ p ∈ l, klv 0 < klv p.2) :
    iprop(known m K ∗ cred (tallyAt (kc c 0) () 3) ∗ ow c (owe c l) ∗ atPos EB (kc c 0) 0 ∅ 0)
      ⊢ iprop(((ow c (owe c l) ∗ atPos EB (kc c 0) 1 ∅ 0 ∗ barPay c 0 ∗ barPay c 1 ∗ barPay c 2) -∗ runs c (f ⟨⟩) Q)
          -∗ runs c (.op (.semWait barS 3) f) Q) := by
  have hw : (known m K : sProp 𝕄) ⊢ MayWait (c : Thread nD τ) (ksem 0) () (owe c l) :=
    (known_lev m K).trans (mayWait_owe c fun p hp => by rw [show lv ((c : Thread nD τ), ksem 0) () = klv 0 from lv_kc c 0]; exact hl p hp)
  unfold ow
  iintro ⟨#HK, Hc, ⟨%W, HO⟩, Hat⟩ Hk
  ihave HI := (known_inv m K c 0) $$ HK
  ihave HM := hw $$ HK
  iapply (Rounds.wp_wait_rest_token 𝒱₀ EB (ringRd m) (c : Thread nD τ) none (κ := K (c, 0)) (sm := ksem 0)
      (wpE_semWait_eq 𝒱₀ (c : Thread nD τ) none Set.univ) (Set.mem_univ _) () (O := owe c l) (W := W) (R := 0) (m := 0) (T := ∅)
      (by rw [show Schedule.expect (ringRd (F := F) m) ((c : Thread nD τ), ksem 0) 0 = 3 from expect_bar m c])) $$ [HI Hc HO HM Hat]
  · isplitl [HI]; · iexact HI
    isplitl [Hc]; · iexact Hc
    isplitl [HO]; · iexact HO
    isplitl [HM]; · iexact HM
    iexact Hat
  iintro ⟨HO, Hat, -, Hp⟩
  have hpay : (bigSep ((ringRd (F := F) m).duties (kc c 0) 0 \ ∅) (fun d => (ringRd (F := F) m).payload (kc c 0) 0 d) : sProp 𝕄)
      ⊢ iprop(barPay c 0 ∗ barPay c 1 ∗ barPay c 2) := by
    rw [duties_kc, Finset.sdiff_empty, bigSep_eq_bigSepL_of_eq [0, 1, 2] (by decide) (by decide)]
    simp only [payload_kc]
    exact Entails.refl _
  iapply Hk
  isplitl [HO]; · iexists _; iexact HO
  isplitl [Hat]; · iexact Hat
  iapply hpay; iexact Hp

/-- A signal to the barrier of the device `j` places on, paying duty `d` there. -/
theorem run_signal (c : Dev nD) (j : ℕ) (d : Fin 3) {n : Dev nD} (hn : n = rot j c) {α : Type} {Q : α → sProp 𝕄} {f : PUnit → TP F α}
    {l : List (ℕ × Fin 18)} :
    iprop(known m K ∗ ow c (owe c ((j, 0) :: l)) ∗ dutyTok EB (kc (rot j c) 0) 0 d ∗ barPay (rot j c) d)
      ⊢ iprop((ow c (owe c l) -∗ runs c (f ⟨⟩) Q) -∗ runs c (.op (.semSignal (n : Thread nD τ) barS 1) f) Q) := by
  subst hn
  unfold ow
  iintro ⟨#HK, ⟨%W, HO⟩, Ht, Hp⟩ Hk
  ihave HI := (known_inv m K (rot j c) 0) $$ HK
  ihave HR := (known_reached m K (rot j c) 0) $$ HK
  iapply (Rounds.wp_signal 𝒱₀ EB (ringRd m) (c : Thread nD τ) none (dst := (rot j c : Thread nD τ)) (κ := K (rot j c, 0)) (r := 0) (d := d)
      (by rw [show (ringRd (F := F) m).duties ((rot j c : Thread nD τ), .reg barS) 0 = _ from duties_kc m (rot j c) 0 0]; exact Finset.mem_univ _)
      (amount_kc m (rot j c) 0 0 d) () (owe c l) rfl (W := W)) $$ [HI HR HO Ht Hp]
  · isplitl [HI]; · iexact HI
    isplitl [HO]; · iexact HO
    isplitl [Ht]; · iexact Ht
    isplitl [Hp]
    · rw [show (ringRd (F := F) m).payload ((rot j c : Thread nD τ), .reg barS) 0 d = _ from payload_kc m (rot j c) 0 0 d,
        show pay m (rot j c) 0 0 d = barPay (rot j c) d from rfl]; iexact Hp
    iexact HR
  iintro HO
  iapply Hk
  iexists W; iexact HO

/-- A transfer of `src` to the device `j` places on: its own cell `ks` will give `src`'s share back, cell `kr` there hands over
    the destination at what `src` held. -/
theorem run_send (c : Dev nD) (j : ℕ) (ks kr : Fin 18) (rs : ℕ) {n : Dev nD} (hn : n = rot j c)
    {α : Type} {Q : α → sProp 𝕄} {s : Shape} {e : EltTy} {src : Memref sig (c : Thread nD τ).2.kind .vmem s e}
    {dst : Memref sig .tc .vmem s e} {sS sR : DmaSem sig}
    {hsc : (dst : Memref sig (Dev.tc n : Thread nD τ).2.kind .vmem s e).view.ref.isScScratch = false}
    {hsrc : src.view.WordExact} {hdst : dst.view.WordExact}
    {hsem : DmaTarget.Typed .vmem (.dma sR) (.remote (Dev.tc n : Thread nD τ) (dst : Memref sig .tc .vmem s e) (.dma sS) hsc)}
    {f : PUnit → TP F α} {q : PosShare TreeShare} {X : s.Idx → Elt F e} {l : List (ℕ × Fin 18)}
    (hsS : SemLoc.dma sS = ksem ks) (hsR : SemLoc.dma sR = ksem kr) (hN : dst.view.dmaCredit = amt kr) (hNs : amt ks = amt kr)
    (hds : dut ks rs = {0}) (hdr : dut kr 0 = {0})
    (hp1 : owns (c : Thread nD τ) (src : Memref sig .tc .vmem s e) q X ⊢ pay m c ks rs 0)
    (hp2 : owns (rot j c : Thread nD τ) dst fullShare X ⊢ pay m (rot j c) kr 0 0) :
    iprop(known m K ∗ ow c (owe c ((j, kr) :: l)) ∗ owns (c : Thread nD τ) (src : Memref sig .tc .vmem s e) q X ∗ some' (rot j c) dst
        ∗ dutyTok EB (kc c ks) rs 0 ∗ reached EB (kc c ks) rs ∗ dutyTok EB (kc (rot j c) kr) 0 0)
      ⊢ iprop(((ow c (owe c l) ∗ cred (tallyAt (kc c ks) () (amt ks))) -∗ runs c (f ⟨⟩) Q)
          -∗ runs c (.op (.enqueueDma src (.remote (Dev.tc n : Thread nD τ) dst (.dma sS) hsc) (.dma sR) hsrc hdst hsem) f) Q) := by
  subst hn
  unfold ow some' owns
  iintro ⟨#HK, ⟨%W, HO⟩, ⟨%fs, %hfs, Hs⟩, ⟨%Y, %fd, -, Hd⟩, HtS, HrS, HtR⟩ Hk
  ihave HI1 := (known_inv m K c ks) $$ HK
  ihave HI2 := (known_inv m K (rot j c) kr) $$ HK
  ihave HR2 := (known_reached m K (rot j c) kr) $$ HK
  have e1 : (((c : Thread nD τ), SemLoc.dma sS) : GSem nD τ sig) = kc c ks := by rw [hsS]
  have e2 : (((rot j c : Thread nD τ), SemLoc.dma sR) : GSem nD τ sig) = kc (rot j c) kr := by rw [hsR]
  rw [← e1, ← e2, hNs]
  iapply (Rounds.wp_send_pointsTo 𝒱₀ EB (ringRd m) (c : Thread nD τ) none (κ₁ := K (c, ks)) (κ₂ := K (rot j c, kr)) (c' := (rot j c : Thread nD τ)) (src := src)
      (dst := (dst : Memref sig (rot j c : Thread nD τ).2.kind .vmem s e)) (sS := .dma sS) (sem := .dma sR) (k := f) (Q := Q)
      (r₁ := rs) (r₂ := 0) (d₁ := 0) (d₂ := 0) (fs := fs) (fd := fd) (q := q) (W := W) (hsrc := hsrc) (hdst := hdst) (hsem := hsem) (hsc := hsc)
      (by rw [e1, duties_kc, hds]; exact Finset.mem_singleton_self _) (by rw [e2, duties_kc, hdr]; exact Finset.mem_singleton_self _)
      () () (amt kr) hN (by rw [e1, amount_kc, hNs]) (by rw [e2, amount_kc]) (owe c l) (by rw [e2])
      (by
        rw [e1, payload_kc]
        refine BIBase.Entails.trans ?_ hp1
        unfold owns
        iintro H
        iexists fs
        isplitr
        · ipureintro; exact hfs
        · iexact H)
      (by
        rw [e2, payload_kc]
        refine BIBase.Entails.trans ?_ hp2
        unfold owns
        iintro H
        iexists (dst.view.write (Elt F) fd (src.view.read (Elt F) fs) Finset.univ)
        isplitr
        · ipureintro; rw [View.read_write_univ]; exact hfs
        · iexact H)) $$ [HI1 HI2 Hs Hd HO HtS HrS HtR HR2]
  · isplitl [HI1]; · iexact HI1
    isplitl [HI2]; · iexact HI2
    isplitl [Hs]; · iexact Hs
    isplitl [Hd]; · iexact Hd
    isplitl [HO]; · iexact HO
    isplitl [HtS]; · iexact HtS
    isplitl [HrS]; · iexact HrS
    isplitl [HtR] <;> iassumption
  iintro ⟨Hc, HO⟩
  iapply Hk
  isplitl [HO]; · iexists W; iexact HO
  iexact Hc

/-- A cell past its last round gives its semaphore back at zero. -/
theorem close (c : Dev nD) (k : Fin 18) {r : ℕ} (h : ∀ r', r ≤ r' → dut k r' = ∅) :
    iprop(known m K ∗ atPos EB (kc c k) r ∅ 0) ⊢ (iprop(|={Set.univ}=> semVal (kc c k) 0) : sProp 𝕄) := by
  iintro ⟨#HK, Hat⟩
  ihave HI := (known_inv m K c k) $$ HK
  iapply (Rounds.cell_close EB (ringRd m) (κ := K (c, k)) (Set.mem_univ _) not_false fun r' hr => by rw [duties_kc, h r' hr])
  isplitl [HI] <;> iassumption

end Cert.KernelIdeal.Moe

end
-- ==== Proof.SlotsI.lean ====
/- The buffers of the ring, cut into their slots and put together again; and a slot read through the whole buffer. -/
module

public import proofs.«01_k».proof.Proof.StepsI
public import Idealize.ShloMosaic.Lib.Pointwise.Reshape

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section
variable {ℓ : Loc nD τ sig} {n : ℕ} (K : Fin n → Finset (Idx ℓ)) (hd : ∀ t t', t ≠ t' → Disjoint (K t) (K t'))
  (hu : Finset.univ.biUnion K = Finset.univ)

include hd hu in
/-- A whole buffer is its parts. -/
theorem cut (f : Buf (Elt F) ℓ) : (ℓ ↦{fullShare} f : sProp 𝕄) ⊢ bigSep Finset.univ fun t => ℓ ↦[K t]{fullShare} f := by
  rw [← hu, pointsTo_biUnion _ K (fun t _ t' _ h => hd t t' h)]

include hd hu in
/-- The parts of a buffer, whatever each holds, are the whole buffer at some contents. -/
theorem uncut (hn : 0 < n) :
    (bigSep Finset.univ fun t => (iprop(∃ f, ℓ ↦[K t]{fullShare} f) : sProp 𝕄)) ⊢ iprop(∃ f, ℓ ↦{fullShare} f) := by
  have h0 : (bigSep Finset.univ fun t => (iprop(∃ f, ℓ ↦[K t]{fullShare} f) : sProp 𝕄))
      ⊢ iprop(∃ fs : Fin n → Buf (Elt F) ℓ, bigSep Finset.univ fun t => ℓ ↦[K t]{fullShare} fs t) := BI.bigSep_exists_pi _ _
  refine h0.trans ?_
  iintro ⟨%fs, H⟩
  have h := pointsTo_biUnion_join (Ix := Unit) (Name := ℕ) (U := UU) (Lvl := ℕ) (q := fullShare) Finset.univ K fs
    (fs ⟨0, hn⟩) (fun t _ t' _ h => hd t t' h)
  rw [hu] at h
  ihave H2 := h $$ H
  icases H2 with ⟨%g, -, H⟩
  iexists g; iexact H

end

/-- The elements of a buffer at place `t` of its first axis. -/
def row {s : Shape} (h : 0 < s.rank) (n : ℕ) (t : Fin n) : Finset s.Idx := Finset.univ.filter fun x => (x ⟨0, h⟩ : ℕ) = t.val

omit [FloatOps F] in
theorem row_disjoint {s : Shape} (h : 0 < s.rank) {n : ℕ} (t t' : Fin n) (ht : t ≠ t') : Disjoint (row h n t) (row (s := s) h n t') :=
  Finset.disjoint_left.mpr fun x hx hx' => ht (Fin.ext ((Finset.mem_filter.mp hx).2.symm.trans (Finset.mem_filter.mp hx').2))

theorem row_cover {s : Shape} (h : 0 < s.rank) {n : ℕ} (hn : s.size ⟨0, h⟩ = n) : Finset.univ.biUnion (row (s := s) h n) = Finset.univ :=
  Finset.eq_univ_iff_forall.mpr fun x => Finset.mem_biUnion.mpr
    ⟨⟨x ⟨0, h⟩, hn ▸ (x ⟨0, h⟩).isLt⟩, Finset.mem_univ _, Finset.mem_filter.mpr ⟨Finset.mem_univ _, rfl⟩⟩

/-- The elements of a block one place thick along the first of three axes are that place's. -/
theorem slot_set (p a b i : ℕ) (hi : i < p)
    (h : ∀ k, (![i, 0, 0] : Fin 3 → ℕ) k + (⟨3, ![1, a, b]⟩ : Shape).size k ≤ (⟨3, ![p, a, b]⟩ : Shape).size k) :
    (Rect.unit (s := ⟨3, ![p, a, b]⟩) ![i, 0, 0] (⟨3, ![1, a, b]⟩ : Shape).size h).set = row (s := ⟨3, ![p, a, b]⟩) (Nat.succ_pos 2) p ⟨i, hi⟩ := by
  refine Finset.ext fun x => ?_
  rw [Rect.mem_set_unit]
  constructor
  · intro hx
    have h0 := hx 0
    refine Finset.mem_filter.mpr ⟨Finset.mem_univ _, ?_⟩
    have h1 : i ≤ (x 0).val ∧ (x 0).val < i + 1 := h0
    show (x 0).val = i
    omega
  · intro hx
    have e : (x 0).val = i := (Finset.mem_filter.mp hx).2
    intro k
    match k with
    | 0 => exact ⟨le_of_eq e.symm, by show (x 0).val < i + 1; omega⟩
    | 1 => exact ⟨Nat.zero_le _, by show (x 1).val < 0 + a; rw [Nat.zero_add]; exact (x 1).isLt⟩
    | 2 => exact ⟨Nat.zero_le _, by show (x 2).val < 0 + b; rw [Nat.zero_add]; exact (x 2).isLt⟩

section
variable (c : Dev nD)

/-- A memref whose elements are `S`, from those elements at some contents; and back. -/
theorem some_of {s : Shape} {e : EltTy} {M : Memref sig .tc .vmem s e} {S : Finset (Idx (M.view.loc (c : Thread nD τ)))} (hS : M.view.set = S)
    (f : Buf (Elt F) (M.view.loc (c : Thread nD τ))) : (M.view.loc (c : Thread nD τ) ↦[S]{fullShare} f : sProp 𝕄) ⊢ some' c M := by
  subst hS
  unfold some' owns
  iintro H
  iexists (M.view.read (Elt F) f); iexists f
  isplitr
  · ipureintro; rfl
  · iexact H

theorem of_some {s : Shape} {e : EltTy} {M : Memref sig .tc .vmem s e} {S : Finset (Idx (M.view.loc (c : Thread nD τ)))} (hS : M.view.set = S) :
    (some' c M : sProp 𝕄) ⊢ iprop(∃ f : Buf (Elt F) (M.view.loc (c : Thread nD τ)), M.view.loc (c : Thread nD τ) ↦[S]{fullShare} f) := by
  subst hS
  unfold some' owns
  iintro ⟨%Y, %f, -, H⟩
  iexists f; iexact H

/-- Held at known contents is held. -/
theorem to_some {s : Shape} {e : EltTy} {M : Memref sig .tc .vmem s e} {X : s.Idx → Elt F e} :
    (owns (c : Thread nD τ) M fullShare X : sProp 𝕄) ⊢ some' c M := by
  iintro H; iexists X; iexact H

end

section
variable {ℓ : Loc nD τ sig}

/-- A buffer of three slots, whatever it holds, is its slots. -/
theorem cut3 {K : Fin 3 → Finset (Idx ℓ)} (hd : ∀ t t', t ≠ t' → Disjoint (K t) (K t')) (hu : Finset.univ.biUnion K = Finset.univ)
    {P0 P1 P2 : sProp 𝕄}
    (h0 : ∀ f, (ℓ ↦[K 0]{fullShare} f) ⊢ P0) (h1 : ∀ f, (ℓ ↦[K 1]{fullShare} f) ⊢ P1) (h2 : ∀ f, (ℓ ↦[K 2]{fullShare} f) ⊢ P2) :
    (iprop(∃ f, ℓ ↦{fullShare} f) : sProp 𝕄) ⊢ iprop(P0 ∗ P1 ∗ P2) := by
  iintro ⟨%f, H⟩
  ihave H2 := (cut K hd hu f) $$ H
  have e : (bigSep Finset.univ (fun t => ℓ ↦[K t]{fullShare} f) : sProp 𝕄)
      ⊢ iprop((ℓ ↦[K 0]{fullShare} f) ∗ (ℓ ↦[K 1]{fullShare} f) ∗ (ℓ ↦[K 2]{fullShare} f)) := by
    rw [bigSep_eq_bigSepL_of_eq [0, 1, 2] (by decide) (by decide)]; exact BIBase.Entails.rfl
  ihave H3 := e $$ H2
  icases H3 with ⟨A, B, C⟩
  isplitl [A]; · iapply (h0 f); iexact A
  isplitl [B]; · iapply (h1 f); iexact B
  iapply (h2 f); iexact C

theorem uncut3 {K : Fin 3 → Finset (Idx ℓ)} (hd : ∀ t t', t ≠ t' → Disjoint (K t) (K t')) (hu : Finset.univ.biUnion K = Finset.univ)
    {P0 P1 P2 : sProp 𝕄}
    (h0 : P0 ⊢ iprop(∃ f, ℓ ↦[K 0]{fullShare} f)) (h1 : P1 ⊢ iprop(∃ f, ℓ ↦[K 1]{fullShare} f)) (h2 : P2 ⊢ iprop(∃ f, ℓ ↦[K 2]{fullShare} f)) :
    (iprop(P0 ∗ P1 ∗ P2) : sProp 𝕄) ⊢ iprop(∃ f, ℓ ↦{fullShare} f) := by
  refine BIBase.Entails.trans ?_ (uncut K hd hu (by decide))
  rw [bigSep_eq_bigSepL_of_eq [0, 1, 2] (by decide) (by decide)]
  exact BI.sep_mono h0 (BI.sep_mono h1 h2)

theorem cut2 {K : Fin 2 → Finset (Idx ℓ)} (hd : ∀ t t', t ≠ t' → Disjoint (K t) (K t')) (hu : Finset.univ.biUnion K = Finset.univ)
    {P0 P1 : sProp 𝕄}
    (h0 : ∀ f, (ℓ ↦[K 0]{fullShare} f) ⊢ P0) (h1 : ∀ f, (ℓ ↦[K 1]{fullShare} f) ⊢ P1) :
    (iprop(∃ f, ℓ ↦{fullShare} f) : sProp 𝕄) ⊢ iprop(P0 ∗ P1) := by
  iintro ⟨%f, H⟩
  ihave H2 := (cut K hd hu f) $$ H
  have e : (bigSep Finset.univ (fun t => ℓ ↦[K t]{fullShare} f) : sProp 𝕄)
      ⊢ iprop((ℓ ↦[K 0]{fullShare} f) ∗ (ℓ ↦[K 1]{fullShare} f)) := by
    rw [bigSep_eq_bigSepL_of_eq [0, 1] (by decide) (by decide)]; exact BIBase.Entails.rfl
  ihave H3 := e $$ H2
  icases H3 with ⟨A, B⟩
  isplitl [A]; · iapply (h0 f); iexact A
  iapply (h1 f); iexact B

theorem uncut2 {K : Fin 2 → Finset (Idx ℓ)} (hd : ∀ t t', t ≠ t' → Disjoint (K t) (K t')) (hu : Finset.univ.biUnion K = Finset.univ)
    {P0 P1 : sProp 𝕄}
    (h0 : P0 ⊢ iprop(∃ f, ℓ ↦[K 0]{fullShare} f)) (h1 : P1 ⊢ iprop(∃ f, ℓ ↦[K 1]{fullShare} f)) :
    (iprop(P0 ∗ P1) : sProp 𝕄) ⊢ iprop(∃ f, ℓ ↦{fullShare} f) := by
  refine BIBase.Entails.trans ?_ (uncut K hd hu (by decide))
  rw [bigSep_eq_bigSepL_of_eq [0, 1] (by decide) (by decide)]
  exact BI.sep_mono h0 h1

end

section
variable (c : Dev nD)

/-- A buffer of device `c`, whole, whatever it holds. -/
abbrev any (b : Ref sig .tc) : sProp 𝕄 := iprop(∃ f : Buf (Elt F) ((c : Thread nD τ).loc b), ((c : Thread nD τ).loc b) ↦{fullShare} f)

theorem set_xs0 : (xs0).view.set = row (s := ⟨3, ![3, 1024, 1024]⟩) (Nat.succ_pos 2) 3 0 :=
  (View.set_reshape _ _).trans ((View.set_slice_whole _ _).trans (slot_set 3 1024 1024 0 (by decide) _))
theorem set_xs1 : (xs1).view.set = row (s := ⟨3, ![3, 1024, 1024]⟩) (Nat.succ_pos 2) 3 1 :=
  (View.set_reshape _ _).trans ((View.set_slice_whole _ _).trans (slot_set 3 1024 1024 1 (by decide) _))
theorem set_xs2 : (xs2).view.set = row (s := ⟨3, ![3, 1024, 1024]⟩) (Nat.succ_pos 2) 3 2 :=
  (View.set_reshape _ _).trans ((View.set_slice_whole _ _).trans (slot_set 3 1024 1024 2 (by decide) _))

theorem cut_xs : (any c cc0_scratch0 : sProp 𝕄) ⊢ iprop(some' c xs0 ∗ some' c xs1 ∗ some' c xs2) :=
  cut3 (ℓ := (c : Thread nD τ).loc cc0_scratch0) (K := row (s := ⟨3, ![3, 1024, 1024]⟩) (Nat.succ_pos 2) 3) (row_disjoint _) (row_cover _ rfl)
    (some_of c (M := xs0) set_xs0) (some_of c (M := xs1) set_xs1) (some_of c (M := xs2) set_xs2)

theorem uncut_xs : (iprop(some' c xs0 ∗ some' c xs1 ∗ some' c xs2) : sProp 𝕄) ⊢ any c cc0_scratch0 :=
  uncut3 (ℓ := (c : Thread nD τ).loc cc0_scratch0) (K := row (s := ⟨3, ![3, 1024, 1024]⟩) (Nat.succ_pos 2) 3) (row_disjoint _) (row_cover _ rfl)
    (of_some c (M := xs0) set_xs0) (of_some c (M := xs1) set_xs1) (of_some c (M := xs2) set_xs2)

theorem set_as0 : (as0).view.set = row (s := ⟨3, ![3, 1024, 1]⟩) (Nat.succ_pos 2) 3 0 :=
  (View.set_reshape _ _).trans ((View.set_slice_whole _ _).trans (slot_set 3 1024 1 0 (by decide) _))
theorem set_as1 : (as1).view.set = row (s := ⟨3, ![3, 1024, 1]⟩) (Nat.succ_pos 2) 3 1 :=
  (View.set_reshape _ _).trans ((View.set_slice_whole _ _).trans (slot_set 3 1024 1 1 (by decide) _))
theorem set_as2 : (as2).view.set = row (s := ⟨3, ![3, 1024, 1]⟩) (Nat.succ_pos 2) 3 2 :=
  (View.set_reshape _ _).trans ((View.set_slice_whole _ _).trans (slot_set 3 1024 1 2 (by decide) _))

theorem cut_as : (any c cc0_scratch1 : sProp 𝕄) ⊢ iprop(some' c as0 ∗ some' c as1 ∗ some' c as2) :=
  cut3 (ℓ := (c : Thread nD τ).loc cc0_scratch1) (K := row (s := ⟨3, ![3, 1024, 1]⟩) (Nat.succ_pos 2) 3) (row_disjoint _) (row_cover _ rfl)
    (some_of c (M := as0) set_as0) (some_of c (M := as1) set_as1) (some_of c (M := as2) set_as2)

theorem uncut_as : (iprop(some' c as0 ∗ some' c as1 ∗ some' c as2) : sProp 𝕄) ⊢ any c cc0_scratch1 :=
  uncut3 (ℓ := (c : Thread nD τ).loc cc0_scratch1) (K := row (s := ⟨3, ![3, 1024, 1]⟩) (Nat.succ_pos 2) 3) (row_disjoint _) (row_cover _ rfl)
    (of_some c (M := as0) set_as0) (of_some c (M := as1) set_as1) (of_some c (M := as2) set_as2)

theorem set_pb0 : (pb0).view.set = row (s := ⟨3, ![3, 1024, 1024]⟩) (Nat.succ_pos 2) 3 0 :=
  (View.set_reshape _ _).trans ((View.set_slice_whole _ _).trans (slot_set 3 1024 1024 0 (by decide) _))
theorem set_pb1 : (pb1).view.set = row (s := ⟨3, ![3, 1024, 1024]⟩) (Nat.succ_pos 2) 3 1 :=
  (View.set_reshape _ _).trans ((View.set_slice_whole _ _).trans (slot_set 3 1024 1024 1 (by decide) _))
theorem set_pb2 : (pb2).view.set = row (s := ⟨3, ![3, 1024, 1024]⟩) (Nat.succ_pos 2) 3 2 :=
  (View.set_reshape _ _).trans ((View.set_slice_whole _ _).trans (slot_set 3 1024 1024 2 (by decide) _))

theorem cut_pb : (any c cc0_scratch2 : sProp 𝕄) ⊢ iprop(some' c pb0 ∗ some' c pb1 ∗ some' c pb2) :=
  cut3 (ℓ := (c : Thread nD τ).loc cc0_scratch2) (K := row (s := ⟨3, ![3, 1024, 1024]⟩) (Nat.succ_pos 2) 3) (row_disjoint _) (row_cover _ rfl)
    (some_of c (M := pb0) set_pb0) (some_of c (M := pb1) set_pb1) (some_of c (M := pb2) set_pb2)

theorem uncut_pb : (iprop(some' c pb0 ∗ some' c pb1 ∗ some' c pb2) : sProp 𝕄) ⊢ any c cc0_scratch2 :=
  uncut3 (ℓ := (c : Thread nD τ).loc cc0_scratch2) (K := row (s := ⟨3, ![3, 1024, 1024]⟩) (Nat.succ_pos 2) 3) (row_disjoint _) (row_cover _ rfl)
    (of_some c (M := pb0) set_pb0) (of_some c (M := pb1) set_pb1) (of_some c (M := pb2) set_pb2)

theorem set_ps0 : (ps0).view.set = row (s := ⟨3, ![2, 1024, 1024]⟩) (Nat.succ_pos 2) 2 0 :=
  (View.set_reshape _ _).trans ((View.set_slice_whole _ _).trans (slot_set 2 1024 1024 0 (by decide) _))
theorem set_ps1 : (ps1).view.set = row (s := ⟨3, ![2, 1024, 1024]⟩) (Nat.succ_pos 2) 2 1 :=
  (View.set_reshape _ _).trans ((View.set_slice_whole _ _).trans (slot_set 2 1024 1024 1 (by decide) _))

theorem cut_ps : (any c cc0_scratch3 : sProp 𝕄) ⊢ iprop(some' c ps0 ∗ some' c ps1) :=
  cut2 (ℓ := (c : Thread nD τ).loc cc0_scratch3) (K := row (s := ⟨3, ![2, 1024, 1024]⟩) (Nat.succ_pos 2) 2) (row_disjoint _) (row_cover _ rfl)
    (some_of c (M := ps0) set_ps0) (some_of c (M := ps1) set_ps1)

theorem uncut_ps : (iprop(some' c ps0 ∗ some' c ps1) : sProp 𝕄) ⊢ any c cc0_scratch3 :=
  uncut2 (ℓ := (c : Thread nD τ).loc cc0_scratch3) (K := row (s := ⟨3, ![2, 1024, 1024]⟩) (Nat.succ_pos 2) 2) (row_disjoint _) (row_cover _ rfl)
    (of_some c (M := ps0) set_ps0) (of_some c (M := ps1) set_ps1)

/-- Add a slot of the received partial results into the whole of `d`. -/
theorem run_addSlot {α : Type} {Q : α → sProp 𝕄} {d : Memref sig .tc .vmem S1024x1024 .f32} {i : ℕ}
    {h : ∀ a, (![i, 0, 0] : Fin 3 → Nat) a + S1x1024x1024.size a ≤ S3x1024x1024.size a} {q : PosShare TreeShare}
    {D X : Vec F S1024x1024 .f32} {K : PUnit → TP F α} :
    (iprop(owns (c : Thread nD τ) d fullShare D ∗ owns (c : Thread nD τ) (slot3 (Memref.whole cc0_scratch2) i h) q X) : sProp 𝕄)
      ⊢ iprop(((owns (c : Thread nD τ) d fullShare (addf D X) ∗ owns (c : Thread nD τ) (slot3 (Memref.whole cc0_scratch2) i h) q X)
            -∗ runs c (K ⟨⟩) Q)
          -∗ runs c (addSlot d (Memref.whole cc0_scratch2) i h >>= K) Q) := by
  unfold addSlot
  simp only [bind_assoc]
  iintro ⟨Hd, Hs⟩ Hk
  iapply (run_load c) $$ Hd
  iintro Hd
  unfold owns
  icases Hs with ⟨%f, %hf, Hs⟩
  iapply (wp_load 𝒱₀ (c : Thread nD τ) none Set.univ (m := (Memref.whole cc0_scratch2 : Memref sig .tc .vmem S3x1024x1024 .f32))
    (S := (slot3 (Memref.whole cc0_scratch2) i h).view.set) (q := q) (f := f) (by rw [View.set_reshape]; exact subset_of_eq (View.set_slice _ _).symm)) $$ Hs
  iintro Hs
  ihave Hd' := (BIBase.Entails.of_eq (show (iprop(∃ f, ⌜View.read (Elt F) d.view f = D⌝ ∗ (d.view.loc (c : Thread nD τ) ↦[d.view.set]{fullShare} f)) : sProp 𝕄) = owns (c : Thread nD τ) d fullShare D from rfl)) $$ Hd
  iapply (run_load c) $$ Hd'
  iintro Hd
  iapply (run_store c) $$ Hd
  iintro Hd
  rw [overlay_whole, ld_whole, shapeCast_id]
  have e : shapeCast S1024x1024 (View.readAt (Elt F) (Memref.whole cc0_scratch2 : Memref sig .tc .vmem S3x1024x1024 .f32).view (Rect.unit (s := S3x1024x1024) ![i, 0, 0] S1x1024x1024.size h).toLoadRect f) shapeCasts_S1x1024x1024_S1024x1024 = X := by
    rw [← hf]; rfl
  rw [e]
  iapply Hk
  isplitl [Hd]
  · unfold owns; iexact Hd
  · iexists f
    isplitr
    · ipureintro; exact hf
    · iexact Hs

end

end Cert.KernelIdeal.Moe

end
-- ==== Proof.BodyI.lean ====
/- The kernel function's run on one device. -/
module

public import proofs.«01_k».proof.Proof.SlotsI

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 18 → ℕ)

/-! ### The devices the kernel names -/

theorem dev1_eq (c : Dev nD) : (⟨k0_dev1 c, k0_dev1_lt c⟩ : Dev nD) = rot 1 c := by revert c; decide
theorem dev2_eq (c : Dev nD) : (⟨k0_dev2 c, k0_dev2_lt c⟩ : Dev nD) = rot 2 c := by revert c; decide
theorem dev3_eq (c : Dev nD) : (⟨k0_dev3 c, k0_dev3_lt c⟩ : Dev nD) = rot 3 c := by revert c; decide
theorem dev4_eq (c : Dev nD) : (⟨k0_dev4 c, k0_dev4_lt c⟩ : Dev nD) = rot 1 c := by revert c; decide
theorem dev5_eq (c : Dev nD) : (⟨k0_dev5 c, k0_dev5_lt c⟩ : Dev nD) = rot 1 c := by revert c; decide
theorem dev6_eq (c : Dev nD) : (⟨k0_dev6 c, k0_dev6_lt c⟩ : Dev nD) = rot 1 c := by revert c; decide
theorem dev7_eq (c : Dev nD) : (⟨k0_dev7 c, k0_dev7_lt c⟩ : Dev nD) = rot 1 c := by revert c; decide
theorem dev8_eq (c : Dev nD) : (⟨k0_dev8 c, k0_dev8_lt c⟩ : Dev nD) = rot 3 c := by revert c; decide
theorem dev9_eq (c : Dev nD) : (⟨k0_dev9 c, k0_dev9_lt c⟩ : Dev nD) = rot 1 c := by revert c; decide
theorem dev10_eq (c : Dev nD) : (⟨k0_dev10 c, k0_dev10_lt c⟩ : Dev nD) = rot 1 c := by revert c; decide
theorem dev11_eq (c : Dev nD) : (⟨k0_dev11 c, k0_dev11_lt c⟩ : Dev nD) = rot 2 c := by revert c; decide
theorem dev12_eq (c : Dev nD) : (⟨k0_dev12 c, k0_dev12_lt c⟩ : Dev nD) = rot 1 c := by revert c; decide

theorem rot_rot (i j : ℕ) (c : Dev nD) : rot i (rot j c) = rot (i + j) c := Fin.ext (by show ((c.val + j) % 4 + i) % 4 = (c.val + (i + j)) % 4; omega)
theorem rot_four (c : Dev nD) : rot 4 c = c := by revert c; decide
theorem rot_zero (c : Dev nD) : rot 0 c = c := by revert c; decide
theorem rot31 (c : Dev nD) : rot 3 (rot 1 c) = c := (rot_rot 3 1 c).trans (rot_four c)
theorem rot22 (c : Dev nD) : rot 2 (rot 2 c) = c := (rot_rot 2 2 c).trans (rot_four c)
theorem rot13 (c : Dev nD) : rot 1 (rot 3 c) = c := (rot_rot 1 3 c).trans (rot_four c)
theorem rot21 (c : Dev nD) : rot 2 (rot 1 c) = rot 3 c := rot_rot 2 1 c
theorem rot11 (c : Dev nD) : rot 1 (rot 1 c) = rot 2 c := rot_rot 1 1 c

/-! ### A pass, with what it works with -/

/-- What a pass works with besides its tokens: the two weight stages, the weights, the two fetch semaphores at zero. -/
def gear (c : Dev nD) : sProp 𝕄 :=
  iprop((∃ U, owns (c : Thread nD τ) u1M fullShare U) ∗ (∃ V, owns (c : Thread nD τ) u2M fullShare V)
    ∗ (W1M.view.loc (c : Thread nD τ) ↦[W1M.view.set]{fullShare} (m ((c : Thread nD τ).loc main_arg2)))
    ∗ (W2M.view.loc (c : Thread nD τ) ↦[W2M.view.set]{fullShare} (m ((c : Thread nD τ).loc main_arg3)))
    ∗ semVal ((c : Thread nD τ), SemLoc.dma (sem2 cc0_scratch12 0 inb_S2_S1_0)) 0 ∗ semVal ((c : Thread nD τ), SemLoc.dma (sem2 cc0_scratch12 1 inb_S2_S1_1)) 0)

theorem run_passM (c e : Dev nD) {α : Type} {Q : α → sProp 𝕄} {x : Memref sig .tc .vmem S1024x1024 .f32} {a : Memref sig .tc .vmem S1024x1 .i32}
    {d : Memref sig .tc .vmem S1024x1024 .f32} {qx qa : PosShare TreeShare} {l : List (ℕ × Fin 18)} {f : PUnit → TP F α}
    {h1 : (u1M).IsWhole} {h2 : (u2M).IsWhole} (hl : ∀ p ∈ l, 0 < klv p.2) :
    iprop(known m K ∗ gear m c ∗ ow c (owe c l) ∗ owns (c : Thread nD τ) x qx (xb m e) ∗ owns (c : Thread nD τ) a qa (ab m e) ∗ some' c d)
      ⊢ iprop(((gear m c ∗ ow c (owe c l) ∗ owns (c : Thread nD τ) x qx (xb m e) ∗ owns (c : Thread nD τ) a qa (ab m e)
              ∗ owns (c : Thread nD τ) d fullShare (pv m c e)) -∗ runs c (f ⟨⟩) Q)
          -∗ runs c (pass x a d W1M W2M u1M h1 u2M h2 cc0_scratch12 (posW c) >>= f) Q) := by
  unfold gear some'
  iintro ⟨#HK, ⟨⟨%U, HU⟩, ⟨%V, HV⟩, HW1, HW2, Hs1, Hs2⟩, HO, Hx, Ha, ⟨%D, Hd⟩⟩ Hk
  ihave HM := (known_feed m K c hl) $$ HK
  iapply (run_pass c (f1 := m ((c : Thread nD τ).loc main_arg2)) (f2 := m ((c : Thread nD τ).loc main_arg3)) (D := D)
    (View.dmaCredit_pos _ (by decide)) (View.dmaCredit_pos _ (by decide))) $$ [HU HV HW1 HW2 Hs1 Hs2 HO Hx Ha Hd HM]
  · isplitr [HM]
    · unfold mid opens feed
      isplitl [HU HV Hx Ha Hd]
      · iexists U; iexists V
        isplitl [Hx]; · iexact Hx
        isplitl [Ha]; · iexact Ha
        isplitl [Hd]; · iexact Hd
        isplitl [HU] <;> iassumption
      · isplitl [HW1]; · iexact HW1
        isplitl [HW2]; · iexact HW2
        isplitl [Hs1]; · iexact Hs1
        isplitl [Hs2] <;> iassumption
    · iexact HM
  unfold mid opens feed
  iintro ⟨⟨%U', %V', Hx, Ha, Hd, HU, HV⟩, HW1, HW2, Hs1, Hs2, HO⟩
  iapply Hk
  isplitl [HU HV HW1 HW2 Hs1 Hs2]
  · isplitl [HU]; · iexists U'; iexact HU
    isplitl [HV]; · iexists V'; iexact HV
    isplitl [HW1]; · iexact HW1
    isplitl [HW2]; · iexact HW2
    isplitl [Hs1] <;> iassumption
  isplitl [HO]; · iexact HO
  isplitl [Hx]; · iexact Hx
  isplitl [Ha]; · iexact Ha
  iexact Hd

/-- What device `c` holds of the protocol at the start: its cells' positions, the tokens of the duties it pays, the credit of
    what it is owed. -/
def posns (c : Dev nD) : sProp 𝕄 := iprop(atPos EB (kc c 0) 0 ∅ 0 ∗ atPos EB (kc c 1) 0 ∅ 0 ∗ atPos EB (kc c 2) 0 ∅ 0 ∗ atPos EB (kc c 3) 0 ∅ 0 ∗ atPos EB (kc c 4) 0 ∅ 0 ∗ atPos EB (kc c 5) 0 ∅ 0 ∗ atPos EB (kc c 6) 0 ∅ 0 ∗ atPos EB (kc c 7) 0 ∅ 0 ∗ atPos EB (kc c 8) 0 ∅ 0 ∗ atPos EB (kc c 9) 0 ∅ 0 ∗ atPos EB (kc c 10) 0 ∅ 0 ∗ atPos EB (kc c 11) 0 ∅ 0 ∗ atPos EB (kc c 12) 0 ∅ 0 ∗ atPos EB (kc c 13) 0 ∅ 0 ∗ atPos EB (kc c 14) 0 ∅ 0 ∗ atPos EB (kc c 15) 0 ∅ 0 ∗ atPos EB (kc c 16) 0 ∅ 0 ∗ atPos EB (kc c 17) 0 ∅ 0)
def toks (c : Dev nD) : sProp 𝕄 := iprop(dutyTok EB (kc (rot 1 c) 0) 0 2 ∗ dutyTok EB (kc (rot 2 c) 0) 0 1 ∗ dutyTok EB (kc (rot 3 c) 0) 0 0 ∗ dutyTok EB (kc c 1) 0 0 ∗ dutyTok EB (kc c 2) 0 0 ∗ dutyTok EB (kc c 3) 0 0 ∗ dutyTok EB (kc c 7) 0 0 ∗ dutyTok EB (kc c 8) 0 0 ∗ dutyTok EB (kc c 9) 0 0 ∗ dutyTok EB (kc c 13) 0 0 ∗ dutyTok EB (kc c 14) 0 0 ∗ dutyTok EB (kc c 13) 1 0 ∗ dutyTok EB (kc (rot 1 c) 4) 0 0 ∗ dutyTok EB (kc (rot 1 c) 5) 0 0 ∗ dutyTok EB (kc (rot 1 c) 6) 0 0 ∗ dutyTok EB (kc (rot 1 c) 10) 0 0 ∗ dutyTok EB (kc (rot 1 c) 11) 0 0 ∗ dutyTok EB (kc (rot 1 c) 12) 0 0 ∗ dutyTok EB (kc (rot 3 c) 15) 0 0 ∗ dutyTok EB (kc (rot 2 c) 16) 0 0 ∗ dutyTok EB (kc (rot 1 c) 17) 0 0)
def creds (c : Dev nD) : sProp 𝕄 := iprop(cred (tallyAt (kc c 0) () 3) ∗ cred (tallyAt (kc c 4) () (amt 4)) ∗ cred (tallyAt (kc c 10) () (amt 10)) ∗ cred (tallyAt (kc c 5) () (amt 5)) ∗ cred (tallyAt (kc c 11) () (amt 11)) ∗ cred (tallyAt (kc c 6) () (amt 6)) ∗ cred (tallyAt (kc c 12) () (amt 12)) ∗ cred (tallyAt (kc c 15) () (amt 15)) ∗ cred (tallyAt (kc c 16) () (amt 16)) ∗ cred (tallyAt (kc c 17) () (amt 17)))
/-- Its cells' semaphores, closed. -/
def closed (c : Dev nD) : sProp 𝕄 := iprop(semVal (kc c 0) 0 ∗ semVal (kc c 1) 0 ∗ semVal (kc c 2) 0 ∗ semVal (kc c 3) 0 ∗ semVal (kc c 4) 0 ∗ semVal (kc c 5) 0 ∗ semVal (kc c 6) 0 ∗ semVal (kc c 7) 0 ∗ semVal (kc c 8) 0 ∗ semVal (kc c 9) 0 ∗ semVal (kc c 10) 0 ∗ semVal (kc c 11) 0 ∗ semVal (kc c 12) 0 ∗ semVal (kc c 13) 0 ∗ semVal (kc c 14) 0 ∗ semVal (kc c 15) 0 ∗ semVal (kc c 16) 0 ∗ semVal (kc c 17) 0)
/-- Its scratch buffers but the weight stages. -/
def slots (c : Dev nD) : sProp 𝕄 := iprop(any c cc0_scratch0 ∗ any c cc0_scratch1 ∗ any c cc0_scratch2 ∗ any c cc0_scratch3)

/-- What a device starts the kernel function with, and what it ends with. -/
def pre (c : Dev nD) : sProp 𝕄 :=
  iprop(known m K ∗ posns c ∗ toks c ∗ creds c ∗ gear m c ∗ slots c ∗ ow c (owe c dues)
    ∗ owns (c : Thread nD τ) xM fullShare (xb m c) ∗ owns (c : Thread nD τ) aM fullShare (ab m c) ∗ some' c oM)
def post (c : Dev nD) : sProp 𝕄 :=
  iprop(closed c ∗ gear m c ∗ slots c ∗ ow c (owe c [])
    ∗ owns (c : Thread nD τ) xM fullShare (xb m c) ∗ owns (c : Thread nD τ) aM fullShare (ab m c) ∗ owns (c : Thread nD τ) oM fullShare (outV m c))

/-! ### What the cells hand over, spelt out -/

section
variable (c : Dev nD)

theorem barPay_zero : (barPay c 0 : sProp 𝕄) = iprop(some' (rot 1 c) xs0 ∗ some' (rot 1 c) xs1 ∗ some' (rot 1 c) xs2
    ∗ some' (rot 1 c) as0 ∗ some' (rot 1 c) as1 ∗ some' (rot 1 c) as2 ∗ some' (rot 1 c) pb2) := rfl
theorem barPay_one : (barPay c 1 : sProp 𝕄) = some' (rot 2 c) pb1 := rfl
theorem barPay_two : (barPay c 2 : sProp 𝕄) = some' (rot 3 c) pb0 := rfl
theorem pay_4 : (pay m c 4 0 0 : sProp 𝕄) = owns (c : Thread nD τ) xs0 fullShare (xb m (rot 3 c)) := rfl
theorem pay_5 : (pay m c 5 0 0 : sProp 𝕄) = owns (c : Thread nD τ) xs1 fullShare (xb m (rot 2 c)) := rfl
theorem pay_6 : (pay m c 6 0 0 : sProp 𝕄) = owns (c : Thread nD τ) xs2 fullShare (xb m (rot 1 c)) := rfl
theorem pay_10 : (pay m c 10 0 0 : sProp 𝕄) = owns (c : Thread nD τ) as0 fullShare (ab m (rot 3 c)) := rfl
theorem pay_11 : (pay m c 11 0 0 : sProp 𝕄) = owns (c : Thread nD τ) as1 fullShare (ab m (rot 2 c)) := rfl
theorem pay_12 : (pay m c 12 0 0 : sProp 𝕄) = owns (c : Thread nD τ) as2 fullShare (ab m (rot 1 c)) := rfl
theorem pay_15 : (pay m c 15 0 0 : sProp 𝕄) = owns (c : Thread nD τ) pb0 fullShare (pv m (rot 1 c) c) := rfl
theorem pay_16 : (pay m c 16 0 0 : sProp 𝕄) = owns (c : Thread nD τ) pb1 fullShare (pv m (rot 2 c) c) := rfl
theorem pay_17 : (pay m c 17 0 0 : sProp 𝕄) = owns (c : Thread nD τ) pb2 fullShare (pv m (rot 3 c) c) := rfl
theorem pay_1 : (pay m c 1 0 0 : sProp 𝕄) = owns (c : Thread nD τ) xM fullShare.left (xb m c) := rfl
theorem pay_2 : (pay m c 2 0 0 : sProp 𝕄) = owns (c : Thread nD τ) xs0 fullShare.left (xb m (rot 3 c)) := rfl
theorem pay_3 : (pay m c 3 0 0 : sProp 𝕄) = owns (c : Thread nD τ) xs1 fullShare.left (xb m (rot 2 c)) := rfl
theorem pay_7 : (pay m c 7 0 0 : sProp 𝕄) = owns (c : Thread nD τ) aM fullShare.left (ab m c) := rfl
theorem pay_8 : (pay m c 8 0 0 : sProp 𝕄) = owns (c : Thread nD τ) as0 fullShare.left (ab m (rot 3 c)) := rfl
theorem pay_9 : (pay m c 9 0 0 : sProp 𝕄) = owns (c : Thread nD τ) as1 fullShare.left (ab m (rot 2 c)) := rfl

theorem run_ret {α : Type} {Q : α → sProp 𝕄} {a : α} : (iprop(|={Set.univ}=> Q a) : sProp 𝕄) ⊢ runs c (.ret a) Q := by
  unfold runs; rw [wp_ret]
theorem halve {s : Shape} {e : EltTy} {M : Memref sig .tc .vmem s e} {X : s.Idx → Elt F e} :
    (owns (c : Thread nD τ) M fullShare X : sProp 𝕄) ⊢ iprop(owns (c : Thread nD τ) M fullShare.left X ∗ owns (c : Thread nD τ) M fullShare.right X) :=
  (owns_halves (c : Thread nD τ) M fullShare X).1
theorem unhalve {s : Shape} {e : EltTy} {M : Memref sig .tc .vmem s e} {X : s.Idx → Elt F e} :
    (iprop(owns (c : Thread nD τ) M fullShare.left X ∗ owns (c : Thread nD τ) M fullShare.right X) : sProp 𝕄) ⊢ owns (c : Thread nD τ) M fullShare X :=
  (owns_halves (c : Thread nD τ) M fullShare X).2
theorem rejoin {s : Shape} {e : EltTy} {M : Memref sig .tc .vmem s e} {X : s.Idx → Elt F e} :
    (iprop(owns (c : Thread nD τ) M fullShare.left X ∗ owns (c : Thread nD τ) M fullShare.right X) : sProp 𝕄) ⊢ some' c M := by
  iintro H
  iexists X
  iapply (unhalve c); iexact H

theorem dut_end {k : Fin 18} (hk : k ≠ 13) (r : ℕ) (h : 1 ≤ r) : dut k r = ∅ := by
  unfold dut
  have h0 : r ≠ 0 := by omega
  split <;> simp [h0, hk]
theorem dut_end13 {k : Fin 18} (hk : k ≠ 0) (r : ℕ) (h : 2 ≤ r) : dut k r = ∅ := by
  unfold dut
  have h0 : r ≠ 0 := by omega
  have h1 : r ≠ 1 := by omega
  simp [h0, h1, hk]

end

/-- The kernel function, from what a device starts with, ends with its result. -/
theorem run_kern (c : Dev nD) :
    (pre m K c : sProp 𝕄) ⊢ runs c (kern (F := F) xM (Memref.isWhole_whole _) aM (Memref.isWhole_whole _) W1M (Memref.isWhole_whole _) W2M (Memref.isWhole_whole _)
      oM (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) u1M (Memref.isWhole_whole _) u2M (Memref.isWhole_whole _)
      cc0_scratch6 cc0_scratch7 cc0_scratch8 cc0_scratch9 cc0_scratch10 cc0_scratch11 cc0_scratch12) (fun _ => post m c) := by
  unfold pre posns toks creds slots
  iintro ⟨#HK, ⟨HP0, HP1, HP2, HP3, HP4, HP5, HP6, HP7, HP8, HP9, HP10, HP11, HP12, HP13, HP14, HP15, HP16, HP17⟩, ⟨HB1, HB2, HB3, HS1, HS2, HS3, HS7, HS8, HS9, HS13, HS14, HS13b, HR4, HR5, HR6, HR10, HR11, HR12, HR15, HR16, HR17⟩, ⟨HC0, HC4, HC10, HC5, HC11, HC6, HC12, HC15, HC16, HC17⟩, HG, ⟨Hb0, Hb1, Hb2, Hb3⟩, HO, Hx, Ha, Ho⟩
  ihave Hs0 := (cut_xs c) $$ Hb0
  icases Hs0 with ⟨Hx0, Hx1, Hx2⟩
  ihave Hs1 := (cut_as c) $$ Hb1
  icases Hs1 with ⟨Ha0, Ha1, Ha2⟩
  ihave Hs2 := (cut_pb c) $$ Hb2
  icases Hs2 with ⟨Hp0, Hp1, Hp2⟩
  ihave Hs3 := (cut_ps c) $$ Hb3
  icases Hs3 with ⟨Hq0, Hq1⟩
  unfold kern
  simp only [semSignalWord, semWaitWord, Prog.lift, Prog.bind_op, Prog.bind_ret, Prog.pure_eq_ret, wp_deviceId]
  unfold dues
  -- the barrier: the device hands out its receiving buffers and gets those it writes
  iapply (run_signal m K c 1 2 (dev1_eq c)) $$ [HO HB1 Hp0]
  · isplitr; · iexact HK
    isplitl [HO]; · iexact HO
    isplitl [HB1]; · iexact HB1
    rw [barPay_two, rot31]
    iexact Hp0
  iintro HO
  iapply (run_signal m K c 2 1 (dev2_eq c)) $$ [HO HB2 Hp1]
  · isplitr; · iexact HK
    isplitl [HO]; · iexact HO
    isplitl [HB2]; · iexact HB2
    rw [barPay_one, rot22]
    iexact Hp1
  iintro HO
  iapply (run_signal m K c 3 0 (dev3_eq c)) $$ [HO HB3 Hx0 Hx1 Hx2 Ha0 Ha1 Ha2 Hp2]
  · isplitr; · iexact HK
    isplitl [HO]; · iexact HO
    isplitl [HB3]; · iexact HB3
    rw [barPay_zero, rot13]
    isplitl [Hx0]; · iexact Hx0
    isplitl [Hx1]; · iexact Hx1
    isplitl [Hx2]; · iexact Hx2
    isplitl [Ha0]; · iexact Ha0
    isplitl [Ha1]; · iexact Ha1
    isplitl [Ha2]; · iexact Ha2
    iexact Hp2
  iintro HO
  iapply (run_barwait m K c (l := [(1, 4), (1, 10), (1, 5), (1, 11), (3, 15), (1, 6), (1, 12), (2, 16), (1, 17)]) (by decide)) $$ [HO HC0 HP0]
  · isplitr; · iexact HK
    isplitl [HC0]; · iexact HC0
    isplitl [HO]; · iexact HO
    iexact HP0
  iintro ⟨HO, HP0, Hp, Hy1, Hy0⟩
  ihave Hp := (BIBase.Entails.of_eq (barPay_zero c)) $$ Hp
  ihave Hy1 := (BIBase.Entails.of_eq (barPay_one c)) $$ Hy1
  ihave Hy0 := (BIBase.Entails.of_eq (barPay_two c)) $$ Hy0
  icases Hp with ⟨Hn0, Hn1, Hn2, Hm0, Hm1, Hm2, Hy2⟩
  -- the first hop, and the pass over the device's own block
  ihave H2 := (halve c) $$ Hx
  icases H2 with ⟨Hxl, Hx⟩
  ihave H2 := (halve c) $$ Ha
  icases H2 with ⟨Hal, Ha⟩
  iapply (run_send m K c 1 1 4 0 (dev4_eq c) rfl rfl rfl rfl rfl rfl BIBase.Entails.rfl (BIBase.Entails.of_eq (by rw [pay_4, rot31]))) $$ [HO Hxl Hn0 HS1 HR4]
  · isplitr; · iexact HK
    isplitl [HO]; · iexact HO
    isplitl [Hxl]; · iexact Hxl
    isplitl [Hn0]; · iexact Hn0
    isplitl [HS1]; · iexact HS1
    isplitr; · iapply (known_reached m K c 1); iexact HK
    iexact HR4
  iintro ⟨HO, HC1⟩
  iapply (run_send m K c 1 7 10 0 (dev5_eq c) rfl rfl rfl rfl rfl rfl BIBase.Entails.rfl (BIBase.Entails.of_eq (by rw [pay_10, rot31]))) $$ [HO Hal Hm0 HS7 HR10]
  · isplitr; · iexact HK
    isplitl [HO]; · iexact HO
    isplitl [Hal]; · iexact Hal
    isplitl [Hm0]; · iexact Hm0
    isplitl [HS7]; · iexact HS7
    isplitr; · iapply (known_reached m K c 7); iexact HK
    iexact HR10
  iintro ⟨HO, HC7⟩
  iapply (run_passM m K c c (l := [(1, 5), (1, 11), (3, 15), (1, 6), (1, 12), (2, 16), (1, 17)]) (by decide)) $$ [HG HO Hx Ha Ho]
  · isplitr; · iexact HK
    isplitl [HG]; · iexact HG
    isplitl [HO]; · iexact HO
    isplitl [Hx]; · iexact Hx
    isplitl [Ha]; · iexact Ha
    iexact Ho
  iintro ⟨HG, HO, Hx, Ha, Ho⟩
  -- the second hop, and the pass over the block that came first
  iapply (run_wait m K c 4 0 (l := [(1, 5), (1, 11), (3, 15), (1, 6), (1, 12), (2, 16), (1, 17)]) rfl rfl rfl (by decide)) $$ [HO HC4 HP4]
  · isplitr; · iexact HK
    isplitl [HC4]; · iexact HC4
    isplitl [HO]; · iexact HO
    iexact HP4
  iintro ⟨HO, HP4, -, Hx0⟩
  iapply (run_wait m K c 10 0 (l := [(1, 5), (1, 11), (3, 15), (1, 6), (1, 12), (2, 16), (1, 17)]) rfl rfl rfl (by decide)) $$ [HO HC10 HP10]
  · isplitr; · iexact HK
    isplitl [HC10]; · iexact HC10
    isplitl [HO]; · iexact HO
    iexact HP10
  iintro ⟨HO, HP10, -, Ha0⟩
  ihave Hx0 := (BIBase.Entails.of_eq (pay_4 m c)) $$ Hx0
  ihave Ha0 := (BIBase.Entails.of_eq (pay_10 m c)) $$ Ha0
  ihave H2 := (halve c) $$ Hx0
  icases H2 with ⟨Hx0l, Hx0⟩
  ihave H2 := (halve c) $$ Ha0
  icases H2 with ⟨Ha0l, Ha0⟩
  iapply (run_send m K c 1 2 5 0 (dev6_eq c) rfl rfl rfl rfl rfl rfl BIBase.Entails.rfl (BIBase.Entails.of_eq (by rw [pay_5, rot21]))) $$ [HO Hx0l Hn1 HS2 HR5]
  · isplitr; · iexact HK
    isplitl [HO]; · iexact HO
    isplitl [Hx0l]; · iexact Hx0l
    isplitl [Hn1]; · iexact Hn1
    isplitl [HS2]; · iexact HS2
    isplitr; · iapply (known_reached m K c 2); iexact HK
    iexact HR5
  iintro ⟨HO, HC2⟩
  iapply (run_send m K c 1 8 11 0 (dev7_eq c) rfl rfl rfl rfl rfl rfl BIBase.Entails.rfl (BIBase.Entails.of_eq (by rw [pay_11, rot21]))) $$ [HO Ha0l Hm1 HS8 HR11]
  · isplitr; · iexact HK
    isplitl [HO]; · iexact HO
    isplitl [Ha0l]; · iexact Ha0l
    isplitl [Hm1]; · iexact Hm1
    isplitl [HS8]; · iexact HS8
    isplitr; · iapply (known_reached m K c 8); iexact HK
    iexact HR11
  iintro ⟨HO, HC8⟩
  iapply (run_passM m K c (rot 3 c) (l := [(3, 15), (1, 6), (1, 12), (2, 16), (1, 17)]) (by decide)) $$ [HG HO Hx0 Ha0 Hq0]
  · isplitr; · iexact HK
    isplitl [HG]; · iexact HG
    isplitl [HO]; · iexact HO
    isplitl [Hx0]; · iexact Hx0
    isplitl [Ha0]; · iexact Ha0
    iexact Hq0
  iintro ⟨HG, HO, Hx0, Ha0, Hq0⟩
  iapply (run_send m K c 3 13 15 0 (dev8_eq c) rfl rfl rfl rfl rfl rfl BIBase.Entails.rfl (BIBase.Entails.of_eq (by rw [pay_15, rot13]))) $$ [HO Hq0 Hy0 HS13 HR15]
  · isplitr; · iexact HK
    isplitl [HO]; · iexact HO
    isplitl [Hq0]; · iexact Hq0
    isplitl [Hy0]; · iexact Hy0
    isplitl [HS13]; · iexact HS13
    isplitr; · iapply (known_reached m K c 13); iexact HK
    iexact HR15
  iintro ⟨HO, HC13⟩
  -- the third hop, and the next block
  iapply (run_wait m K c 5 0 (l := [(1, 6), (1, 12), (2, 16), (1, 17)]) rfl rfl rfl (by decide)) $$ [HO HC5 HP5]
  · isplitr; · iexact HK
    isplitl [HC5]; · iexact HC5
    isplitl [HO]; · iexact HO
    iexact HP5
  iintro ⟨HO, HP5, -, Hx1⟩
  iapply (run_wait m K c 11 0 (l := [(1, 6), (1, 12), (2, 16), (1, 17)]) rfl rfl rfl (by decide)) $$ [HO HC11 HP11]
  · isplitr; · iexact HK
    isplitl [HC11]; · iexact HC11
    isplitl [HO]; · iexact HO
    iexact HP11
  iintro ⟨HO, HP11, -, Ha1⟩
  ihave Hx1 := (BIBase.Entails.of_eq (pay_5 m c)) $$ Hx1
  ihave Ha1 := (BIBase.Entails.of_eq (pay_11 m c)) $$ Ha1
  ihave H2 := (halve c) $$ Hx1
  icases H2 with ⟨Hx1l, Hx1⟩
  ihave H2 := (halve c) $$ Ha1
  icases H2 with ⟨Ha1l, Ha1⟩
  iapply (run_send m K c 1 3 6 0 (dev9_eq c) rfl rfl rfl rfl rfl rfl BIBase.Entails.rfl (BIBase.Entails.of_eq (by rw [pay_6, rot11]))) $$ [HO Hx1l Hn2 HS3 HR6]
  · isplitr; · iexact HK
    isplitl [HO]; · iexact HO
    isplitl [Hx1l]; · iexact Hx1l
    isplitl [Hn2]; · iexact Hn2
    isplitl [HS3]; · iexact HS3
    isplitr; · iapply (known_reached m K c 3); iexact HK
    iexact HR6
  iintro ⟨HO, HC3⟩
  iapply (run_send m K c 1 9 12 0 (dev10_eq c) rfl rfl rfl rfl rfl rfl BIBase.Entails.rfl (BIBase.Entails.of_eq (by rw [pay_12, rot11]))) $$ [HO Ha1l Hm2 HS9 HR12]
  · isplitr; · iexact HK
    isplitl [HO]; · iexact HO
    isplitl [Ha1l]; · iexact Ha1l
    isplitl [Hm2]; · iexact Hm2
    isplitl [HS9]; · iexact HS9
    isplitr; · iapply (known_reached m K c 9); iexact HK
    iexact HR12
  iintro ⟨HO, HC9⟩
  iapply (run_passM m K c (rot 2 c) (l := [(2, 16), (1, 17)]) (by decide)) $$ [HG HO Hx1 Ha1 Hq1]
  · isplitr; · iexact HK
    isplitl [HG]; · iexact HG
    isplitl [HO]; · iexact HO
    isplitl [Hx1]; · iexact Hx1
    isplitl [Ha1]; · iexact Ha1
    iexact Hq1
  iintro ⟨HG, HO, Hx1, Ha1, Hq1⟩
  iapply (run_send m K c 2 14 16 0 (dev11_eq c) rfl rfl rfl rfl rfl rfl BIBase.Entails.rfl (BIBase.Entails.of_eq (by rw [pay_16, rot22]))) $$ [HO Hq1 Hy1 HS14 HR16]
  · isplitr; · iexact HK
    isplitl [HO]; · iexact HO
    isplitl [Hq1]; · iexact Hq1
    isplitl [Hy1]; · iexact Hy1
    isplitl [HS14]; · iexact HS14
    isplitr; · iapply (known_reached m K c 14); iexact HK
    iexact HR16
  iintro ⟨HO, HC14⟩
  -- the last block, through the first outgoing slot again
  iapply (run_wait m K c 6 0 (l := [(1, 17)]) rfl rfl rfl (by decide)) $$ [HO HC6 HP6]
  · isplitr; · iexact HK
    isplitl [HC6]; · iexact HC6
    isplitl [HO]; · iexact HO
    iexact HP6
  iintro ⟨HO, HP6, -, Hx2⟩
  iapply (run_wait m K c 12 0 (l := [(1, 17)]) rfl rfl rfl (by decide)) $$ [HO HC12 HP12]
  · isplitr; · iexact HK
    isplitl [HC12]; · iexact HC12
    isplitl [HO]; · iexact HO
    iexact HP12
  iintro ⟨HO, HP12, -, Ha2⟩
  iapply (run_wait m K c 13 0 (l := [(1, 17)]) rfl rfl rfl (by decide)) $$ [HO HC13 HP13]
  · isplitr; · iexact HK
    isplitl [HC13]; · iexact HC13
    isplitl [HO]; · iexact HO
    iexact HP13
  iintro ⟨HO, HP13, Hr13, Hq0⟩
  ihave Hx2 := (BIBase.Entails.of_eq (pay_6 m c)) $$ Hx2
  ihave Ha2 := (BIBase.Entails.of_eq (pay_12 m c)) $$ Ha2
  ihave Hq0 := (show (pay m c 13 0 0 : sProp 𝕄) ⊢ some' c ps0 from to_some c) $$ Hq0
  iapply (run_passM m K c (rot 1 c) (l := [(1, 17)]) (by decide)) $$ [HG HO Hx2 Ha2 Hq0]
  · isplitr; · iexact HK
    isplitl [HG]; · iexact HG
    isplitl [HO]; · iexact HO
    isplitl [Hx2]; · iexact Hx2
    isplitl [Ha2]; · iexact Ha2
    iexact Hq0
  iintro ⟨HG, HO, Hx2, Ha2, Hq0⟩
  iapply (run_send m K c 1 13 17 1 (dev12_eq c) rfl rfl rfl rfl rfl rfl BIBase.Entails.rfl (BIBase.Entails.of_eq (by rw [pay_17, rot31]))) $$ [HO Hq0 Hy2 HS13b HR17 Hr13]
  · isplitr; · iexact HK
    isplitl [HO]; · iexact HO
    isplitl [Hq0]; · iexact Hq0
    isplitl [Hy2]; · iexact Hy2
    isplitl [HS13b]; · iexact HS13b
    isplitl [Hr13]; · iexact Hr13
    iexact HR17
  iintro ⟨HO, HC13⟩
  -- the partial results that came back, added
  iapply (run_wait m K c 15 0 (l := []) rfl rfl rfl (by decide)) $$ [HO HC15 HP15]
  · isplitr; · iexact HK
    isplitl [HC15]; · iexact HC15
    isplitl [HO]; · iexact HO
    iexact HP15
  iintro ⟨HO, HP15, -, Hp0⟩
  iapply (run_wait m K c 16 0 (l := []) rfl rfl rfl (by decide)) $$ [HO HC16 HP16]
  · isplitr; · iexact HK
    isplitl [HC16]; · iexact HC16
    isplitl [HO]; · iexact HO
    iexact HP16
  iintro ⟨HO, HP16, -, Hp1⟩
  iapply (run_wait m K c 17 0 (l := []) rfl rfl rfl (by decide)) $$ [HO HC17 HP17]
  · isplitr; · iexact HK
    isplitl [HC17]; · iexact HC17
    isplitl [HO]; · iexact HO
    iexact HP17
  iintro ⟨HO, HP17, -, Hp2⟩
  ihave Hp0 := (BIBase.Entails.of_eq (pay_15 m c)) $$ Hp0
  ihave Hp1 := (BIBase.Entails.of_eq (pay_16 m c)) $$ Hp1
  ihave Hp2 := (BIBase.Entails.of_eq (pay_17 m c)) $$ Hp2
  iapply (run_addSlot c) $$ [Ho Hp0]
  · isplitl [Ho] <;> iassumption
  iintro ⟨Ho, Hp0⟩
  iapply (run_addSlot c) $$ [Ho Hp1]
  · isplitl [Ho] <;> iassumption
  iintro ⟨Ho, Hp1⟩
  iapply (run_addSlot c) $$ [Ho Hp2]
  · isplitl [Ho] <;> iassumption
  iintro ⟨Ho, Hp2⟩
  -- the sends' completions
  iapply (run_wait m K c 1 0 (l := []) rfl rfl rfl (by decide)) $$ [HO HC1 HP1]
  · isplitr; · iexact HK
    isplitl [HC1]; · iexact HC1
    isplitl [HO]; · iexact HO
    iexact HP1
  iintro ⟨HO, HP1, -, Hxl⟩
  ihave Hxl := (BIBase.Entails.of_eq (pay_1 m c)) $$ Hxl
  iapply (run_wait m K c 7 0 (l := []) rfl rfl rfl (by decide)) $$ [HO HC7 HP7]
  · isplitr; · iexact HK
    isplitl [HC7]; · iexact HC7
    isplitl [HO]; · iexact HO
    iexact HP7
  iintro ⟨HO, HP7, -, Hal⟩
  ihave Hal := (BIBase.Entails.of_eq (pay_7 m c)) $$ Hal
  iapply (run_wait m K c 2 0 (l := []) rfl rfl rfl (by decide)) $$ [HO HC2 HP2]
  · isplitr; · iexact HK
    isplitl [HC2]; · iexact HC2
    isplitl [HO]; · iexact HO
    iexact HP2
  iintro ⟨HO, HP2, -, Hx0l⟩
  ihave Hx0l := (BIBase.Entails.of_eq (pay_2 m c)) $$ Hx0l
  iapply (run_wait m K c 8 0 (l := []) rfl rfl rfl (by decide)) $$ [HO HC8 HP8]
  · isplitr; · iexact HK
    isplitl [HC8]; · iexact HC8
    isplitl [HO]; · iexact HO
    iexact HP8
  iintro ⟨HO, HP8, -, Ha0l⟩
  ihave Ha0l := (BIBase.Entails.of_eq (pay_8 m c)) $$ Ha0l
  iapply (run_wait m K c 3 0 (l := []) rfl rfl rfl (by decide)) $$ [HO HC3 HP3]
  · isplitr; · iexact HK
    isplitl [HC3]; · iexact HC3
    isplitl [HO]; · iexact HO
    iexact HP3
  iintro ⟨HO, HP3, -, Hx1l⟩
  ihave Hx1l := (BIBase.Entails.of_eq (pay_3 m c)) $$ Hx1l
  iapply (run_wait m K c 9 0 (l := []) rfl rfl rfl (by decide)) $$ [HO HC9 HP9]
  · isplitr; · iexact HK
    isplitl [HC9]; · iexact HC9
    isplitl [HO]; · iexact HO
    iexact HP9
  iintro ⟨HO, HP9, -, Ha1l⟩
  ihave Ha1l := (BIBase.Entails.of_eq (pay_9 m c)) $$ Ha1l
  iapply (run_wait m K c 14 0 (l := []) rfl rfl rfl (by decide)) $$ [HO HC14 HP14]
  · isplitr; · iexact HK
    isplitl [HC14]; · iexact HC14
    isplitl [HO]; · iexact HO
    iexact HP14
  iintro ⟨HO, HP14, -, Hq1⟩
  iapply (run_wait m K c 13 1 (l := []) rfl rfl rfl (by decide)) $$ [HO HC13 HP13]
  · isplitr; · iexact HK
    isplitl [HC13]; · iexact HC13
    isplitl [HO]; · iexact HO
    iexact HP13
  iintro ⟨HO, HP13, -, Hq0⟩
  iapply (run_ret c)
  -- the cells close
  imod (close m K c 0 (r := 1) (dut_end (by decide))) $$ [HP0] with HP0
  · isplitr; · iexact HK
    iexact HP0
  imod (close m K c 1 (r := 1) (dut_end (by decide))) $$ [HP1] with HP1
  · isplitr; · iexact HK
    iexact HP1
  imod (close m K c 2 (r := 1) (dut_end (by decide))) $$ [HP2] with HP2
  · isplitr; · iexact HK
    iexact HP2
  imod (close m K c 3 (r := 1) (dut_end (by decide))) $$ [HP3] with HP3
  · isplitr; · iexact HK
    iexact HP3
  imod (close m K c 4 (r := 1) (dut_end (by decide))) $$ [HP4] with HP4
  · isplitr; · iexact HK
    iexact HP4
  imod (close m K c 5 (r := 1) (dut_end (by decide))) $$ [HP5] with HP5
  · isplitr; · iexact HK
    iexact HP5
  imod (close m K c 6 (r := 1) (dut_end (by decide))) $$ [HP6] with HP6
  · isplitr; · iexact HK
    iexact HP6
  imod (close m K c 7 (r := 1) (dut_end (by decide))) $$ [HP7] with HP7
  · isplitr; · iexact HK
    iexact HP7
  imod (close m K c 8 (r := 1) (dut_end (by decide))) $$ [HP8] with HP8
  · isplitr; · iexact HK
    iexact HP8
  imod (close m K c 9 (r := 1) (dut_end (by decide))) $$ [HP9] with HP9
  · isplitr; · iexact HK
    iexact HP9
  imod (close m K c 10 (r := 1) (dut_end (by decide))) $$ [HP10] with HP10
  · isplitr; · iexact HK
    iexact HP10
  imod (close m K c 11 (r := 1) (dut_end (by decide))) $$ [HP11] with HP11
  · isplitr; · iexact HK
    iexact HP11
  imod (close m K c 12 (r := 1) (dut_end (by decide))) $$ [HP12] with HP12
  · isplitr; · iexact HK
    iexact HP12
  imod (close m K c 13 (r := 2) (dut_end13 (by decide))) $$ [HP13] with HP13
  · isplitr; · iexact HK
    iexact HP13
  imod (close m K c 14 (r := 1) (dut_end (by decide))) $$ [HP14] with HP14
  · isplitr; · iexact HK
    iexact HP14
  imod (close m K c 15 (r := 1) (dut_end (by decide))) $$ [HP15] with HP15
  · isplitr; · iexact HK
    iexact HP15
  imod (close m K c 16 (r := 1) (dut_end (by decide))) $$ [HP16] with HP16
  · isplitr; · iexact HK
    iexact HP16
  imod (close m K c 17 (r := 1) (dut_end (by decide))) $$ [HP17] with HP17
  · isplitr; · iexact HK
    iexact HP17
  imodintro
  unfold post closed slots
  isplitl [HP0 HP1 HP2 HP3 HP4 HP5 HP6 HP7 HP8 HP9 HP10 HP11 HP12 HP13 HP14 HP15 HP16 HP17]
  · isplitl [HP0]; · iexact HP0
    isplitl [HP1]; · iexact HP1
    isplitl [HP2]; · iexact HP2
    isplitl [HP3]; · iexact HP3
    isplitl [HP4]; · iexact HP4
    isplitl [HP5]; · iexact HP5
    isplitl [HP6]; · iexact HP6
    isplitl [HP7]; · iexact HP7
    isplitl [HP8]; · iexact HP8
    isplitl [HP9]; · iexact HP9
    isplitl [HP10]; · iexact HP10
    isplitl [HP11]; · iexact HP11
    isplitl [HP12]; · iexact HP12
    isplitl [HP13]; · iexact HP13
    isplitl [HP14]; · iexact HP14
    isplitl [HP15]; · iexact HP15
    isplitl [HP16]; · iexact HP16
    iexact HP17
  isplitl [HG]; · iexact HG
  isplitl [Hx0l Hx0 Hx1l Hx1 Hx2 Ha0l Ha0 Ha1l Ha1 Ha2 Hp0 Hp1 Hp2 Hq0 Hq1]
  · isplitl [Hx0l Hx0 Hx1l Hx1 Hx2]
    · iapply (uncut_xs c)
      isplitl [Hx0l Hx0]
      · iapply (rejoin c); isplitl [Hx0l]; · iexact Hx0l
        iexact Hx0
      isplitl [Hx1l Hx1]
      · iapply (rejoin c); isplitl [Hx1l]; · iexact Hx1l
        iexact Hx1
      iapply (to_some c); iexact Hx2
    isplitl [Ha0l Ha0 Ha1l Ha1 Ha2]
    · iapply (uncut_as c)
      isplitl [Ha0l Ha0]
      · iapply (rejoin c); isplitl [Ha0l]; · iexact Ha0l
        iexact Ha0
      isplitl [Ha1l Ha1]
      · iapply (rejoin c); isplitl [Ha1l]; · iexact Ha1l
        iexact Ha1
      iapply (to_some c); iexact Ha2
    isplitl [Hp0 Hp1 Hp2]
    · iapply (uncut_pb c)
      isplitl [Hp0]; · iapply (to_some c); iexact Hp0
      isplitl [Hp1]; · iapply (to_some c); iexact Hp1
      iapply (to_some c); iexact Hp2
    iapply (uncut_ps c)
    isplitl [Hq0]; · iapply (show (pay m c 13 1 0 : sProp 𝕄) ⊢ some' c ps0 from to_some c); iexact Hq0
    iapply (show (pay m c 14 0 0 : sProp 𝕄) ⊢ some' c ps1 from to_some c); iexact Hq1
  isplitl [HO]; · iexact HO
  isplitl [Hxl Hx]
  · iapply (unhalve c); isplitl [Hxl]; · iexact Hxl
    iexact Hx
  isplitl [Hal Ha]
  · iapply (unhalve c); isplitl [Hal]; · iexact Hal
    iexact Ha
  iexact Ho

end Cert.KernelIdeal.Moe

end
-- ==== Proof.RestI.lean ====
/- The printed kernel function cut into what is left of it after each group of its parts. -/
module

public import proofs.«01_k».proof.Proof.ProgI
public import Idealize.ShloMosaic.Lib.Pointwise.Reshape

@[expose] public section

set_option maxRecDepth 65536

noncomputable section

namespace Cert.KernelIdeal.Moe

open Idealize.ShloMosaic Idealize.SL.Sem
open Cert.KernelIdeal Cert.KernelIdeal.Gen

variable {F : FTy → Type} [FloatOps F]

/-- Remainder by four with the sign of the divisor, as the kernel computes it. -/
def wrap4 (y : BitVec 32) : BitVec 32 :=
  let q : BitVec 32 := Scalar.select (Scalar.cmpi .eq 4#32 0#32) 1#32 4#32
  let r : BitVec 32 := Scalar.remsi y q
  Scalar.select (Scalar.andi (Scalar.xori (Scalar.cmpi .slt r 0#32) (Scalar.cmpi .slt q 0#32)) (Scalar.cmpi .ne r 0#32)) (Scalar.addi r q) r

/-- A tile's new rows as printed for the buffers of the ring, where the cast to the same shape comes last. -/
def slotVal (v : BitVec 32) (a : Vec F S256x1 .i32) (x : Vec F S256x1024 .f32) (w1 : Vec F S1024x512 .f32)
    (d : Vec F S256x1024 .f32) (w2 : Vec F S512x1024 .f32) : FVec F S256x1024 .f32 :=
  shapeCast S256x1024
    (addf d
      (matmul dot_S256x512_S512x1024_S256x1024_1_0_0_1_n_n none
        (maximumf
          (matmul dot_S256x1024_S1024x512_S256x512_1_0_0_1_n_n none
            (mulf x
              (broadcastTo S256x1024
                (sitofp .f32 (extui 32 (cmpi .eq a (broadcast S256x1 v)) natLt_1_32))
                broadcasts_S256x1_S256x1024))
            w1 (constant S256x512 .f32 0x00000000#32))
          (broadcast S256x512 (Scalar.ofBits .f32 0x00000000#32)))
        w2 (constant S256x1024 .f32 0x00000000#32))) shapeCasts_S256x1024_S256x1024

theorem slotVal_eq (v : BitVec 32) (a : Vec F S256x1 .i32) (x : Vec F S256x1024 .f32) (w1 : Vec F S1024x512 .f32)
    (d : Vec F S256x1024 .f32) (w2 : Vec F S512x1024 .f32) : slotVal v a x w1 d w2 = tileVal v a x w1 d w2 := by
  unfold slotVal tileVal
  simp only [shapeCast_id]

/-- A tile storing `slotVal`. -/
def tileS (x : Memref sig .tc .vmem S1024x1024 .f32) (a : Memref sig .tc .vmem S1024x1 .i32) (d : Memref sig .tc .vmem S1024x1024 .f32)
    (w1 : Memref sig .tc .vmem S1024x512 .f32) (w2 : Memref sig .tc .vmem S512x1024 .f32) (v : BitVec 32) (r : ℕ)
    (hr : ∀ i, (![r, 0] : Fin 2 → Nat) i + S256x1024.size i ≤ S1024x1024.size i)
    (ha : ∀ i, (![r, 0] : Fin 2 → Nat) i + S256x1.size i ≤ S1024x1.size i) : TP F PUnit := do
  let va : Vec F S256x1 .i32 ← Prog.lift (.load a (Rect.unit (s := S1024x1) ![r, 0] S256x1.size ha).toLoadRect (View.loadsAt_vmem h_S256x1))
  let vx : Vec F S256x1024 .f32 ← Prog.lift (.load x (Rect.unit (s := S1024x1024) ![r, 0] S256x1024.size hr).toLoadRect (View.loadsAt_vmem h_S256x1024))
  let vw1 : Vec F S1024x512 .f32 ← Prog.lift (.load w1 (Rect.unit (s := S1024x512) ![0, 0] S1024x512.size inb_S1024x512_S1024x512_0_0).toLoadRect (View.loadsAt_vmem h_S1024x512))
  let vd : Vec F S256x1024 .f32 ← Prog.lift (.load d (Rect.unit (s := S1024x1024) ![r, 0] S256x1024.size hr).toLoadRect (View.loadsAt_vmem h_S256x1024))
  let vw2 : Vec F S512x1024 .f32 ← Prog.lift (.load w2 (Rect.unit (s := S512x1024) ![0, 0] S512x1024.size inb_S512x1024_S512x1024_0_0).toLoadRect (View.loadsAt_vmem h_S512x1024))
  let _ : Vec F S256x1024 .f32 ← Prog.lift (.load d (Rect.unit (s := S1024x1024) ![r, 0] S256x1024.size hr).toLoadRect (View.loadsAt_vmem h_S256x1024))
  Prog.lift (.store d (Rect.unit (s := S1024x1024) ![r, 0] S256x1024.size hr) (slotVal v va vx vw1 vd vw2) Finset.univ (View.stores_vmem_bits_univ h_S256x1024 rfl) (.inl rfl))

theorem tileS_eq : @tileS F _ = tile := by
  funext x a d w1 w2 v r hr ha
  unfold tileS tile
  simp only [slotVal_eq]

section
variable (p0 : Memref sig .tc .vmem S1024x1024 .f32) (h0 : p0.IsWhole)
    (p1 : Memref sig .tc .vmem S1024x1 .i32) (h1 : p1.IsWhole)
    (p2 : Memref sig .tc .hbm S2x1024x2048 .f32) (h2 : p2.IsWhole)
    (p3 : Memref sig .tc .hbm S2x2048x1024 .f32) (h3 : p3.IsWhole)
    (p4 : Memref sig .tc .vmem S1024x1024 .f32) (h4 : p4.IsWhole)
    (p5 : Memref sig .tc .vmem S3x1024x1024 .f32) (h5 : p5.IsWhole)
    (p6 : Memref sig .tc .vmem S3x1024x1 .i32) (h6 : p6.IsWhole)
    (p7 : Memref sig .tc .vmem S3x1024x1024 .f32) (h7 : p7.IsWhole)
    (p8 : Memref sig .tc .vmem S2x1024x1024 .f32) (h8 : p8.IsWhole)
    (p9 : Memref sig .tc .vmem S1024x512 .f32) (h9 : p9.IsWhole)
    (p10 : Memref sig .tc .vmem S512x1024 .f32) (h10 : p10.IsWhole)
    (p11 : DmaSems sig S3)
    (p12 : DmaSems sig S3)
    (p13 : DmaSems sig S3)
    (p14 : DmaSems sig S3)
    (p15 : DmaSems sig S2)
    (p16 : DmaSems sig S3)
    (p17 : DmaSems sig S2)

/-! ### What is left of the printed body after each group -/

def rest46 : TP F PUnit := do
    Prog.lift (.waitDma2 (sem3 p11 2 inb_S3_S1_2) (slot3 p5 2 inb_S3x1024x1024_S1x1024x1024_2_0_0) (slot3 p5 1 inb_S3x1024x1024_S1x1024x1024_1_0_0) ((View.wordExact_bits rfl).reshape _ _) ((View.wordExact_bits rfl).reshape _ _))
    Prog.lift (.waitDma2 (sem3 p13 2 inb_S3_S1_2) (slotA p6 2 inb_S3x1024x1_S1x1024x1_2_0_0) (slotA p6 1 inb_S3x1024x1_S1x1024x1_1_0_0) ((View.wordExact_bits rfl).reshape _ _) ((View.wordExact_bits rfl).reshape _ _))
    Prog.lift (.waitDma2 (sem2 p15 1 inb_S2_S1_1) (slot3 p7 1 inb_S3x1024x1024_S1x1024x1024_1_0_0) (slot2 p8 1 inb_S2x1024x1024_S1x1024x1024_1_0_0) ((View.wordExact_bits rfl).reshape _ _) ((View.wordExact_bits rfl).reshape _ _))
    Prog.lift (.waitDma2 (sem2 p15 0 inb_S2_S1_0) (slot3 p7 2 inb_S3x1024x1024_S1x1024x1024_2_0_0) (slot2 p8 0 inb_S2x1024x1024_S1x1024x1024_0_0_0) ((View.wordExact_bits rfl).reshape _ _) ((View.wordExact_bits rfl).reshape _ _))

def rest45 : TP F PUnit := do
    k0_part138 p0 h0 p1 h1 p2 h2 p3 h3 p4 h4 p5 h5 p6 h6 p7 h7 p8 h8 p9 h9 p10 h10 p11 p12 p13 p14 p15 p16 p17
    rest46 p5 p6 p7 p8 p11 p13 p15

def rest44 (v3995 : BitVec 32) : TP F PUnit := do
    k0_part137 p0 h0 p1 h1 p2 h2 p3 h3 p4 h4 p5 h5 p6 h6 p7 h7 p8 h8 p9 h9 p10 h10 p11 p12 p13 p14 p15 p16 p17 v3995
    rest45 p0 h0 p1 h1 p2 h2 p3 h3 p4 h4 p5 h5 p6 h6 p7 h7 p8 h8 p9 h9 p10 h10 p11 p12 p13 p14 p15 p16 p17

def rest43 (d0 : Dev nD) (v1889 : BitVec 32) (v2949 : BitVec 32) (v3995 : BitVec 32) : TP F PUnit := do
    k0_part136 p0 h0 p1 h1 p2 h2 p3 h3 p4 h4 p5 h5 p6 h6 p7 h7 p8 h8 p9 h9 p10 h10 p11 p12 p13 p14 p15 p16 p17 d0 v1889 v2949 v3995
    rest44 p0 h0 p1 h1 p2 h2 p3 h3 p4 h4 p5 h5 p6 h6 p7 h7 p8 h8 p9 h9 p10 h10 p11 p12 p13 p14 p15 p16 p17 v3995

def rest42 (v3487 : BitVec 32) (v2 : BitVec 32) (d0 : Dev nD) (v1889 : BitVec 32) (v2949 : BitVec 32) : TP F PUnit := do
    let v3935 : IVec S256x1 32 ← k0_part133 p0 h0 p1 h1 p2 h2 p3 h3 p4 h4 p5 h5 p6 h6 p7 h7 p8 h8 p9 h9 p10 h10 p11 p12 p13 p14 p15 p16 p17 v3487
    let v3963 : FVec F S256x1 .f32 ← k0_part134 p0 h0 p1 h1 p2 h2 p3 h3 p4 h4 p5 h5 p6 h6 p7 h7 p8 h8 p9 h9 p10 h10 p11 p12 p13 p14 p15 p16 p17 v3487 v3935
    let v3995 : BitVec 32 ← k0_part135 p0 h0 p1 h1 p2 h2 p3 h3 p4 h4 p5 h5 p6 h6 p7 h7 p8 h8 p9 h9 p10 h10 p11 p12 p13 p14 p15 p16 p17 v2 v3963
    rest43 p0 h0 p1 h1 p2 h2 p3 h3 p4 h4 p5 h5 p6 h6 p7 h7 p8 h8 p9 h9 p10 h10 p11 p12 p13 p14 p15 p16 p17 d0 v1889 v2949 v3995

def rest41 (v3487 : BitVec 32) (v2 : BitVec 32) (d0 : Dev nD) (v1889 : BitVec 32) (v2949 : BitVec 32) : TP F PUnit := do
    k0_part132 p0 h0 p1 h1 p2 h2 p3 h3 p4 h4 p5 h5 p6 h6 p7 h7 p8 h8 p9 h9 p10 h10 p11 p12 p13 p14 p15 p16 p17 v3487
    rest42 p0 h0 p1 h1 p2 h2 p3 h3 p4 h4 p5 h5 p6 h6 p7 h7 p8 h8 p9 h9 p10 h10 p11 p12 p13 p14 p15 p16 p17 v3487 v2 d0 v1889 v2949

def rest40 (v3487 : BitVec 32) (v2 : BitVec 32) (d0 : Dev nD) (v1889 : BitVec 32) (v2949 : BitVec 32) : TP F PUnit := do
    let v3643 : FVec F S256x512 .f32 ← k0_part123 p0 h0 p1 h1 p2 h2 p3 h3 p4 h4 p5 h5 p6 h6 p7 h7 p8 h8 p9 h9 p10 h10 p11 p12 p13 p14 p15 p16 p17 v3487
    let ⟨v3670, v3673⟩ : Σ' (v3670 : FVec F S256x512 .f32), Vec F S256x1024 .f32 ← k0_part124 p0 h0 p1 h1 p2 h2 p3 h3 p4 h4 p5 h5 p6 h6 p7 h7 p8 h8 p9 h9 p10 h10 p11 p12 p13 p14 p15 p16 p17 v3487 v3643
    let ⟨v3700, v3702⟩ : Σ' (v3700 : Vec F S256x1024 .f32), FVec F S256x1024 .f32 ← k0_part125 p0 h0 p1 h1 p2 h2 p3 h3 p4 h4 p5 h5 p6 h6 p7 h7 p8 h8 p9 h9 p10 h10 p11 p12 p13 p14 p15 p16 p17 v3487 v3670 v3673
    let v3730 : FVec F S256x1024 .f32 ← k0_part126 p0 h0 p1 h1 p2 h2 p3 h3 p4 h4 p5 h5 p6 h6 p7 h7 p8 h8 p9 h9 p10 h10 p11 p12 p13 p14 p15 p16 p17 v3487 v3700 v3702
    let v3758 : FVec F S256x1 .f32 ← k0_part127 p0 h0 p1 h1 p2 h2 p3 h3 p4 h4 p5 h5 p6 h6 p7 h7 p8 h8 p9 h9 p10 h10 p11 p12 p13 p14 p15 p16 p17 v3487 v3730
    let v3790 : FVec F S256x1024 .f32 ← k0_part128 p0 h0 p1 h1 p2 h2 p3 h3 p4 h4 p5 h5 p6 h6 p7 h7 p8 h8 p9 h9 p10 h10 p11 p12 p13 p14 p15 p16 p17 v3487 v3758
    let v3819 : FVec F S256x512 .f32 ← k0_part129 p0 h0 p1 h1 p2 h2 p3 h3 p4 h4 p5 h5 p6 h6 p7 h7 p8 h8 p9 h9 p10 h10 p11 p12 p13 p14 p15 p16 p17 v3487 v3790
    let v3848 : FVec F S256x512 .f32 ← k0_part130 p0 h0 p1 h1 p2 h2 p3 h3 p4 h4 p5 h5 p6 h6 p7 h7 p8 h8 p9 h9 p10 h10 p11 p12 p13 p14 p15 p16 p17 v3487 v3819
    k0_part131 p0 h0 p1 h1 p2 h2 p3 h3 p4 h4 p5 h5 p6 h6 p7 h7 p8 h8 p9 h9 p10 h10 p11 p12 p13 p14 p15 p16 p17 v3848
    rest41 p0 h0 p1 h1 p2 h2 p3 h3 p4 h4 p5 h5 p6 h6 p7 h7 p8 h8 p9 h9 p10 h10 p11 p12 p13 p14 p15 p16 p17 v3487 v2 d0 v1889 v2949

def rest39 (v3487 : BitVec 32) (v2 : BitVec 32) (d0 : Dev nD) (v1889 : BitVec 32) (v2949 : BitVec 32) : TP F PUnit := do
    k0_part122 p0 h0 p1 h1 p2 h2 p3 h3 p4 h4 p5 h5 p6 h6 p7 h7 p8 h8 p9 h9 p10 h10 p11 p12 p13 p14 p15 p16 p17 v3487
    rest40 p0 h0 p1 h1 p2 h2 p3 h3 p4 h4 p5 h5 p6 h6 p7 h7 p8 h8 p9 h9 p10 h10 p11 p12 p13 p14 p15 p16 p17 v3487 v2 d0 v1889 v2949

def rest38 (v3487 : BitVec 32) (v2 : BitVec 32) (d0 : Dev nD) (v1889 : BitVec 32) (v2949 : BitVec 32) : TP F PUnit := do
    let v3525 : FVec F S256x1024 .f32 ← k0_part119 p0 h0 p1 h1 p2 h2 p3 h3 p4 h4 p5 h5 p6 h6 p7 h7 p8 h8 p9 h9 p10 h10 p11 p12 p13 p14 p15 p16 p17 v3487
    let v3557 : FVec F S256x1024 .f32 ← k0_part120 p0 h0 p1 h1 p2 h2 p3 h3 p4 h4 p5 h5 p6 h6 p7 h7 p8 h8 p9 h9 p10 h10 p11 p12 p13 p14 p15 p16 p17 v3487 v3525
    k0_part121 p0 h0 p1 h1 p2 h2 p3 h3 p4 h4 p5 h5 p6 h6 p7 h7 p8 h8 p9 h9 p10 h10 p11 p12 p13 p14 p15 p16 p17 v3487 v3557
    rest39 p0 h0 p1 h1 p2 h2 p3 h3 p4 h4 p5 h5 p6 h6 p7 h7 p8 h8 p9 h9 p10 h10 p11 p12 p13 p14 p15 p16 p17 v3487 v2 d0 v1889 v2949

def rest37 (v2989 : BitVec 32) (v2 : BitVec 32) (d0 : Dev nD) (v1889 : BitVec 32) (v2949 : BitVec 32) : TP F PUnit := do
    let ⟨v3265, v3266⟩ : Σ' (v3265 : FVec F S256x1024 .f32), Vec F S1024x512 .f32 ← k0_part110 p0 h0 p1 h1 p2 h2 p3 h3 p4 h4 p5 h5 p6 h6 p7 h7 p8 h8 p9 h9 p10 h10 p11 p12 p13 p14 p15 p16 p17 v2989
    let v3296 : FVec F S256x512 .f32 ← k0_part111 p0 h0 p1 h1 p2 h2 p3 h3 p4 h4 p5 h5 p6 h6 p7 h7 p8 h8 p9 h9 p10 h10 p11 p12 p13 p14 p15 p16 p17 v2989 v3265 v3266
    let v3323 : FVec F S256x512 .f32 ← k0_part112 p0 h0 p1 h1 p2 h2 p3 h3 p4 h4 p5 h5 p6 h6 p7 h7 p8 h8 p9 h9 p10 h10 p11 p12 p13 p14 p15 p16 p17 v2989 v3296
    let ⟨v3350, v3353⟩ : Σ' (v3350 : FVec F S256x512 .f32), Vec F S256x1024 .f32 ← k0_part113 p0 h0 p1 h1 p2 h2 p3 h3 p4 h4 p5 h5 p6 h6 p7 h7 p8 h8 p9 h9 p10 h10 p11 p12 p13 p14 p15 p16 p17 v2989 v3323
    let ⟨v3380, v3381⟩ : Σ' (v3380 : Vec F S256x1 .i32), IVec S256x1 32 ← k0_part114 p0 h0 p1 h1 p2 h2 p3 h3 p4 h4 p5 h5 p6 h6 p7 h7 p8 h8 p9 h9 p10 h10 p11 p12 p13 p14 p15 p16 p17 v2989 v3350 v3353
    let v3411 : FVec F S256x1 .f32 ← k0_part115 p0 h0 p1 h1 p2 h2 p3 h3 p4 h4 p5 h5 p6 h6 p7 h7 p8 h8 p9 h9 p10 h10 p11 p12 p13 p14 p15 p16 p17 v2989 v3380 v3381
    let v3438 : FVec F S256x1 .f32 ← k0_part116 p0 h0 p1 h1 p2 h2 p3 h3 p4 h4 p5 h5 p6 h6 p7 h7 p8 h8 p9 h9 p10 h10 p11 p12 p13 p14 p15 p16 p17 v2989 v3411
    let v3470 : FVec F S256x1024 .f32 ← k0_part117 p0 h0 p1 h1 p2 h2 p3 h3 p4 h4 p5 h5 p6 h6 p7 h7 p8 h8 p9 h9 p10 h10 p11 p12 p13 p14 p15 p16 p17 v2989 v3438
    let v3487 : BitVec 32 ← k0_part118 p0 h0 p1 h1 p2 h2 p3 h3 p4 h4 p5 h5 p6 h6 p7 h7 p8 h8 p9 h9 p10 h10 p11 p12 p13 p14 p15 p16 p17 v2 v3470
    rest38 p0 h0 p1 h1 p2 h2 p3 h3 p4 h4 p5 h5 p6 h6 p7 h7 p8 h8 p9 h9 p10 h10 p11 p12 p13 p14 p15 p16 p17 v3487 v2 d0 v1889 v2949

def rest36 (v2989 : BitVec 32) (v2 : BitVec 32) (d0 : Dev nD) (v1889 : BitVec 32) (v2949 : BitVec 32) : TP F PUnit := do
    let ⟨v3145, v3148, v3149⟩ : Σ' (v3145 : FVec F S256x512 .f32) (v3148 : Vec F S256x1024 .f32), Vec F S512x1024 .f32 ← k0_part106 p0 h0 p1 h1 p2 h2 p3 h3 p4 h4 p5 h5 p6 h6 p7 h7 p8 h8 p9 h9 p10 h10 p11 p12 p13 p14 p15 p16 p17 v2989
    let v3178 : FVec F S256x1024 .f32 ← k0_part107 p0 h0 p1 h1 p2 h2 p3 h3 p4 h4 p5 h5 p6 h6 p7 h7 p8 h8 p9 h9 p10 h10 p11 p12 p13 p14 p15 p16 p17 v2989 v3145 v3148 v3149
    let v3205 : FVec F S256x1024 .f32 ← k0_part108 p0 h0 p1 h1 p2 h2 p3 h3 p4 h4 p5 h5 p6 h6 p7 h7 p8 h8 p9 h9 p10 h10 p11 p12 p13 p14 p15 p16 p17 v2989 v3178
    k0_part109 p0 h0 p1 h1 p2 h2 p3 h3 p4 h4 p5 h5 p6 h6 p7 h7 p8 h8 p9 h9 p10 h10 p11 p12 p13 p14 p15 p16 p17 v2989 v3205
    rest37 p0 h0 p1 h1 p2 h2 p3 h3 p4 h4 p5 h5 p6 h6 p7 h7 p8 h8 p9 h9 p10 h10 p11 p12 p13 p14 p15 p16 p17 v2989 v2 d0 v1889 v2949

def rest35 (v2989 : BitVec 32) (v2 : BitVec 32) (d0 : Dev nD) (v1889 : BitVec 32) (v2949 : BitVec 32) : TP F PUnit := do
    let v3093 : FVec F S256x1 .f32 ← k0_part104 p0 h0 p1 h1 p2 h2 p3 h3 p4 h4 p5 h5 p6 h6 p7 h7 p8 h8 p9 h9 p10 h10 p11 p12 p13 p14 p15 p16 p17 v2989
    k0_part105 p0 h0 p1 h1 p2 h2 p3 h3 p4 h4 p5 h5 p6 h6 p7 h7 p8 h8 p9 h9 p10 h10 p11 p12 p13 p14 p15 p16 p17 v3093
    rest36 p0 h0 p1 h1 p2 h2 p3 h3 p4 h4 p5 h5 p6 h6 p7 h7 p8 h8 p9 h9 p10 h10 p11 p12 p13 p14 p15 p16 p17 v2989 v2 d0 v1889 v2949

def rest34 (v2989 : BitVec 32) (v2 : BitVec 32) (d0 : Dev nD) (v1889 : BitVec 32) (v2949 : BitVec 32) : TP F PUnit := do
    k0_part103 p0 h0 p1 h1 p2 h2 p3 h3 p4 h4 p5 h5 p6 h6 p7 h7 p8 h8 p9 h9 p10 h10 p11 p12 p13 p14 p15 p16 p17 v2989
    rest35 p0 h0 p1 h1 p2 h2 p3 h3 p4 h4 p5 h5 p6 h6 p7 h7 p8 h8 p9 h9 p10 h10 p11 p12 p13 p14 p15 p16 p17 v2989 v2 d0 v1889 v2949

def rest33 (v2989 : BitVec 32) (v2 : BitVec 32) (d0 : Dev nD) (v1889 : BitVec 32) (v2949 : BitVec 32) : TP F PUnit := do
    k0_part102 p0 h0 p1 h1 p2 h2 p3 h3 p4 h4 p5 h5 p6 h6 p7 h7 p8 h8 p9 h9 p10 h10 p11 p12 p13 p14 p15 p16 p17 v2989
    rest34 p0 h0 p1 h1 p2 h2 p3 h3 p4 h4 p5 h5 p6 h6 p7 h7 p8 h8 p9 h9 p10 h10 p11 p12 p13 p14 p15 p16 p17 v2989 v2 d0 v1889 v2949

def rest32 (v2 : BitVec 32) (d0 : Dev nD) (v1889 : BitVec 32) (v2949 : BitVec 32) : TP F PUnit := do
    let v2989 : BitVec 32 ← k0_part101 p0 h0 p1 h1 p2 h2 p3 h3 p4 h4 p5 h5 p6 h6 p7 h7 p8 h8 p9 h9 p10 h10 p11 p12 p13 p14 p15 p16 p17 v2
    rest33 p0 h0 p1 h1 p2 h2 p3 h3 p4 h4 p5 h5 p6 h6 p7 h7 p8 h8 p9 h9 p10 h10 p11 p12 p13 p14 p15 p16 p17 v2989 v2 d0 v1889 v2949

def rest31 (d0 : Dev nD) (v13 : BitVec 32) (v2949 : BitVec 32) (c1_i32_2764 : BitVec 32) (v2 : BitVec 32) (v1889 : BitVec 32) : TP F PUnit := do
    k0_part100 p0 h0 p1 h1 p2 h2 p3 h3 p4 h4 p5 h5 p6 h6 p7 h7 p8 h8 p9 h9 p10 h10 p11 p12 p13 p14 p15 p16 p17 d0 v13 v2949 c1_i32_2764
    rest32 p0 h0 p1 h1 p2 h2 p3 h3 p4 h4 p5 h5 p6 h6 p7 h7 p8 h8 p9 h9 p10 h10 p11 p12 p13 p14 p15 p16 p17 v2 d0 v1889 v2949

def rest30 (v2441 : BitVec 32) (v2 : BitVec 32) (d0 : Dev nD) (v13 : BitVec 32) (v1889 : BitVec 32) : TP F PUnit := do
    let v2861 : IVec S256x1 1 ← k0_part96 p0 h0 p1 h1 p2 h2 p3 h3 p4 h4 p5 h5 p6 h6 p7 h7 p8 h8 p9 h9 p10 h10 p11 p12 p13 p14 p15 p16 p17 v2441
    let v2890 : FVec F S256x1 .f32 ← k0_part97 p0 h0 p1 h1 p2 h2 p3 h3 p4 h4 p5 h5 p6 h6 p7 h7 p8 h8 p9 h9 p10 h10 p11 p12 p13 p14 p15 p16 p17 v2441 v2861
    let ⟨v2917, v2920⟩ : Σ' (v2917 : FVec F S256x1 .f32), Vec F S256x1024 .f32 ← k0_part98 p0 h0 p1 h1 p2 h2 p3 h3 p4 h4 p5 h5 p6 h6 p7 h7 p8 h8 p9 h9 p10 h10 p11 p12 p13 p14 p15 p16 p17 v2441 v2890
    let ⟨v2949, c1_i32_2764⟩ : Σ' (v2949 : BitVec 32), BitVec 32 ← k0_part99 p0 h0 p1 h1 p2 h2 p3 h3 p4 h4 p5 h5 p6 h6 p7 h7 p8 h8 p9 h9 p10 h10 p11 p12 p13 p14 p15 p16 p17 v2 v2917 v2920
    rest31 p0 h0 p1 h1 p2 h2 p3 h3 p4 h4 p5 h5 p6 h6 p7 h7 p8 h8 p9 h9 p10 h10 p11 p12 p13 p14 p15 p16 p17 d0 v13 v2949 c1_i32_2764 v2 v1889

def rest29 (v2441 : BitVec 32) (v2 : BitVec 32) (d0 : Dev nD) (v13 : BitVec 32) (v1889 : BitVec 32) : TP F PUnit := do
    let v2597 : FVec F S256x512 .f32 ← k0_part87 p0 h0 p1 h1 p2 h2 p3 h3 p4 h4 p5 h5 p6 h6 p7 h7 p8 h8 p9 h9 p10 h10 p11 p12 p13 p14 p15 p16 p17 v2441
    let ⟨v2624, v2627, v2628, cst_2444⟩ : Σ' (v2624 : FVec F S256x512 .f32) (v2627 : Vec F S256x1024 .f32) (v2628 : Vec F S512x1024 .f32), FVec F S256x1024 .f32 ← k0_part88 p0 h0 p1 h1 p2 h2 p3 h3 p4 h4 p5 h5 p6 h6 p7 h7 p8 h8 p9 h9 p10 h10 p11 p12 p13 p14 p15 p16 p17 v2441 v2597
    let v2657 : FVec F S256x1024 .f32 ← k0_part89 p0 h0 p1 h1 p2 h2 p3 h3 p4 h4 p5 h5 p6 h6 p7 h7 p8 h8 p9 h9 p10 h10 p11 p12 p13 p14 p15 p16 p17 v2441 v2624 v2627 v2628 cst_2444
    let ⟨v2684, v2687⟩ : Σ' (v2684 : FVec F S256x1024 .f32), Vec F S256x1024 .f32 ← k0_part90 p0 h0 p1 h1 p2 h2 p3 h3 p4 h4 p5 h5 p6 h6 p7 h7 p8 h8 p9 h9 p10 h10 p11 p12 p13 p14 p15 p16 p17 v2441 v2657
    let ⟨v2715, v2716⟩ : Σ' (v2715 : Vec F S256x1024 .f32), FVec F S256x1024 .f32 ← k0_part91 p0 h0 p1 h1 p2 h2 p3 h3 p4 h4 p5 h5 p6 h6 p7 h7 p8 h8 p9 h9 p10 h10 p11 p12 p13 p14 p15 p16 p17 v2441 v2684 v2687
    let ⟨v2744, v2745, cst_2559⟩ : Σ' (v2744 : FVec F S256x1024 .f32) (v2745 : Vec F S1024x512 .f32), FVec F S256x512 .f32 ← k0_part92 p0 h0 p1 h1 p2 h2 p3 h3 p4 h4 p5 h5 p6 h6 p7 h7 p8 h8 p9 h9 p10 h10 p11 p12 p13 p14 p15 p16 p17 v2441 v2715 v2716
    let v2775 : FVec F S256x512 .f32 ← k0_part93 p0 h0 p1 h1 p2 h2 p3 h3 p4 h4 p5 h5 p6 h6 p7 h7 p8 h8 p9 h9 p10 h10 p11 p12 p13 p14 p15 p16 p17 v2441 v2744 v2745 cst_2559
    let v2802 : FVec F S256x512 .f32 ← k0_part94 p0 h0 p1 h1 p2 h2 p3 h3 p4 h4 p5 h5 p6 h6 p7 h7 p8 h8 p9 h9 p10 h10 p11 p12 p13 p14 p15 p16 p17 v2441 v2775
    k0_part95 p0 h0 p1 h1 p2 h2 p3 h3 p4 h4 p5 h5 p6 h6 p7 h7 p8 h8 p9 h9 p10 h10 p11 p12 p13 p14 p15 p16 p17 v2802
    rest30 p0 h0 p1 h1 p2 h2 p3 h3 p4 h4 p5 h5 p6 h6 p7 h7 p8 h8 p9 h9 p10 h10 p11 p12 p13 p14 p15 p16 p17 v2441 v2 d0 v13 v1889

def rest28 (v2441 : BitVec 32) (v2 : BitVec 32) (d0 : Dev nD) (v13 : BitVec 32) (v1889 : BitVec 32) : TP F PUnit := do
    let v2541 : Vec F S256x1 .i32 ← k0_part85 p0 h0 p1 h1 p2 h2 p3 h3 p4 h4 p5 h5 p6 h6 p7 h7 p8 h8 p9 h9 p10 h10 p11 p12 p13 p14 p15 p16 p17 v2441
    k0_part86 p0 h0 p1 h1 p2 h2 p3 h3 p4 h4 p5 h5 p6 h6 p7 h7 p8 h8 p9 h9 p10 h10 p11 p12 p13 p14 p15 p16 p17 v2441 v2541
    rest29 p0 h0 p1 h1 p2 h2 p3 h3 p4 h4 p5 h5 p6 h6 p7 h7 p8 h8 p9 h9 p10 h10 p11 p12 p13 p14 p15 p16 p17 v2441 v2 d0 v13 v1889

def rest27 (v2441 : BitVec 32) (v2 : BitVec 32) (d0 : Dev nD) (v13 : BitVec 32) (v1889 : BitVec 32) : TP F PUnit := do
    let v2479 : FVec F S256x1024 .f32 ← k0_part83 p0 h0 p1 h1 p2 h2 p3 h3 p4 h4 p5 h5 p6 h6 p7 h7 p8 h8 p9 h9 p10 h10 p11 p12 p13 p14 p15 p16 p17 v2441
    k0_part84 p0 h0 p1 h1 p2 h2 p3 h3 p4 h4 p5 h5 p6 h6 p7 h7 p8 h8 p9 h9 p10 h10 p11 p12 p13 p14 p15 p16 p17 v2441 v2479
    rest28 p0 h0 p1 h1 p2 h2 p3 h3 p4 h4 p5 h5 p6 h6 p7 h7 p8 h8 p9 h9 p10 h10 p11 p12 p13 p14 p15 p16 p17 v2441 v2 d0 v13 v1889

def rest26 (v1943 : BitVec 32) (v2 : BitVec 32) (d0 : Dev nD) (v13 : BitVec 32) (v1889 : BitVec 32) : TP F PUnit := do
    let ⟨v2221, v2222⟩ : Σ' (v2221 : FVec F S256x512 .f32), FVec F S256x512 .f32 ← k0_part74 p0 h0 p1 h1 p2 h2 p3 h3 p4 h4 p5 h5 p6 h6 p7 h7 p8 h8 p9 h9 p10 h10 p11 p12 p13 p14 p15 p16 p17 v1943
    let v2250 : FVec F S256x512 .f32 ← k0_part75 p0 h0 p1 h1 p2 h2 p3 h3 p4 h4 p5 h5 p6 h6 p7 h7 p8 h8 p9 h9 p10 h10 p11 p12 p13 p14 p15 p16 p17 v1943 v2221 v2222
    let ⟨v2277, v2280⟩ : Σ' (v2277 : FVec F S256x512 .f32), Vec F S256x1024 .f32 ← k0_part76 p0 h0 p1 h1 p2 h2 p3 h3 p4 h4 p5 h5 p6 h6 p7 h7 p8 h8 p9 h9 p10 h10 p11 p12 p13 p14 p15 p16 p17 v1943 v2250
    let v2310 : FVec F S256x1024 .f32 ← k0_part77 p0 h0 p1 h1 p2 h2 p3 h3 p4 h4 p5 h5 p6 h6 p7 h7 p8 h8 p9 h9 p10 h10 p11 p12 p13 p14 p15 p16 p17 v1943 v2277 v2280
    let v2338 : FVec F S256x1 .f32 ← k0_part78 p0 h0 p1 h1 p2 h2 p3 h3 p4 h4 p5 h5 p6 h6 p7 h7 p8 h8 p9 h9 p10 h10 p11 p12 p13 p14 p15 p16 p17 v1943 v2310
    let v2365 : FVec F S256x1 .f32 ← k0_part79 p0 h0 p1 h1 p2 h2 p3 h3 p4 h4 p5 h5 p6 h6 p7 h7 p8 h8 p9 h9 p10 h10 p11 p12 p13 p14 p15 p16 p17 v1943 v2338
    let v2397 : FVec F S256x1024 .f32 ← k0_part80 p0 h0 p1 h1 p2 h2 p3 h3 p4 h4 p5 h5 p6 h6 p7 h7 p8 h8 p9 h9 p10 h10 p11 p12 p13 p14 p15 p16 p17 v1943 v2365
    let ⟨v2426, cst_2240⟩ : Σ' (v2426 : FVec F S256x512 .f32), F .f32 ← k0_part81 p0 h0 p1 h1 p2 h2 p3 h3 p4 h4 p5 h5 p6 h6 p7 h7 p8 h8 p9 h9 p10 h10 p11 p12 p13 p14 p15 p16 p17 v1943 v2397
    let v2441 : BitVec 32 ← k0_part82 p0 h0 p1 h1 p2 h2 p3 h3 p4 h4 p5 h5 p6 h6 p7 h7 p8 h8 p9 h9 p10 h10 p11 p12 p13 p14 p15 p16 p17 v2 v2426 cst_2240
    rest27 p0 h0 p1 h1 p2 h2 p3 h3 p4 h4 p5 h5 p6 h6 p7 h7 p8 h8 p9 h9 p10 h10 p11 p12 p13 p14 p15 p16 p17 v2441 v2 d0 v13 v1889

def rest25 (v1943 : BitVec 32) (v2 : BitVec 32) (d0 : Dev nD) (v13 : BitVec 32) (v1889 : BitVec 32) : TP F PUnit := do
    k0_part73 p0 h0 p1 h1 p2 h2 p3 h3 p4 h4 p5 h5 p6 h6 p7 h7 p8 h8 p9 h9 p10 h10 p11 p12 p13 p14 p15 p16 p17 v1943
    rest26 p0 h0 p1 h1 p2 h2 p3 h3 p4 h4 p5 h5 p6 h6 p7 h7 p8 h8 p9 h9 p10 h10 p11 p12 p13 p14 p15 p16 p17 v1943 v2 d0 v13 v1889

def rest24 (v1943 : BitVec 32) (v2 : BitVec 32) (d0 : Dev nD) (v13 : BitVec 32) (v1889 : BitVec 32) : TP F PUnit := do
    let v2105 : FVec F S256x1024 .f32 ← k0_part70 p0 h0 p1 h1 p2 h2 p3 h3 p4 h4 p5 h5 p6 h6 p7 h7 p8 h8 p9 h9 p10 h10 p11 p12 p13 p14 p15 p16 p17 v1943
    let v2132 : FVec F S256x1024 .f32 ← k0_part71 p0 h0 p1 h1 p2 h2 p3 h3 p4 h4 p5 h5 p6 h6 p7 h7 p8 h8 p9 h9 p10 h10 p11 p12 p13 p14 p15 p16 p17 v1943 v2105
    k0_part72 p0 h0 p1 h1 p2 h2 p3 h3 p4 h4 p5 h5 p6 h6 p7 h7 p8 h8 p9 h9 p10 h10 p11 p12 p13 p14 p15 p16 p17 v1943 v2132
    rest25 p0 h0 p1 h1 p2 h2 p3 h3 p4 h4 p5 h5 p6 h6 p7 h7 p8 h8 p9 h9 p10 h10 p11 p12 p13 p14 p15 p16 p17 v1943 v2 d0 v13 v1889

def rest23 (v1943 : BitVec 32) (v2 : BitVec 32) (d0 : Dev nD) (v13 : BitVec 32) (v1889 : BitVec 32) : TP F PUnit := do
    let v2019 : IVec S256x1 32 ← k0_part67 p0 h0 p1 h1 p2 h2 p3 h3 p4 h4 p5 h5 p6 h6 p7 h7 p8 h8 p9 h9 p10 h10 p11 p12 p13 p14 p15 p16 p17 v1943
    let v2047 : FVec F S256x1 .f32 ← k0_part68 p0 h0 p1 h1 p2 h2 p3 h3 p4 h4 p5 h5 p6 h6 p7 h7 p8 h8 p9 h9 p10 h10 p11 p12 p13 p14 p15 p16 p17 v1943 v2019
    k0_part69 p0 h0 p1 h1 p2 h2 p3 h3 p4 h4 p5 h5 p6 h6 p7 h7 p8 h8 p9 h9 p10 h10 p11 p12 p13 p14 p15 p16 p17 v2047
    rest24 p0 h0 p1 h1 p2 h2 p3 h3 p4 h4 p5 h5 p6 h6 p7 h7 p8 h8 p9 h9 p10 h10 p11 p12 p13 p14 p15 p16 p17 v1943 v2 d0 v13 v1889

def rest22 (v1943 : BitVec 32) (v2 : BitVec 32) (d0 : Dev nD) (v13 : BitVec 32) (v1889 : BitVec 32) : TP F PUnit := do
    k0_part66 p0 h0 p1 h1 p2 h2 p3 h3 p4 h4 p5 h5 p6 h6 p7 h7 p8 h8 p9 h9 p10 h10 p11 p12 p13 p14 p15 p16 p17 v1943
    rest23 p0 h0 p1 h1 p2 h2 p3 h3 p4 h4 p5 h5 p6 h6 p7 h7 p8 h8 p9 h9 p10 h10 p11 p12 p13 p14 p15 p16 p17 v1943 v2 d0 v13 v1889

def rest21 (d0 : Dev nD) (v2 : BitVec 32) (v13 : BitVec 32) (v1889 : BitVec 32) : TP F PUnit := do
    let v1943 : BitVec 32 ← k0_part65 p0 h0 p1 h1 p2 h2 p3 h3 p4 h4 p5 h5 p6 h6 p7 h7 p8 h8 p9 h9 p10 h10 p11 p12 p13 p14 p15 p16 p17 d0 v2
    rest22 p0 h0 p1 h1 p2 h2 p3 h3 p4 h4 p5 h5 p6 h6 p7 h7 p8 h8 p9 h9 p10 h10 p11 p12 p13 p14 p15 p16 p17 v1943 v2 d0 v13 v1889

def rest20 (d0 : Dev nD) (v13 : BitVec 32) (v2 : BitVec 32) (v1889 : BitVec 32) : TP F PUnit := do
    k0_part64 p0 h0 p1 h1 p2 h2 p3 h3 p4 h4 p5 h5 p6 h6 p7 h7 p8 h8 p9 h9 p10 h10 p11 p12 p13 p14 p15 p16 p17 d0 v13
    rest21 p0 h0 p1 h1 p2 h2 p3 h3 p4 h4 p5 h5 p6 h6 p7 h7 p8 h8 p9 h9 p10 h10 p11 p12 p13 p14 p15 p16 p17 d0 v2 v13 v1889

def rest19 (v1381 : BitVec 32) (d0 : Dev nD) (v2 : BitVec 32) (v13 : BitVec 32) : TP F PUnit := do
    let v1785 : FVec F S256x512 .f32 ← k0_part59 p0 h0 p1 h1 p2 h2 p3 h3 p4 h4 p5 h5 p6 h6 p7 h7 p8 h8 p9 h9 p10 h10 p11 p12 p13 p14 p15 p16 p17 v1381
    let ⟨v1812, v1815⟩ : Σ' (v1812 : FVec F S256x512 .f32), Vec F S256x1024 .f32 ← k0_part60 p0 h0 p1 h1 p2 h2 p3 h3 p4 h4 p5 h5 p6 h6 p7 h7 p8 h8 p9 h9 p10 h10 p11 p12 p13 p14 p15 p16 p17 v1381 v1785
    let v1845 : FVec F S256x1024 .f32 ← k0_part61 p0 h0 p1 h1 p2 h2 p3 h3 p4 h4 p5 h5 p6 h6 p7 h7 p8 h8 p9 h9 p10 h10 p11 p12 p13 p14 p15 p16 p17 v1381 v1812 v1815
    let v1872 : FVec F S256x1024 .f32 ← k0_part62 p0 h0 p1 h1 p2 h2 p3 h3 p4 h4 p5 h5 p6 h6 p7 h7 p8 h8 p9 h9 p10 h10 p11 p12 p13 p14 p15 p16 p17 v1381 v1845
    let v1889 : BitVec 32 ← k0_part63 p0 h0 p1 h1 p2 h2 p3 h3 p4 h4 p5 h5 p6 h6 p7 h7 p8 h8 p9 h9 p10 h10 p11 p12 p13 p14 p15 p16 p17 d0 v2 v13 v1872
    rest20 p0 h0 p1 h1 p2 h2 p3 h3 p4 h4 p5 h5 p6 h6 p7 h7 p8 h8 p9 h9 p10 h10 p11 p12 p13 p14 p15 p16 p17 d0 v13 v2 v1889

def rest18 (v1381 : BitVec 32) (d0 : Dev nD) (v2 : BitVec 32) (v13 : BitVec 32) : TP F PUnit := do
    k0_part58 p0 h0 p1 h1 p2 h2 p3 h3 p4 h4 p5 h5 p6 h6 p7 h7 p8 h8 p9 h9 p10 h10 p11 p12 p13 p14 p15 p16 p17 v1381
    rest19 p0 h0 p1 h1 p2 h2 p3 h3 p4 h4 p5 h5 p6 h6 p7 h7 p8 h8 p9 h9 p10 h10 p11 p12 p13 p14 p15 p16 p17 v1381 d0 v2 v13

def rest17 (v1381 : BitVec 32) (d0 : Dev nD) (v2 : BitVec 32) (v13 : BitVec 32) : TP F PUnit := do
    k0_part57 p0 h0 p1 h1 p2 h2 p3 h3 p4 h4 p5 h5 p6 h6 p7 h7 p8 h8 p9 h9 p10 h10 p11 p12 p13 p14 p15 p16 p17 v1381
    rest18 p0 h0 p1 h1 p2 h2 p3 h3 p4 h4 p5 h5 p6 h6 p7 h7 p8 h8 p9 h9 p10 h10 p11 p12 p13 p14 p15 p16 p17 v1381 d0 v2 v13

def rest16 (v1381 : BitVec 32) (d0 : Dev nD) (v2 : BitVec 32) (v13 : BitVec 32) : TP F PUnit := do
    let v1667 : FVec F S256x1024 .f32 ← k0_part55 p0 h0 p1 h1 p2 h2 p3 h3 p4 h4 p5 h5 p6 h6 p7 h7 p8 h8 p9 h9 p10 h10 p11 p12 p13 p14 p15 p16 p17 v1381
    k0_part56 p0 h0 p1 h1 p2 h2 p3 h3 p4 h4 p5 h5 p6 h6 p7 h7 p8 h8 p9 h9 p10 h10 p11 p12 p13 p14 p15 p16 p17 v1381 v1667
    rest17 p0 h0 p1 h1 p2 h2 p3 h3 p4 h4 p5 h5 p6 h6 p7 h7 p8 h8 p9 h9 p10 h10 p11 p12 p13 p14 p15 p16 p17 v1381 d0 v2 v13

def rest15 (v1381 : BitVec 32) (d0 : Dev nD) (v2 : BitVec 32) (v13 : BitVec 32) : TP F PUnit := do
    let v1555 : FVec F S256x1 .f32 ← k0_part51 p0 h0 p1 h1 p2 h2 p3 h3 p4 h4 p5 h5 p6 h6 p7 h7 p8 h8 p9 h9 p10 h10 p11 p12 p13 p14 p15 p16 p17 v1381
    let v1582 : FVec F S256x1 .f32 ← k0_part52 p0 h0 p1 h1 p2 h2 p3 h3 p4 h4 p5 h5 p6 h6 p7 h7 p8 h8 p9 h9 p10 h10 p11 p12 p13 p14 p15 p16 p17 v1381 v1555
    let v1614 : FVec F S256x1024 .f32 ← k0_part53 p0 h0 p1 h1 p2 h2 p3 h3 p4 h4 p5 h5 p6 h6 p7 h7 p8 h8 p9 h9 p10 h10 p11 p12 p13 p14 p15 p16 p17 v1381 v1582
    k0_part54 p0 h0 p1 h1 p2 h2 p3 h3 p4 h4 p5 h5 p6 h6 p7 h7 p8 h8 p9 h9 p10 h10 p11 p12 p13 p14 p15 p16 p17 v1614
    rest16 p0 h0 p1 h1 p2 h2 p3 h3 p4 h4 p5 h5 p6 h6 p7 h7 p8 h8 p9 h9 p10 h10 p11 p12 p13 p14 p15 p16 p17 v1381 d0 v2 v13

def rest14 (v1380 : BitVec 32) (c1_i32_1195 : BitVec 32) (d0 : Dev nD) (v2 : BitVec 32) (v13 : BitVec 32) : TP F PUnit := do
    let ⟨v1381, v1409⟩ : Σ' (v1381 : BitVec 32), FVec F S256x1024 .f32 ← k0_part46 p0 h0 p1 h1 p2 h2 p3 h3 p4 h4 p5 h5 p6 h6 p7 h7 p8 h8 p9 h9 p10 h10 p11 p12 p13 p14 p15 p16 p17 v1380 c1_i32_1195
    let ⟨v1438, cst_1252⟩ : Σ' (v1438 : FVec F S256x512 .f32), F .f32 ← k0_part47 p0 h0 p1 h1 p2 h2 p3 h3 p4 h4 p5 h5 p6 h6 p7 h7 p8 h8 p9 h9 p10 h10 p11 p12 p13 p14 p15 p16 p17 v1381 v1409
    let v1467 : FVec F S256x512 .f32 ← k0_part48 p0 h0 p1 h1 p2 h2 p3 h3 p4 h4 p5 h5 p6 h6 p7 h7 p8 h8 p9 h9 p10 h10 p11 p12 p13 p14 p15 p16 p17 v1381 v1438 cst_1252
    let ⟨v1494, v1497⟩ : Σ' (v1494 : FVec F S256x512 .f32), Vec F S256x1024 .f32 ← k0_part49 p0 h0 p1 h1 p2 h2 p3 h3 p4 h4 p5 h5 p6 h6 p7 h7 p8 h8 p9 h9 p10 h10 p11 p12 p13 p14 p15 p16 p17 v1381 v1467
    k0_part50 p0 h0 p1 h1 p2 h2 p3 h3 p4 h4 p5 h5 p6 h6 p7 h7 p8 h8 p9 h9 p10 h10 p11 p12 p13 p14 p15 p16 p17 v1494 v1497
    rest15 p0 h0 p1 h1 p2 h2 p3 h3 p4 h4 p5 h5 p6 h6 p7 h7 p8 h8 p9 h9 p10 h10 p11 p12 p13 p14 p15 p16 p17 v1381 d0 v2 v13

def rest13 (v883 : BitVec 32) (v2 : BitVec 32) (d0 : Dev nD) (v13 : BitVec 32) : TP F PUnit := do
    let ⟨v1290, v1292⟩ : Σ' (v1290 : Vec F S256x1024 .f32), FVec F S256x1024 .f32 ← k0_part42 p0 h0 p1 h1 p2 h2 p3 h3 p4 h4 p5 h5 p6 h6 p7 h7 p8 h8 p9 h9 p10 h10 p11 p12 p13 p14 p15 p16 p17 v883
    let v1320 : FVec F S256x1024 .f32 ← k0_part43 p0 h0 p1 h1 p2 h2 p3 h3 p4 h4 p5 h5 p6 h6 p7 h7 p8 h8 p9 h9 p10 h10 p11 p12 p13 p14 p15 p16 p17 v883 v1290 v1292
    let v1347 : FVec F S256x1024 .f32 ← k0_part44 p0 h0 p1 h1 p2 h2 p3 h3 p4 h4 p5 h5 p6 h6 p7 h7 p8 h8 p9 h9 p10 h10 p11 p12 p13 p14 p15 p16 p17 v883 v1320
    let ⟨v1380, c1_i32_1195⟩ : Σ' (v1380 : BitVec 32), BitVec 32 ← k0_part45 p0 h0 p1 h1 p2 h2 p3 h3 p4 h4 p5 h5 p6 h6 p7 h7 p8 h8 p9 h9 p10 h10 p11 p12 p13 p14 p15 p16 p17 v2 v883 v1347
    rest14 p0 h0 p1 h1 p2 h2 p3 h3 p4 h4 p5 h5 p6 h6 p7 h7 p8 h8 p9 h9 p10 h10 p11 p12 p13 p14 p15 p16 p17 v1380 c1_i32_1195 d0 v2 v13

def rest12 (v883 : BitVec 32) (v2 : BitVec 32) (d0 : Dev nD) (v13 : BitVec 32) : TP F PUnit := do
    let ⟨v1204, v1205⟩ : Σ' (v1204 : Vec F S256x1 .i32), IVec S256x1 32 ← k0_part39 p0 h0 p1 h1 p2 h2 p3 h3 p4 h4 p5 h5 p6 h6 p7 h7 p8 h8 p9 h9 p10 h10 p11 p12 p13 p14 p15 p16 p17 v883
    let v1235 : FVec F S256x1 .f32 ← k0_part40 p0 h0 p1 h1 p2 h2 p3 h3 p4 h4 p5 h5 p6 h6 p7 h7 p8 h8 p9 h9 p10 h10 p11 p12 p13 p14 p15 p16 p17 v883 v1204 v1205
    k0_part41 p0 h0 p1 h1 p2 h2 p3 h3 p4 h4 p5 h5 p6 h6 p7 h7 p8 h8 p9 h9 p10 h10 p11 p12 p13 p14 p15 p16 p17 v1235
    rest13 p0 h0 p1 h1 p2 h2 p3 h3 p4 h4 p5 h5 p6 h6 p7 h7 p8 h8 p9 h9 p10 h10 p11 p12 p13 p14 p15 p16 p17 v883 v2 d0 v13

def rest11 (v883 : BitVec 32) (v2 : BitVec 32) (d0 : Dev nD) (v13 : BitVec 32) : TP F PUnit := do
    k0_part38 p0 h0 p1 h1 p2 h2 p3 h3 p4 h4 p5 h5 p6 h6 p7 h7 p8 h8 p9 h9 p10 h10 p11 p12 p13 p14 p15 p16 p17 v883
    rest12 p0 h0 p1 h1 p2 h2 p3 h3 p4 h4 p5 h5 p6 h6 p7 h7 p8 h8 p9 h9 p10 h10 p11 p12 p13 p14 p15 p16 p17 v883 v2 d0 v13

def rest10 (v883 : BitVec 32) (v2 : BitVec 32) (d0 : Dev nD) (v13 : BitVec 32) : TP F PUnit := do
    let v915 : FVec F S256x512 .f32 ← k0_part29 p0 h0 p1 h1 p2 h2 p3 h3 p4 h4 p5 h5 p6 h6 p7 h7 p8 h8 p9 h9 p10 h10 p11 p12 p13 p14 p15 p16 p17 v883
    let v942 : FVec F S256x512 .f32 ← k0_part30 p0 h0 p1 h1 p2 h2 p3 h3 p4 h4 p5 h5 p6 h6 p7 h7 p8 h8 p9 h9 p10 h10 p11 p12 p13 p14 p15 p16 p17 v883 v915
    let ⟨v969, v972, v973⟩ : Σ' (v969 : FVec F S256x512 .f32) (v972 : Vec F S256x1024 .f32), Vec F S512x1024 .f32 ← k0_part31 p0 h0 p1 h1 p2 h2 p3 h3 p4 h4 p5 h5 p6 h6 p7 h7 p8 h8 p9 h9 p10 h10 p11 p12 p13 p14 p15 p16 p17 v883 v942
    let v1002 : FVec F S256x1024 .f32 ← k0_part32 p0 h0 p1 h1 p2 h2 p3 h3 p4 h4 p5 h5 p6 h6 p7 h7 p8 h8 p9 h9 p10 h10 p11 p12 p13 p14 p15 p16 p17 v883 v969 v972 v973
    let v1030 : FVec F S256x1 .f32 ← k0_part33 p0 h0 p1 h1 p2 h2 p3 h3 p4 h4 p5 h5 p6 h6 p7 h7 p8 h8 p9 h9 p10 h10 p11 p12 p13 p14 p15 p16 p17 v883 v1002
    let ⟨v1057, v1060⟩ : Σ' (v1057 : FVec F S256x1 .f32), Vec F S256x1024 .f32 ← k0_part34 p0 h0 p1 h1 p2 h2 p3 h3 p4 h4 p5 h5 p6 h6 p7 h7 p8 h8 p9 h9 p10 h10 p11 p12 p13 p14 p15 p16 p17 v883 v1030
    let ⟨v1089, v1090⟩ : Σ' (v1089 : FVec F S256x1024 .f32), Vec F S1024x512 .f32 ← k0_part35 p0 h0 p1 h1 p2 h2 p3 h3 p4 h4 p5 h5 p6 h6 p7 h7 p8 h8 p9 h9 p10 h10 p11 p12 p13 p14 p15 p16 p17 v883 v1057 v1060
    let v1120 : FVec F S256x512 .f32 ← k0_part36 p0 h0 p1 h1 p2 h2 p3 h3 p4 h4 p5 h5 p6 h6 p7 h7 p8 h8 p9 h9 p10 h10 p11 p12 p13 p14 p15 p16 p17 v883 v1089 v1090
    k0_part37 p0 h0 p1 h1 p2 h2 p3 h3 p4 h4 p5 h5 p6 h6 p7 h7 p8 h8 p9 h9 p10 h10 p11 p12 p13 p14 p15 p16 p17 v1120
    rest11 p0 h0 p1 h1 p2 h2 p3 h3 p4 h4 p5 h5 p6 h6 p7 h7 p8 h8 p9 h9 p10 h10 p11 p12 p13 p14 p15 p16 p17 v883 v2 d0 v13

def rest9 (d0 : Dev nD) (v2 : BitVec 32) (v13 : BitVec 32) (v856 : BitVec 32) : TP F PUnit := do
    let v883 : BitVec 32 ← k0_part28 p0 h0 p1 h1 p2 h2 p3 h3 p4 h4 p5 h5 p6 h6 p7 h7 p8 h8 p9 h9 p10 h10 p11 p12 p13 p14 p15 p16 p17 d0 v2 v13 v856
    rest10 p0 h0 p1 h1 p2 h2 p3 h3 p4 h4 p5 h5 p6 h6 p7 h7 p8 h8 p9 h9 p10 h10 p11 p12 p13 p14 p15 p16 p17 v883 v2 d0 v13

def rest8 (v459 : BitVec 32) (v13 : BitVec 32) (d0 : Dev nD) (v2 : BitVec 32) : TP F PUnit := do
    let v797 : FVec F S256x512 .f32 ← k0_part25 p0 h0 p1 h1 p2 h2 p3 h3 p4 h4 p5 h5 p6 h6 p7 h7 p8 h8 p9 h9 p10 h10 p11 p12 p13 p14 p15 p16 p17 v459
    let v829 : FVec F S256x1 .f32 ← k0_part26 p0 h0 p1 h1 p2 h2 p3 h3 p4 h4 p5 h5 p6 h6 p7 h7 p8 h8 p9 h9 p10 h10 p11 p12 p13 p14 p15 p16 p17 v459 v797
    let v856 : BitVec 32 ← k0_part27 p0 h0 p1 h1 p2 h2 p3 h3 p4 h4 p5 h5 p6 h6 p7 h7 p8 h8 p9 h9 p10 h10 p11 p12 p13 p14 p15 p16 p17 v13 v829
    rest9 p0 h0 p1 h1 p2 h2 p3 h3 p4 h4 p5 h5 p6 h6 p7 h7 p8 h8 p9 h9 p10 h10 p11 p12 p13 p14 p15 p16 p17 d0 v2 v13 v856

def rest7 (v459 : BitVec 32) (v13 : BitVec 32) (d0 : Dev nD) (v2 : BitVec 32) : TP F PUnit := do
    let v701 : FVec F S256x512 .f32 ← k0_part22 p0 h0 p1 h1 p2 h2 p3 h3 p4 h4 p5 h5 p6 h6 p7 h7 p8 h8 p9 h9 p10 h10 p11 p12 p13 p14 p15 p16 p17 v459
    let v733 : FVec F S256x1 .f32 ← k0_part23 p0 h0 p1 h1 p2 h2 p3 h3 p4 h4 p5 h5 p6 h6 p7 h7 p8 h8 p9 h9 p10 h10 p11 p12 p13 p14 p15 p16 p17 v459 v701
    k0_part24 p0 h0 p1 h1 p2 h2 p3 h3 p4 h4 p5 h5 p6 h6 p7 h7 p8 h8 p9 h9 p10 h10 p11 p12 p13 p14 p15 p16 p17 v733
    rest8 p0 h0 p1 h1 p2 h2 p3 h3 p4 h4 p5 h5 p6 h6 p7 h7 p8 h8 p9 h9 p10 h10 p11 p12 p13 p14 p15 p16 p17 v459 v13 d0 v2

def rest6 (v459 : BitVec 32) (v13 : BitVec 32) (d0 : Dev nD) (v2 : BitVec 32) : TP F PUnit := do
    let v605 : FVec F S256x512 .f32 ← k0_part19 p0 h0 p1 h1 p2 h2 p3 h3 p4 h4 p5 h5 p6 h6 p7 h7 p8 h8 p9 h9 p10 h10 p11 p12 p13 p14 p15 p16 p17 v459
    let v637 : FVec F S256x1 .f32 ← k0_part20 p0 h0 p1 h1 p2 h2 p3 h3 p4 h4 p5 h5 p6 h6 p7 h7 p8 h8 p9 h9 p10 h10 p11 p12 p13 p14 p15 p16 p17 v459 v605
    k0_part21 p0 h0 p1 h1 p2 h2 p3 h3 p4 h4 p5 h5 p6 h6 p7 h7 p8 h8 p9 h9 p10 h10 p11 p12 p13 p14 p15 p16 p17 v637
    rest7 p0 h0 p1 h1 p2 h2 p3 h3 p4 h4 p5 h5 p6 h6 p7 h7 p8 h8 p9 h9 p10 h10 p11 p12 p13 p14 p15 p16 p17 v459 v13 d0 v2

def rest5 (v459 : BitVec 32) (v13 : BitVec 32) (d0 : Dev nD) (v2 : BitVec 32) : TP F PUnit := do
    let v509 : FVec F S256x512 .f32 ← k0_part16 p0 h0 p1 h1 p2 h2 p3 h3 p4 h4 p5 h5 p6 h6 p7 h7 p8 h8 p9 h9 p10 h10 p11 p12 p13 p14 p15 p16 p17 v459
    let v541 : FVec F S256x1 .f32 ← k0_part17 p0 h0 p1 h1 p2 h2 p3 h3 p4 h4 p5 h5 p6 h6 p7 h7 p8 h8 p9 h9 p10 h10 p11 p12 p13 p14 p15 p16 p17 v459 v509
    k0_part18 p0 h0 p1 h1 p2 h2 p3 h3 p4 h4 p5 h5 p6 h6 p7 h7 p8 h8 p9 h9 p10 h10 p11 p12 p13 p14 p15 p16 p17 v541
    rest6 p0 h0 p1 h1 p2 h2 p3 h3 p4 h4 p5 h5 p6 h6 p7 h7 p8 h8 p9 h9 p10 h10 p11 p12 p13 p14 p15 p16 p17 v459 v13 d0 v2

def rest4 (v73 : BitVec 32) (v2 : BitVec 32) (v13 : BitVec 32) (d0 : Dev nD) : TP F PUnit := do
    let ⟨v411, v413⟩ : Σ' (v411 : FVec F S256x512 .f32), FVec F S256x1024 .f32 ← k0_part13 p0 h0 p1 h1 p2 h2 p3 h3 p4 h4 p5 h5 p6 h6 p7 h7 p8 h8 p9 h9 p10 h10 p11 p12 p13 p14 p15 p16 p17 v73
    let v447 : FVec F S256x1024 .f32 ← k0_part14 p0 h0 p1 h1 p2 h2 p3 h3 p4 h4 p5 h5 p6 h6 p7 h7 p8 h8 p9 h9 p10 h10 p11 p12 p13 p14 p15 p16 p17 v73 v411 v413
    let v459 : BitVec 32 ← k0_part15 p0 h0 p1 h1 p2 h2 p3 h3 p4 h4 p5 h5 p6 h6 p7 h7 p8 h8 p9 h9 p10 h10 p11 p12 p13 p14 p15 p16 p17 v2 v447
    rest5 p0 h0 p1 h1 p2 h2 p3 h3 p4 h4 p5 h5 p6 h6 p7 h7 p8 h8 p9 h9 p10 h10 p11 p12 p13 p14 p15 p16 p17 v459 v13 d0 v2

def rest3 (v73 : BitVec 32) (v2 : BitVec 32) (v13 : BitVec 32) (d0 : Dev nD) : TP F PUnit := do
    let ⟨v315, v317⟩ : Σ' (v315 : FVec F S256x512 .f32), FVec F S256x1024 .f32 ← k0_part10 p0 h0 p1 h1 p2 h2 p3 h3 p4 h4 p5 h5 p6 h6 p7 h7 p8 h8 p9 h9 p10 h10 p11 p12 p13 p14 p15 p16 p17 v73
    let v351 : FVec F S256x1024 .f32 ← k0_part11 p0 h0 p1 h1 p2 h2 p3 h3 p4 h4 p5 h5 p6 h6 p7 h7 p8 h8 p9 h9 p10 h10 p11 p12 p13 p14 p15 p16 p17 v73 v315 v317
    k0_part12 p0 h0 p1 h1 p2 h2 p3 h3 p4 h4 p5 h5 p6 h6 p7 h7 p8 h8 p9 h9 p10 h10 p11 p12 p13 p14 p15 p16 p17 v351
    rest4 p0 h0 p1 h1 p2 h2 p3 h3 p4 h4 p5 h5 p6 h6 p7 h7 p8 h8 p9 h9 p10 h10 p11 p12 p13 p14 p15 p16 p17 v73 v2 v13 d0

def rest2 (v73 : BitVec 32) (v2 : BitVec 32) (v13 : BitVec 32) (d0 : Dev nD) : TP F PUnit := do
    let ⟨v219, v221⟩ : Σ' (v219 : FVec F S256x512 .f32), FVec F S256x1024 .f32 ← k0_part7 p0 h0 p1 h1 p2 h2 p3 h3 p4 h4 p5 h5 p6 h6 p7 h7 p8 h8 p9 h9 p10 h10 p11 p12 p13 p14 p15 p16 p17 v73
    let v255 : FVec F S256x1024 .f32 ← k0_part8 p0 h0 p1 h1 p2 h2 p3 h3 p4 h4 p5 h5 p6 h6 p7 h7 p8 h8 p9 h9 p10 h10 p11 p12 p13 p14 p15 p16 p17 v73 v219 v221
    k0_part9 p0 h0 p1 h1 p2 h2 p3 h3 p4 h4 p5 h5 p6 h6 p7 h7 p8 h8 p9 h9 p10 h10 p11 p12 p13 p14 p15 p16 p17 v255
    rest3 p0 h0 p1 h1 p2 h2 p3 h3 p4 h4 p5 h5 p6 h6 p7 h7 p8 h8 p9 h9 p10 h10 p11 p12 p13 p14 p15 p16 p17 v73 v2 v13 d0

def rest1 (v73 : BitVec 32) (v2 : BitVec 32) (v13 : BitVec 32) (d0 : Dev nD) : TP F PUnit := do
    let ⟨v123, v125⟩ : Σ' (v123 : FVec F S256x512 .f32), FVec F S256x1024 .f32 ← k0_part4 p0 h0 p1 h1 p2 h2 p3 h3 p4 h4 p5 h5 p6 h6 p7 h7 p8 h8 p9 h9 p10 h10 p11 p12 p13 p14 p15 p16 p17 v73
    let v159 : FVec F S256x1024 .f32 ← k0_part5 p0 h0 p1 h1 p2 h2 p3 h3 p4 h4 p5 h5 p6 h6 p7 h7 p8 h8 p9 h9 p10 h10 p11 p12 p13 p14 p15 p16 p17 v73 v123 v125
    k0_part6 p0 h0 p1 h1 p2 h2 p3 h3 p4 h4 p5 h5 p6 h6 p7 h7 p8 h8 p9 h9 p10 h10 p11 p12 p13 p14 p15 p16 p17 v159
    rest2 p0 h0 p1 h1 p2 h2 p3 h3 p4 h4 p5 h5 p6 h6 p7 h7 p8 h8 p9 h9 p10 h10 p11 p12 p13 p14 p15 p16 p17 v73 v2 v13 d0

def rest0 : TP F PUnit := do
    let ⟨d0, v2, v13, v14, v30, v31, v32, c0_i32_20⟩ : Σ' (d0 : Dev nD) (v2 : BitVec 32) (v13 : BitVec 32) (v14 : Sems sig S_) (v30 : BitVec 32) (v31 : BitVec 32) (v32 : BitVec 1), BitVec 32 ← k0_part1 p0 h0 p1 h1 p2 h2 p3 h3 p4 h4 p5 h5 p6 h6 p7 h7 p8 h8 p9 h9 p10 h10 p11 p12 p13 p14 p15 p16 p17
    let c1_i32_45 : BitVec 32 ← k0_part2 p0 h0 p1 h1 p2 h2 p3 h3 p4 h4 p5 h5 p6 h6 p7 h7 p8 h8 p9 h9 p10 h10 p11 p12 p13 p14 p15 p16 p17 d0 v2 v13 v14 v30 v31 v32 c0_i32_20
    let v73 : BitVec 32 ← k0_part3 p0 h0 p1 h1 p2 h2 p3 h3 p4 h4 p5 h5 p6 h6 p7 h7 p8 h8 p9 h9 p10 h10 p11 p12 p13 p14 p15 p16 p17 d0 v2 v13 c1_i32_45
    rest1 p0 h0 p1 h1 p2 h2 p3 h3 p4 h4 p5 h5 p6 h6 p7 h7 p8 h8 p9 h9 p10 h10 p11 p12 p13 p14 p15 p16 p17 v73 v2 v13 d0

end

end Cert.KernelIdeal.Moe
-- ==== Proof.EqI.lean ====
/- The printed kernel function is the structured program `kern`: by groups of its printed parts. -/
module

public import proofs.«01_k».proof.Proof.RestI
public import Idealize.ShloMosaic.Lib.Pointwise.Reshape

@[expose] public section

set_option maxRecDepth 65536

noncomputable section

namespace Cert.KernelIdeal.Moe

open Idealize.ShloMosaic Idealize.SL.Sem
open Cert.KernelIdeal Cert.KernelIdeal.Gen

variable {F : FTy → Type} [FloatOps F]

section
variable (p0 : Memref sig .tc .vmem S1024x1024 .f32) (h0 : p0.IsWhole)
    (p1 : Memref sig .tc .vmem S1024x1 .i32) (h1 : p1.IsWhole)
    (p2 : Memref sig .tc .hbm S2x1024x2048 .f32) (h2 : p2.IsWhole)
    (p3 : Memref sig .tc .hbm S2x2048x1024 .f32) (h3 : p3.IsWhole)
    (p4 : Memref sig .tc .vmem S1024x1024 .f32) (h4 : p4.IsWhole)
    (p5 : Memref sig .tc .vmem S3x1024x1024 .f32) (h5 : p5.IsWhole)
    (p6 : Memref sig .tc .vmem S3x1024x1 .i32) (h6 : p6.IsWhole)
    (p7 : Memref sig .tc .vmem S3x1024x1024 .f32) (h7 : p7.IsWhole)
    (p8 : Memref sig .tc .vmem S2x1024x1024 .f32) (h8 : p8.IsWhole)
    (p9 : Memref sig .tc .vmem S1024x512 .f32) (h9 : p9.IsWhole)
    (p10 : Memref sig .tc .vmem S512x1024 .f32) (h10 : p10.IsWhole)
    (p11 : DmaSems sig S3)
    (p12 : DmaSems sig S3)
    (p13 : DmaSems sig S3)
    (p14 : DmaSems sig S3)
    (p15 : DmaSems sig S2)
    (p16 : DmaSems sig S3)
    (p17 : DmaSems sig S2)

/-! ### Each group is its steps -/

theorem pay171_eq (v : BitVec 32) (a : Vec F S256x1 .i32) (x : Vec F S256x1024 .f32) (w1 : Vec F S1024x512 .f32)
    (d : Vec F S256x1024 .f32) (w2 : Vec F S512x1024 .f32) : k0_pay171 v a x w1 d w2 = tileVal v a x w1 d w2 := by
  unfold k0_pay171 tileVal
  simp only [shapeCast_id]

theorem rest0_eq :
    rest0 p0 h0 p1 h1 p2 h2 p3 h3 p4 h4 p5 h5 p6 h6 p7 h7 p8 h8 p9 h9 p10 h10 p11 p12 p13 p14 p15 p16 p17 =
    (do
      let d0 : Dev nD ← Prog.lift .deviceId
      semSignalWord (⟨k0_dev1 d0, k0_dev1_lt d0⟩ : Dev nD) (SemArray.scalar (sig.barrier 0 rfl) : Sems sig S_).sem 1#32
      semSignalWord (⟨k0_dev2 d0, k0_dev2_lt d0⟩ : Dev nD) (SemArray.scalar (sig.barrier 0 rfl) : Sems sig S_).sem 1#32
      semSignalWord (⟨k0_dev3 d0, k0_dev3_lt d0⟩ : Dev nD) (SemArray.scalar (sig.barrier 0 rfl) : Sems sig S_).sem 1#32
      semWaitWord (SemArray.scalar (sig.barrier 0 rfl) : Sems sig S_).sem 3#32
      Prog.lift (.enqueueDma p0 (.remote (Dev.tc (⟨k0_dev4 d0, k0_dev4_lt d0⟩ : Dev nD)) (slot3 p5 0 inb_S3x1024x1024_S1x1024x1024_0_0_0) (.dma (sem3 p11 0 inb_S3_S1_0))) (.dma (sem3 p12 0 inb_S3_S1_0)) h0.wordExact ((View.wordExact_bits rfl).reshape _ _) ⟨⟨rfl, Or.inl rfl⟩, trivial⟩)
      Prog.lift (.enqueueDma p1 (.remote (Dev.tc (⟨k0_dev5 d0, k0_dev5_lt d0⟩ : Dev nD)) (slotA p6 0 inb_S3x1024x1_S1x1024x1_0_0_0) (.dma (sem3 p13 0 inb_S3_S1_0))) (.dma (sem3 p14 0 inb_S3_S1_0)) h1.wordExact ((View.wordExact_bits rfl).reshape _ _) ⟨⟨rfl, Or.inl rfl⟩, trivial⟩)
      clear p4
      fetch1 p2 p9 h9 p17 0 0 (inbW1 0 (by omega) 0 (by simp))
      fetch2 p3 p10 h10 p17 0 0 (inbW2 0 (by omega) 0 (by simp))
      fetched1 p2 p9 h9 p17 0 0 (inbW1 0 (by omega) 0 (by simp))
      fetched2 p3 p10 h10 p17 0 0 (inbW2 0 (by omega) 0 (by simp))
      rest1 p0 h0 p1 h1 p2 h2 p3 h3 p4 h4 p5 h5 p6 h6 p7 h7 p8 h8 p9 h9 p10 h10 p11 p12 p13 p14 p15 p16 p17 (Scalar.addi (Scalar.muli (posW d0) 2#32) 0#32) (posW d0) (wrap4 (Scalar.addi (posW d0) 1#32)) (d0)
      : TP F PUnit) := by
  unfold rest0
  rw [k0_part1_eq_skeleton, k0_part2_eq_skeleton, k0_part3_eq_skeleton]
  rfl

theorem rest1_eq (v73 : BitVec 32) (v2 : BitVec 32) (v13 : BitVec 32) (d0 : Dev nD) :
    rest1 p0 h0 p1 h1 p2 h2 p3 h3 p4 h4 p5 h5 p6 h6 p7 h7 p8 h8 p9 h9 p10 h10 p11 p12 p13 p14 p15 p16 p17 v73 v2 v13 d0 =
    (do
      tile p0 p1 p4 p9 p10 v73 0 inb_S1024x1024_S256x1024_0_0 inb_S1024x1_S256x1_0_0
      tile p0 p1 p4 p9 p10 v73 256 inb_S1024x1024_S256x1024_256_0 inb_S1024x1_S256x1_256_0
      tile p0 p1 p4 p9 p10 v73 512 inb_S1024x1024_S256x1024_512_0 inb_S1024x1_S256x1_512_0
      tile p0 p1 p4 p9 p10 v73 768 inb_S1024x1024_S256x1024_768_0 inb_S1024x1_S256x1_768_0
      fetch1 p2 p9 h9 p17 0 512 (inbW1 0 (by omega) 512 (by simp))
      fetch2 p3 p10 h10 p17 0 512 (inbW2 0 (by omega) 512 (by simp))
      fetched1 p2 p9 h9 p17 0 512 (inbW1 0 (by omega) 512 (by simp))
      fetched2 p3 p10 h10 p17 0 512 (inbW2 0 (by omega) 512 (by simp))
      rest2 p0 h0 p1 h1 p2 h2 p3 h3 p4 h4 p5 h5 p6 h6 p7 h7 p8 h8 p9 h9 p10 h10 p11 p12 p13 p14 p15 p16 p17 v73 v2 v13 d0
      : TP F PUnit) := by
  unfold rest1
  rw [k0_part4_eq_skeleton, k0_part5_eq_skeleton, k0_part6_eq_skeleton]
  rfl

theorem rest2_eq (v73 : BitVec 32) (v2 : BitVec 32) (v13 : BitVec 32) (d0 : Dev nD) :
    rest2 p0 h0 p1 h1 p2 h2 p3 h3 p4 h4 p5 h5 p6 h6 p7 h7 p8 h8 p9 h9 p10 h10 p11 p12 p13 p14 p15 p16 p17 v73 v2 v13 d0 =
    (do
      tile p0 p1 p4 p9 p10 v73 0 inb_S1024x1024_S256x1024_0_0 inb_S1024x1_S256x1_0_0
      tile p0 p1 p4 p9 p10 v73 256 inb_S1024x1024_S256x1024_256_0 inb_S1024x1_S256x1_256_0
      tile p0 p1 p4 p9 p10 v73 512 inb_S1024x1024_S256x1024_512_0 inb_S1024x1_S256x1_512_0
      tile p0 p1 p4 p9 p10 v73 768 inb_S1024x1024_S256x1024_768_0 inb_S1024x1_S256x1_768_0
      fetch1 p2 p9 h9 p17 0 1024 (inbW1 0 (by omega) 1024 (by simp))
      fetch2 p3 p10 h10 p17 0 1024 (inbW2 0 (by omega) 1024 (by simp))
      fetched1 p2 p9 h9 p17 0 1024 (inbW1 0 (by omega) 1024 (by simp))
      fetched2 p3 p10 h10 p17 0 1024 (inbW2 0 (by omega) 1024 (by simp))
      rest3 p0 h0 p1 h1 p2 h2 p3 h3 p4 h4 p5 h5 p6 h6 p7 h7 p8 h8 p9 h9 p10 h10 p11 p12 p13 p14 p15 p16 p17 v73 v2 v13 d0
      : TP F PUnit) := by
  unfold rest2
  rw [k0_part7_eq_skeleton, k0_part8_eq_skeleton, k0_part9_eq_skeleton]
  rfl

theorem rest3_eq (v73 : BitVec 32) (v2 : BitVec 32) (v13 : BitVec 32) (d0 : Dev nD) :
    rest3 p0 h0 p1 h1 p2 h2 p3 h3 p4 h4 p5 h5 p6 h6 p7 h7 p8 h8 p9 h9 p10 h10 p11 p12 p13 p14 p15 p16 p17 v73 v2 v13 d0 =
    (do
      tile p0 p1 p4 p9 p10 v73 0 inb_S1024x1024_S256x1024_0_0 inb_S1024x1_S256x1_0_0
      tile p0 p1 p4 p9 p10 v73 256 inb_S1024x1024_S256x1024_256_0 inb_S1024x1_S256x1_256_0
      tile p0 p1 p4 p9 p10 v73 512 inb_S1024x1024_S256x1024_512_0 inb_S1024x1_S256x1_512_0
      tile p0 p1 p4 p9 p10 v73 768 inb_S1024x1024_S256x1024_768_0 inb_S1024x1_S256x1_768_0
      fetch1 p2 p9 h9 p17 0 1536 (inbW1 0 (by omega) 1536 (by simp))
      fetch2 p3 p10 h10 p17 0 1536 (inbW2 0 (by omega) 1536 (by simp))
      fetched1 p2 p9 h9 p17 0 1536 (inbW1 0 (by omega) 1536 (by simp))
      fetched2 p3 p10 h10 p17 0 1536 (inbW2 0 (by omega) 1536 (by simp))
      rest4 p0 h0 p1 h1 p2 h2 p3 h3 p4 h4 p5 h5 p6 h6 p7 h7 p8 h8 p9 h9 p10 h10 p11 p12 p13 p14 p15 p16 p17 v73 v2 v13 d0
      : TP F PUnit) := by
  unfold rest3
  rw [k0_part10_eq_skeleton, k0_part11_eq_skeleton, k0_part12_eq_skeleton]
  rfl

theorem rest4_eq (v73 : BitVec 32) (v2 : BitVec 32) (v13 : BitVec 32) (d0 : Dev nD) :
    rest4 p0 h0 p1 h1 p2 h2 p3 h3 p4 h4 p5 h5 p6 h6 p7 h7 p8 h8 p9 h9 p10 h10 p11 p12 p13 p14 p15 p16 p17 v73 v2 v13 d0 =
    (do
      tile p0 p1 p4 p9 p10 v73 0 inb_S1024x1024_S256x1024_0_0 inb_S1024x1_S256x1_0_0
      tile p0 p1 p4 p9 p10 v73 256 inb_S1024x1024_S256x1024_256_0 inb_S1024x1_S256x1_256_0
      tile p0 p1 p4 p9 p10 v73 512 inb_S1024x1024_S256x1024_512_0 inb_S1024x1_S256x1_512_0
      tile p0 p1 p4 p9 p10 v73 768 inb_S1024x1024_S256x1024_768_0 inb_S1024x1_S256x1_768_0
      fetch1 p2 p9 h9 p17 1 0 (inbW1 1 (by omega) 0 (by simp))
      fetch2 p3 p10 h10 p17 1 0 (inbW2 1 (by omega) 0 (by simp))
      fetched1 p2 p9 h9 p17 1 0 (inbW1 1 (by omega) 0 (by simp))
      rest5 p0 h0 p1 h1 p2 h2 p3 h3 p4 h4 p5 h5 p6 h6 p7 h7 p8 h8 p9 h9 p10 h10 p11 p12 p13 p14 p15 p16 p17 (Scalar.addi (Scalar.muli v2 2#32) 1#32) v13 d0 v2
      : TP F PUnit) := by
  unfold rest4
  rw [k0_part13_eq_skeleton, k0_part14_eq_skeleton, k0_part15_eq_skeleton]
  rfl

theorem rest5_eq (v459 : BitVec 32) (v13 : BitVec 32) (d0 : Dev nD) (v2 : BitVec 32) :
    rest5 p0 h0 p1 h1 p2 h2 p3 h3 p4 h4 p5 h5 p6 h6 p7 h7 p8 h8 p9 h9 p10 h10 p11 p12 p13 p14 p15 p16 p17 v459 v13 d0 v2 =
    (do
      fetched2 p3 p10 h10 p17 1 0 (inbW2 1 (by omega) 0 (by simp))
      tile p0 p1 p4 p9 p10 v459 0 inb_S1024x1024_S256x1024_0_0 inb_S1024x1_S256x1_0_0
      tile p0 p1 p4 p9 p10 v459 256 inb_S1024x1024_S256x1024_256_0 inb_S1024x1_S256x1_256_0
      tile p0 p1 p4 p9 p10 v459 512 inb_S1024x1024_S256x1024_512_0 inb_S1024x1_S256x1_512_0
      tile p0 p1 p4 p9 p10 v459 768 inb_S1024x1024_S256x1024_768_0 inb_S1024x1_S256x1_768_0
      fetch1 p2 p9 h9 p17 1 512 (inbW1 1 (by omega) 512 (by simp))
      fetch2 p3 p10 h10 p17 1 512 (inbW2 1 (by omega) 512 (by simp))
      fetched1 p2 p9 h9 p17 1 512 (inbW1 1 (by omega) 512 (by simp))
      rest6 p0 h0 p1 h1 p2 h2 p3 h3 p4 h4 p5 h5 p6 h6 p7 h7 p8 h8 p9 h9 p10 h10 p11 p12 p13 p14 p15 p16 p17 v459 v13 d0 v2
      : TP F PUnit) := by
  unfold rest5
  rw [k0_part16_eq_skeleton, k0_part17_eq_skeleton, k0_part18_eq_skeleton]
  rfl

theorem rest6_eq (v459 : BitVec 32) (v13 : BitVec 32) (d0 : Dev nD) (v2 : BitVec 32) :
    rest6 p0 h0 p1 h1 p2 h2 p3 h3 p4 h4 p5 h5 p6 h6 p7 h7 p8 h8 p9 h9 p10 h10 p11 p12 p13 p14 p15 p16 p17 v459 v13 d0 v2 =
    (do
      fetched2 p3 p10 h10 p17 1 512 (inbW2 1 (by omega) 512 (by simp))
      tile p0 p1 p4 p9 p10 v459 0 inb_S1024x1024_S256x1024_0_0 inb_S1024x1_S256x1_0_0
      tile p0 p1 p4 p9 p10 v459 256 inb_S1024x1024_S256x1024_256_0 inb_S1024x1_S256x1_256_0
      tile p0 p1 p4 p9 p10 v459 512 inb_S1024x1024_S256x1024_512_0 inb_S1024x1_S256x1_512_0
      tile p0 p1 p4 p9 p10 v459 768 inb_S1024x1024_S256x1024_768_0 inb_S1024x1_S256x1_768_0
      fetch1 p2 p9 h9 p17 1 1024 (inbW1 1 (by omega) 1024 (by simp))
      fetch2 p3 p10 h10 p17 1 1024 (inbW2 1 (by omega) 1024 (by simp))
      fetched1 p2 p9 h9 p17 1 1024 (inbW1 1 (by omega) 1024 (by simp))
      rest7 p0 h0 p1 h1 p2 h2 p3 h3 p4 h4 p5 h5 p6 h6 p7 h7 p8 h8 p9 h9 p10 h10 p11 p12 p13 p14 p15 p16 p17 v459 v13 d0 v2
      : TP F PUnit) := by
  unfold rest6
  rw [k0_part19_eq_skeleton, k0_part20_eq_skeleton, k0_part21_eq_skeleton]
  rfl

theorem rest7_eq (v459 : BitVec 32) (v13 : BitVec 32) (d0 : Dev nD) (v2 : BitVec 32) :
    rest7 p0 h0 p1 h1 p2 h2 p3 h3 p4 h4 p5 h5 p6 h6 p7 h7 p8 h8 p9 h9 p10 h10 p11 p12 p13 p14 p15 p16 p17 v459 v13 d0 v2 =
    (do
      fetched2 p3 p10 h10 p17 1 1024 (inbW2 1 (by omega) 1024 (by simp))
      tile p0 p1 p4 p9 p10 v459 0 inb_S1024x1024_S256x1024_0_0 inb_S1024x1_S256x1_0_0
      tile p0 p1 p4 p9 p10 v459 256 inb_S1024x1024_S256x1024_256_0 inb_S1024x1_S256x1_256_0
      tile p0 p1 p4 p9 p10 v459 512 inb_S1024x1024_S256x1024_512_0 inb_S1024x1_S256x1_512_0
      tile p0 p1 p4 p9 p10 v459 768 inb_S1024x1024_S256x1024_768_0 inb_S1024x1_S256x1_768_0
      fetch1 p2 p9 h9 p17 1 1536 (inbW1 1 (by omega) 1536 (by simp))
      fetch2 p3 p10 h10 p17 1 1536 (inbW2 1 (by omega) 1536 (by simp))
      fetched1 p2 p9 h9 p17 1 1536 (inbW1 1 (by omega) 1536 (by simp))
      rest8 p0 h0 p1 h1 p2 h2 p3 h3 p4 h4 p5 h5 p6 h6 p7 h7 p8 h8 p9 h9 p10 h10 p11 p12 p13 p14 p15 p16 p17 v459 v13 d0 v2
      : TP F PUnit) := by
  unfold rest7
  rw [k0_part22_eq_skeleton, k0_part23_eq_skeleton, k0_part24_eq_skeleton]
  rfl

theorem rest8_eq (v459 : BitVec 32) (v13 : BitVec 32) (d0 : Dev nD) (v2 : BitVec 32) :
    rest8 p0 h0 p1 h1 p2 h2 p3 h3 p4 h4 p5 h5 p6 h6 p7 h7 p8 h8 p9 h9 p10 h10 p11 p12 p13 p14 p15 p16 p17 v459 v13 d0 v2 =
    (do
      fetched2 p3 p10 h10 p17 1 1536 (inbW2 1 (by omega) 1536 (by simp))
      tile p0 p1 p4 p9 p10 v459 0 inb_S1024x1024_S256x1024_0_0 inb_S1024x1_S256x1_0_0
      tile p0 p1 p4 p9 p10 v459 256 inb_S1024x1024_S256x1024_256_0 inb_S1024x1_S256x1_256_0
      tile p0 p1 p4 p9 p10 v459 512 inb_S1024x1024_S256x1024_512_0 inb_S1024x1_S256x1_512_0
      tile p0 p1 p4 p9 p10 v459 768 inb_S1024x1024_S256x1024_768_0 inb_S1024x1_S256x1_768_0
      Prog.lift (.waitDma2 (sem3 p12 0 inb_S3_S1_0) p0 (slot3 p5 0 inb_S3x1024x1024_S1x1024x1024_0_0_0) h0.wordExact ((View.wordExact_bits rfl).reshape _ _))
      Prog.lift (.waitDma2 (sem3 p14 0 inb_S3_S1_0) p1 (slotA p6 0 inb_S3x1024x1_S1x1024x1_0_0_0) h1.wordExact ((View.wordExact_bits rfl).reshape _ _))
      rest9 p0 h0 p1 h1 p2 h2 p3 h3 p4 h4 p5 h5 p6 h6 p7 h7 p8 h8 p9 h9 p10 h10 p11 p12 p13 p14 p15 p16 p17 d0 v2 v13 (Scalar.muli v13 1#32)
      : TP F PUnit) := by
  unfold rest8
  rw [k0_part25_eq_skeleton, k0_part26_eq_skeleton, k0_part27_eq_skeleton]
  rfl

theorem rest9_eq (d0 : Dev nD) (v2 : BitVec 32) (v13 : BitVec 32) (v856 : BitVec 32) :
    rest9 p0 h0 p1 h1 p2 h2 p3 h3 p4 h4 p5 h5 p6 h6 p7 h7 p8 h8 p9 h9 p10 h10 p11 p12 p13 p14 p15 p16 p17 d0 v2 v13 v856 =
    (do
      Prog.lift (.enqueueDma (slot3 p5 0 inb_S3x1024x1024_S1x1024x1024_0_0_0) (.remote (Dev.tc (⟨k0_dev6 d0, k0_dev6_lt d0⟩ : Dev nD)) (slot3 p5 1 inb_S3x1024x1024_S1x1024x1024_1_0_0) (.dma (sem3 p11 1 inb_S3_S1_1))) (.dma (sem3 p12 1 inb_S3_S1_1)) ((View.wordExact_bits rfl).reshape _ _) ((View.wordExact_bits rfl).reshape _ _) ⟨⟨rfl, Or.inl rfl⟩, trivial⟩)
      Prog.lift (.enqueueDma (slotA p6 0 inb_S3x1024x1_S1x1024x1_0_0_0) (.remote (Dev.tc (⟨k0_dev7 d0, k0_dev7_lt d0⟩ : Dev nD)) (slotA p6 1 inb_S3x1024x1_S1x1024x1_1_0_0) (.dma (sem3 p13 1 inb_S3_S1_1))) (.dma (sem3 p14 1 inb_S3_S1_1)) ((View.wordExact_bits rfl).reshape _ _) ((View.wordExact_bits rfl).reshape _ _) ⟨⟨rfl, Or.inl rfl⟩, trivial⟩)
      clear (slot2 p8 0 inb_S2x1024x1024_S1x1024x1024_0_0_0)
      rest10 p0 h0 p1 h1 p2 h2 p3 h3 p4 h4 p5 h5 p6 h6 p7 h7 p8 h8 p9 h9 p10 h10 p11 p12 p13 p14 p15 p16 p17 (Scalar.addi (Scalar.muli v2 2#32) 0#32) v2 d0 v13
      : TP F PUnit) := by
  unfold rest9
  rw [k0_part28_eq_skeleton]
  rfl

theorem rest10_eq (v883 : BitVec 32) (v2 : BitVec 32) (d0 : Dev nD) (v13 : BitVec 32) :
    rest10 p0 h0 p1 h1 p2 h2 p3 h3 p4 h4 p5 h5 p6 h6 p7 h7 p8 h8 p9 h9 p10 h10 p11 p12 p13 p14 p15 p16 p17 v883 v2 d0 v13 =
    (do
      fetch1 p2 p9 h9 p17 0 0 (inbW1 0 (by omega) 0 (by simp))
      fetch2 p3 p10 h10 p17 0 0 (inbW2 0 (by omega) 0 (by simp))
      fetched1 p2 p9 h9 p17 0 0 (inbW1 0 (by omega) 0 (by simp))
      fetched2 p3 p10 h10 p17 0 0 (inbW2 0 (by omega) 0 (by simp))
      tile (slot3 p5 0 inb_S3x1024x1024_S1x1024x1024_0_0_0) (slotA p6 0 inb_S3x1024x1_S1x1024x1_0_0_0) (slot2 p8 0 inb_S2x1024x1024_S1x1024x1024_0_0_0) p9 p10 v883 0 inb_S1024x1024_S256x1024_0_0 inb_S1024x1_S256x1_0_0
      tile (slot3 p5 0 inb_S3x1024x1024_S1x1024x1024_0_0_0) (slotA p6 0 inb_S3x1024x1_S1x1024x1_0_0_0) (slot2 p8 0 inb_S2x1024x1024_S1x1024x1024_0_0_0) p9 p10 v883 256 inb_S1024x1024_S256x1024_256_0 inb_S1024x1_S256x1_256_0
      tile (slot3 p5 0 inb_S3x1024x1024_S1x1024x1024_0_0_0) (slotA p6 0 inb_S3x1024x1_S1x1024x1_0_0_0) (slot2 p8 0 inb_S2x1024x1024_S1x1024x1024_0_0_0) p9 p10 v883 512 inb_S1024x1024_S256x1024_512_0 inb_S1024x1_S256x1_512_0
      tile (slot3 p5 0 inb_S3x1024x1024_S1x1024x1024_0_0_0) (slotA p6 0 inb_S3x1024x1_S1x1024x1_0_0_0) (slot2 p8 0 inb_S2x1024x1024_S1x1024x1024_0_0_0) p9 p10 v883 768 inb_S1024x1024_S256x1024_768_0 inb_S1024x1_S256x1_768_0
      fetch1 p2 p9 h9 p17 0 512 (inbW1 0 (by omega) 512 (by simp))
      fetch2 p3 p10 h10 p17 0 512 (inbW2 0 (by omega) 512 (by simp))
      fetched1 p2 p9 h9 p17 0 512 (inbW1 0 (by omega) 512 (by simp))
      fetched2 p3 p10 h10 p17 0 512 (inbW2 0 (by omega) 512 (by simp))
      tile (slot3 p5 0 inb_S3x1024x1024_S1x1024x1024_0_0_0) (slotA p6 0 inb_S3x1024x1_S1x1024x1_0_0_0) (slot2 p8 0 inb_S2x1024x1024_S1x1024x1024_0_0_0) p9 p10 v883 0 inb_S1024x1024_S256x1024_0_0 inb_S1024x1_S256x1_0_0
      tile (slot3 p5 0 inb_S3x1024x1024_S1x1024x1024_0_0_0) (slotA p6 0 inb_S3x1024x1_S1x1024x1_0_0_0) (slot2 p8 0 inb_S2x1024x1024_S1x1024x1024_0_0_0) p9 p10 v883 256 inb_S1024x1024_S256x1024_256_0 inb_S1024x1_S256x1_256_0
      tile (slot3 p5 0 inb_S3x1024x1024_S1x1024x1024_0_0_0) (slotA p6 0 inb_S3x1024x1_S1x1024x1_0_0_0) (slot2 p8 0 inb_S2x1024x1024_S1x1024x1024_0_0_0) p9 p10 v883 512 inb_S1024x1024_S256x1024_512_0 inb_S1024x1_S256x1_512_0
      tile (slot3 p5 0 inb_S3x1024x1024_S1x1024x1024_0_0_0) (slotA p6 0 inb_S3x1024x1_S1x1024x1_0_0_0) (slot2 p8 0 inb_S2x1024x1024_S1x1024x1024_0_0_0) p9 p10 v883 768 inb_S1024x1024_S256x1024_768_0 inb_S1024x1_S256x1_768_0
      fetch1 p2 p9 h9 p17 0 1024 (inbW1 0 (by omega) 1024 (by simp))
      fetch2 p3 p10 h10 p17 0 1024 (inbW2 0 (by omega) 1024 (by simp))
      fetched1 p2 p9 h9 p17 0 1024 (inbW1 0 (by omega) 1024 (by simp))
      rest11 p0 h0 p1 h1 p2 h2 p3 h3 p4 h4 p5 h5 p6 h6 p7 h7 p8 h8 p9 h9 p10 h10 p11 p12 p13 p14 p15 p16 p17 v883 v2 d0 v13
      : TP F PUnit) := by
  unfold rest10
  rw [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  simp only [← tileS_eq]
  rfl

theorem rest11_eq (v883 : BitVec 32) (v2 : BitVec 32) (d0 : Dev nD) (v13 : BitVec 32) :
    rest11 p0 h0 p1 h1 p2 h2 p3 h3 p4 h4 p5 h5 p6 h6 p7 h7 p8 h8 p9 h9 p10 h10 p11 p12 p13 p14 p15 p16 p17 v883 v2 d0 v13 =
    (do
      fetched2 p3 p10 h10 p17 0 1024 (inbW2 0 (by omega) 1024 (by simp))
      tile (slot3 p5 0 inb_S3x1024x1024_S1x1024x1024_0_0_0) (slotA p6 0 inb_S3x1024x1_S1x1024x1_0_0_0) (slot2 p8 0 inb_S2x1024x1024_S1x1024x1024_0_0_0) p9 p10 v883 0 inb_S1024x1024_S256x1024_0_0 inb_S1024x1_S256x1_0_0
      rest12 p0 h0 p1 h1 p2 h2 p3 h3 p4 h4 p5 h5 p6 h6 p7 h7 p8 h8 p9 h9 p10 h10 p11 p12 p13 p14 p15 p16 p17 v883 v2 d0 v13
      : TP F PUnit) := by
  unfold rest11
  rw [k0_part38_eq_skeleton]
  simp only [← tileS_eq]
  rfl

theorem rest12_eq (v883 : BitVec 32) (v2 : BitVec 32) (d0 : Dev nD) (v13 : BitVec 32) :
    rest12 p0 h0 p1 h1 p2 h2 p3 h3 p4 h4 p5 h5 p6 h6 p7 h7 p8 h8 p9 h9 p10 h10 p11 p12 p13 p14 p15 p16 p17 v883 v2 d0 v13 =
    (do
      tile (slot3 p5 0 inb_S3x1024x1024_S1x1024x1024_0_0_0) (slotA p6 0 inb_S3x1024x1_S1x1024x1_0_0_0) (slot2 p8 0 inb_S2x1024x1024_S1x1024x1024_0_0_0) p9 p10 v883 256 inb_S1024x1024_S256x1024_256_0 inb_S1024x1_S256x1_256_0
      tile (slot3 p5 0 inb_S3x1024x1024_S1x1024x1024_0_0_0) (slotA p6 0 inb_S3x1024x1_S1x1024x1_0_0_0) (slot2 p8 0 inb_S2x1024x1024_S1x1024x1024_0_0_0) p9 p10 v883 512 inb_S1024x1024_S256x1024_512_0 inb_S1024x1_S256x1_512_0
      tile (slot3 p5 0 inb_S3x1024x1024_S1x1024x1024_0_0_0) (slotA p6 0 inb_S3x1024x1_S1x1024x1_0_0_0) (slot2 p8 0 inb_S2x1024x1024_S1x1024x1024_0_0_0) p9 p10 v883 768 inb_S1024x1024_S256x1024_768_0 inb_S1024x1_S256x1_768_0
      fetch1 p2 p9 h9 p17 0 1536 (inbW1 0 (by omega) 1536 (by simp))
      fetch2 p3 p10 h10 p17 0 1536 (inbW2 0 (by omega) 1536 (by simp))
      rest13 p0 h0 p1 h1 p2 h2 p3 h3 p4 h4 p5 h5 p6 h6 p7 h7 p8 h8 p9 h9 p10 h10 p11 p12 p13 p14 p15 p16 p17 v883 v2 d0 v13
      : TP F PUnit) := by
  unfold rest12
  rw [k0_part39_eq_skeleton, k0_part40_eq_skeleton, k0_part41_eq_skeleton]
  simp only [← tileS_eq]
  rfl

theorem rest13_eq (v883 : BitVec 32) (v2 : BitVec 32) (d0 : Dev nD) (v13 : BitVec 32) :
    rest13 p0 h0 p1 h1 p2 h2 p3 h3 p4 h4 p5 h5 p6 h6 p7 h7 p8 h8 p9 h9 p10 h10 p11 p12 p13 p14 p15 p16 p17 v883 v2 d0 v13 =
    (do
      fetched1 p2 p9 h9 p17 0 1536 (inbW1 0 (by omega) 1536 (by simp))
      fetched2 p3 p10 h10 p17 0 1536 (inbW2 0 (by omega) 1536 (by simp))
      tile (slot3 p5 0 inb_S3x1024x1024_S1x1024x1024_0_0_0) (slotA p6 0 inb_S3x1024x1_S1x1024x1_0_0_0) (slot2 p8 0 inb_S2x1024x1024_S1x1024x1024_0_0_0) p9 p10 v883 0 inb_S1024x1024_S256x1024_0_0 inb_S1024x1_S256x1_0_0
      tile (slot3 p5 0 inb_S3x1024x1024_S1x1024x1024_0_0_0) (slotA p6 0 inb_S3x1024x1_S1x1024x1_0_0_0) (slot2 p8 0 inb_S2x1024x1024_S1x1024x1024_0_0_0) p9 p10 v883 256 inb_S1024x1024_S256x1024_256_0 inb_S1024x1_S256x1_256_0
      tile (slot3 p5 0 inb_S3x1024x1024_S1x1024x1024_0_0_0) (slotA p6 0 inb_S3x1024x1_S1x1024x1_0_0_0) (slot2 p8 0 inb_S2x1024x1024_S1x1024x1024_0_0_0) p9 p10 v883 512 inb_S1024x1024_S256x1024_512_0 inb_S1024x1_S256x1_512_0
      tile (slot3 p5 0 inb_S3x1024x1024_S1x1024x1024_0_0_0) (slotA p6 0 inb_S3x1024x1_S1x1024x1_0_0_0) (slot2 p8 0 inb_S2x1024x1024_S1x1024x1024_0_0_0) p9 p10 v883 768 inb_S1024x1024_S256x1024_768_0 inb_S1024x1_S256x1_768_0
      rest14 p0 h0 p1 h1 p2 h2 p3 h3 p4 h4 p5 h5 p6 h6 p7 h7 p8 h8 p9 h9 p10 h10 p11 p12 p13 p14 p15 p16 p17 (Scalar.muli v2 2#32) (1#32) d0 v2 v13
      : TP F PUnit) := by
  unfold rest13
  rw [k0_part42_eq_skeleton, k0_part43_eq_skeleton, k0_part44_eq_skeleton, k0_part45_eq_skeleton]
  simp only [← tileS_eq]
  rfl

theorem rest14_eq (v1380 : BitVec 32) (c1_i32_1195 : BitVec 32) (d0 : Dev nD) (v2 : BitVec 32) (v13 : BitVec 32) :
    rest14 p0 h0 p1 h1 p2 h2 p3 h3 p4 h4 p5 h5 p6 h6 p7 h7 p8 h8 p9 h9 p10 h10 p11 p12 p13 p14 p15 p16 p17 v1380 c1_i32_1195 d0 v2 v13 =
    (do
      fetch1 p2 p9 h9 p17 1 0 (inbW1 1 (by omega) 0 (by simp))
      fetch2 p3 p10 h10 p17 1 0 (inbW2 1 (by omega) 0 (by simp))
      fetched1 p2 p9 h9 p17 1 0 (inbW1 1 (by omega) 0 (by simp))
      fetched2 p3 p10 h10 p17 1 0 (inbW2 1 (by omega) 0 (by simp))
      tile (slot3 p5 0 inb_S3x1024x1024_S1x1024x1024_0_0_0) (slotA p6 0 inb_S3x1024x1_S1x1024x1_0_0_0) (slot2 p8 0 inb_S2x1024x1024_S1x1024x1024_0_0_0) p9 p10 (Scalar.addi v1380 c1_i32_1195) 0 inb_S1024x1024_S256x1024_0_0 inb_S1024x1_S256x1_0_0
      tile (slot3 p5 0 inb_S3x1024x1024_S1x1024x1024_0_0_0) (slotA p6 0 inb_S3x1024x1_S1x1024x1_0_0_0) (slot2 p8 0 inb_S2x1024x1024_S1x1024x1024_0_0_0) p9 p10 (Scalar.addi v1380 c1_i32_1195) 256 inb_S1024x1024_S256x1024_256_0 inb_S1024x1_S256x1_256_0
      tile (slot3 p5 0 inb_S3x1024x1024_S1x1024x1024_0_0_0) (slotA p6 0 inb_S3x1024x1_S1x1024x1_0_0_0) (slot2 p8 0 inb_S2x1024x1024_S1x1024x1024_0_0_0) p9 p10 (Scalar.addi v1380 c1_i32_1195) 512 inb_S1024x1024_S256x1024_512_0 inb_S1024x1_S256x1_512_0
      tile (slot3 p5 0 inb_S3x1024x1024_S1x1024x1024_0_0_0) (slotA p6 0 inb_S3x1024x1_S1x1024x1_0_0_0) (slot2 p8 0 inb_S2x1024x1024_S1x1024x1024_0_0_0) p9 p10 (Scalar.addi v1380 c1_i32_1195) 768 inb_S1024x1024_S256x1024_768_0 inb_S1024x1_S256x1_768_0
      fetch1 p2 p9 h9 p17 1 512 (inbW1 1 (by omega) 512 (by simp))
      fetch2 p3 p10 h10 p17 1 512 (inbW2 1 (by omega) 512 (by simp))
      fetched1 p2 p9 h9 p17 1 512 (inbW1 1 (by omega) 512 (by simp))
      fetched2 p3 p10 h10 p17 1 512 (inbW2 1 (by omega) 512 (by simp))
      rest15 p0 h0 p1 h1 p2 h2 p3 h3 p4 h4 p5 h5 p6 h6 p7 h7 p8 h8 p9 h9 p10 h10 p11 p12 p13 p14 p15 p16 p17 (Scalar.addi v1380 c1_i32_1195) d0 v2 v13
      : TP F PUnit) := by
  unfold rest14
  rw [k0_part46_eq_skeleton, k0_part47_eq_skeleton, k0_part48_eq_skeleton, k0_part49_eq_skeleton, k0_part50_eq_skeleton]
  simp only [← tileS_eq]
  rfl

theorem rest15_eq (v1381 : BitVec 32) (d0 : Dev nD) (v2 : BitVec 32) (v13 : BitVec 32) :
    rest15 p0 h0 p1 h1 p2 h2 p3 h3 p4 h4 p5 h5 p6 h6 p7 h7 p8 h8 p9 h9 p10 h10 p11 p12 p13 p14 p15 p16 p17 v1381 d0 v2 v13 =
    (do
      tile (slot3 p5 0 inb_S3x1024x1024_S1x1024x1024_0_0_0) (slotA p6 0 inb_S3x1024x1_S1x1024x1_0_0_0) (slot2 p8 0 inb_S2x1024x1024_S1x1024x1024_0_0_0) p9 p10 v1381 0 inb_S1024x1024_S256x1024_0_0 inb_S1024x1_S256x1_0_0
      tile (slot3 p5 0 inb_S3x1024x1024_S1x1024x1024_0_0_0) (slotA p6 0 inb_S3x1024x1_S1x1024x1_0_0_0) (slot2 p8 0 inb_S2x1024x1024_S1x1024x1024_0_0_0) p9 p10 v1381 256 inb_S1024x1024_S256x1024_256_0 inb_S1024x1_S256x1_256_0
      tile (slot3 p5 0 inb_S3x1024x1024_S1x1024x1024_0_0_0) (slotA p6 0 inb_S3x1024x1_S1x1024x1_0_0_0) (slot2 p8 0 inb_S2x1024x1024_S1x1024x1024_0_0_0) p9 p10 v1381 512 inb_S1024x1024_S256x1024_512_0 inb_S1024x1_S256x1_512_0
      tile (slot3 p5 0 inb_S3x1024x1024_S1x1024x1024_0_0_0) (slotA p6 0 inb_S3x1024x1_S1x1024x1_0_0_0) (slot2 p8 0 inb_S2x1024x1024_S1x1024x1024_0_0_0) p9 p10 v1381 768 inb_S1024x1024_S256x1024_768_0 inb_S1024x1_S256x1_768_0
      fetch1 p2 p9 h9 p17 1 1024 (inbW1 1 (by omega) 1024 (by simp))
      fetch2 p3 p10 h10 p17 1 1024 (inbW2 1 (by omega) 1024 (by simp))
      fetched1 p2 p9 h9 p17 1 1024 (inbW1 1 (by omega) 1024 (by simp))
      rest16 p0 h0 p1 h1 p2 h2 p3 h3 p4 h4 p5 h5 p6 h6 p7 h7 p8 h8 p9 h9 p10 h10 p11 p12 p13 p14 p15 p16 p17 v1381 d0 v2 v13
      : TP F PUnit) := by
  unfold rest15
  rw [k0_part51_eq_skeleton, k0_part52_eq_skeleton, k0_part53_eq_skeleton, k0_part54_eq_skeleton]
  simp only [← tileS_eq]
  rfl

theorem rest16_eq (v1381 : BitVec 32) (d0 : Dev nD) (v2 : BitVec 32) (v13 : BitVec 32) :
    rest16 p0 h0 p1 h1 p2 h2 p3 h3 p4 h4 p5 h5 p6 h6 p7 h7 p8 h8 p9 h9 p10 h10 p11 p12 p13 p14 p15 p16 p17 v1381 d0 v2 v13 =
    (do
      fetched2 p3 p10 h10 p17 1 1024 (inbW2 1 (by omega) 1024 (by simp))
      tile (slot3 p5 0 inb_S3x1024x1024_S1x1024x1024_0_0_0) (slotA p6 0 inb_S3x1024x1_S1x1024x1_0_0_0) (slot2 p8 0 inb_S2x1024x1024_S1x1024x1024_0_0_0) p9 p10 v1381 0 inb_S1024x1024_S256x1024_0_0 inb_S1024x1_S256x1_0_0
      tile (slot3 p5 0 inb_S3x1024x1024_S1x1024x1024_0_0_0) (slotA p6 0 inb_S3x1024x1_S1x1024x1_0_0_0) (slot2 p8 0 inb_S2x1024x1024_S1x1024x1024_0_0_0) p9 p10 v1381 256 inb_S1024x1024_S256x1024_256_0 inb_S1024x1_S256x1_256_0
      rest17 p0 h0 p1 h1 p2 h2 p3 h3 p4 h4 p5 h5 p6 h6 p7 h7 p8 h8 p9 h9 p10 h10 p11 p12 p13 p14 p15 p16 p17 v1381 d0 v2 v13
      : TP F PUnit) := by
  unfold rest16
  rw [k0_part55_eq_skeleton, k0_part56_eq_skeleton]
  simp only [← tileS_eq]
  rfl

theorem rest17_eq (v1381 : BitVec 32) (d0 : Dev nD) (v2 : BitVec 32) (v13 : BitVec 32) :
    rest17 p0 h0 p1 h1 p2 h2 p3 h3 p4 h4 p5 h5 p6 h6 p7 h7 p8 h8 p9 h9 p10 h10 p11 p12 p13 p14 p15 p16 p17 v1381 d0 v2 v13 =
    (do
      tile (slot3 p5 0 inb_S3x1024x1024_S1x1024x1024_0_0_0) (slotA p6 0 inb_S3x1024x1_S1x1024x1_0_0_0) (slot2 p8 0 inb_S2x1024x1024_S1x1024x1024_0_0_0) p9 p10 v1381 512 inb_S1024x1024_S256x1024_512_0 inb_S1024x1_S256x1_512_0
      rest18 p0 h0 p1 h1 p2 h2 p3 h3 p4 h4 p5 h5 p6 h6 p7 h7 p8 h8 p9 h9 p10 h10 p11 p12 p13 p14 p15 p16 p17 v1381 d0 v2 v13
      : TP F PUnit) := by
  unfold rest17
  rw [k0_part57_eq_skeleton]
  simp only [← tileS_eq]
  rfl

theorem rest18_eq (v1381 : BitVec 32) (d0 : Dev nD) (v2 : BitVec 32) (v13 : BitVec 32) :
    rest18 p0 h0 p1 h1 p2 h2 p3 h3 p4 h4 p5 h5 p6 h6 p7 h7 p8 h8 p9 h9 p10 h10 p11 p12 p13 p14 p15 p16 p17 v1381 d0 v2 v13 =
    (do
      tile (slot3 p5 0 inb_S3x1024x1024_S1x1024x1024_0_0_0) (slotA p6 0 inb_S3x1024x1_S1x1024x1_0_0_0) (slot2 p8 0 inb_S2x1024x1024_S1x1024x1024_0_0_0) p9 p10 v1381 768 inb_S1024x1024_S256x1024_768_0 inb_S1024x1_S256x1_768_0
      fetch1 p2 p9 h9 p17 1 1536 (inbW1 1 (by omega) 1536 (by simp))
      rest19 p0 h0 p1 h1 p2 h2 p3 h3 p4 h4 p5 h5 p6 h6 p7 h7 p8 h8 p9 h9 p10 h10 p11 p12 p13 p14 p15 p16 p17 v1381 d0 v2 v13
      : TP F PUnit) := by
  unfold rest18
  rw [k0_part58_eq_skeleton]
  simp only [← tileS_eq]
  rfl

theorem rest19_eq (v1381 : BitVec 32) (d0 : Dev nD) (v2 : BitVec 32) (v13 : BitVec 32) :
    rest19 p0 h0 p1 h1 p2 h2 p3 h3 p4 h4 p5 h5 p6 h6 p7 h7 p8 h8 p9 h9 p10 h10 p11 p12 p13 p14 p15 p16 p17 v1381 d0 v2 v13 =
    (do
      fetch2 p3 p10 h10 p17 1 1536 (inbW2 1 (by omega) 1536 (by simp))
      fetched1 p2 p9 h9 p17 1 1536 (inbW1 1 (by omega) 1536 (by simp))
      fetched2 p3 p10 h10 p17 1 1536 (inbW2 1 (by omega) 1536 (by simp))
      tile (slot3 p5 0 inb_S3x1024x1024_S1x1024x1024_0_0_0) (slotA p6 0 inb_S3x1024x1_S1x1024x1_0_0_0) (slot2 p8 0 inb_S2x1024x1024_S1x1024x1024_0_0_0) p9 p10 v1381 0 inb_S1024x1024_S256x1024_0_0 inb_S1024x1_S256x1_0_0
      tile (slot3 p5 0 inb_S3x1024x1024_S1x1024x1024_0_0_0) (slotA p6 0 inb_S3x1024x1_S1x1024x1_0_0_0) (slot2 p8 0 inb_S2x1024x1024_S1x1024x1024_0_0_0) p9 p10 v1381 256 inb_S1024x1024_S256x1024_256_0 inb_S1024x1_S256x1_256_0
      tile (slot3 p5 0 inb_S3x1024x1024_S1x1024x1024_0_0_0) (slotA p6 0 inb_S3x1024x1_S1x1024x1_0_0_0) (slot2 p8 0 inb_S2x1024x1024_S1x1024x1024_0_0_0) p9 p10 v1381 512 inb_S1024x1024_S256x1024_512_0 inb_S1024x1_S256x1_512_0
      tile (slot3 p5 0 inb_S3x1024x1024_S1x1024x1024_0_0_0) (slotA p6 0 inb_S3x1024x1_S1x1024x1_0_0_0) (slot2 p8 0 inb_S2x1024x1024_S1x1024x1024_0_0_0) p9 p10 v1381 768 inb_S1024x1024_S256x1024_768_0 inb_S1024x1_S256x1_768_0
      Prog.lift (.enqueueDma (slot2 p8 0 inb_S2x1024x1024_S1x1024x1024_0_0_0) (.remote (Dev.tc (⟨k0_dev8 d0, k0_dev8_lt d0⟩ : Dev nD)) (slot3 p7 0 inb_S3x1024x1024_S1x1024x1024_0_0_0) (.dma (sem2 p15 0 inb_S2_S1_0))) (.dma (sem3 p16 0 inb_S3_S1_0)) ((View.wordExact_bits rfl).reshape _ _) ((View.wordExact_bits rfl).reshape _ _) ⟨⟨rfl, Or.inl rfl⟩, trivial⟩)
      rest20 p0 h0 p1 h1 p2 h2 p3 h3 p4 h4 p5 h5 p6 h6 p7 h7 p8 h8 p9 h9 p10 h10 p11 p12 p13 p14 p15 p16 p17 d0 v13 v2 (wrap4 (Scalar.subi (Scalar.subi v2 1#32) 0#32))
      : TP F PUnit) := by
  unfold rest19
  rw [k0_part59_eq_skeleton, k0_part60_eq_skeleton, k0_part61_eq_skeleton, k0_part62_eq_skeleton, k0_part63_eq_skeleton]
  simp only [← tileS_eq]
  rfl

theorem rest20_eq (d0 : Dev nD) (v13 : BitVec 32) (v2 : BitVec 32) (v1889 : BitVec 32) :
    rest20 p0 h0 p1 h1 p2 h2 p3 h3 p4 h4 p5 h5 p6 h6 p7 h7 p8 h8 p9 h9 p10 h10 p11 p12 p13 p14 p15 p16 p17 d0 v13 v2 v1889 =
    (do
      Prog.lift (.waitDma2 (sem3 p12 1 inb_S3_S1_1) (slot3 p5 0 inb_S3x1024x1024_S1x1024x1024_0_0_0) (slot3 p5 1 inb_S3x1024x1024_S1x1024x1024_1_0_0) ((View.wordExact_bits rfl).reshape _ _) ((View.wordExact_bits rfl).reshape _ _))
      Prog.lift (.waitDma2 (sem3 p14 1 inb_S3_S1_1) (slotA p6 0 inb_S3x1024x1_S1x1024x1_0_0_0) (slotA p6 1 inb_S3x1024x1_S1x1024x1_1_0_0) ((View.wordExact_bits rfl).reshape _ _) ((View.wordExact_bits rfl).reshape _ _))
      Prog.lift (.enqueueDma (slot3 p5 1 inb_S3x1024x1024_S1x1024x1024_1_0_0) (.remote (Dev.tc (⟨k0_dev9 d0, k0_dev9_lt d0⟩ : Dev nD)) (slot3 p5 2 inb_S3x1024x1024_S1x1024x1024_2_0_0) (.dma (sem3 p11 2 inb_S3_S1_2))) (.dma (sem3 p12 2 inb_S3_S1_2)) ((View.wordExact_bits rfl).reshape _ _) ((View.wordExact_bits rfl).reshape _ _) ⟨⟨rfl, Or.inl rfl⟩, trivial⟩)
      rest21 p0 h0 p1 h1 p2 h2 p3 h3 p4 h4 p5 h5 p6 h6 p7 h7 p8 h8 p9 h9 p10 h10 p11 p12 p13 p14 p15 p16 p17 d0 v2 v13 v1889
      : TP F PUnit) := by
  unfold rest20
  rw [k0_part64_eq_skeleton]
  rfl

theorem rest21_eq (d0 : Dev nD) (v2 : BitVec 32) (v13 : BitVec 32) (v1889 : BitVec 32) :
    rest21 p0 h0 p1 h1 p2 h2 p3 h3 p4 h4 p5 h5 p6 h6 p7 h7 p8 h8 p9 h9 p10 h10 p11 p12 p13 p14 p15 p16 p17 d0 v2 v13 v1889 =
    (do
      Prog.lift (.enqueueDma (slotA p6 1 inb_S3x1024x1_S1x1024x1_1_0_0) (.remote (Dev.tc (⟨k0_dev10 d0, k0_dev10_lt d0⟩ : Dev nD)) (slotA p6 2 inb_S3x1024x1_S1x1024x1_2_0_0) (.dma (sem3 p13 2 inb_S3_S1_2))) (.dma (sem3 p14 2 inb_S3_S1_2)) ((View.wordExact_bits rfl).reshape _ _) ((View.wordExact_bits rfl).reshape _ _) ⟨⟨rfl, Or.inl rfl⟩, trivial⟩)
      clear (slot2 p8 1 inb_S2x1024x1024_S1x1024x1024_1_0_0)
      fetch1 p2 p9 h9 p17 0 0 (inbW1 0 (by omega) 0 (by simp))
      fetch2 p3 p10 h10 p17 0 0 (inbW2 0 (by omega) 0 (by simp))
      fetched1 p2 p9 h9 p17 0 0 (inbW1 0 (by omega) 0 (by simp))
      fetched2 p3 p10 h10 p17 0 0 (inbW2 0 (by omega) 0 (by simp))
      rest22 p0 h0 p1 h1 p2 h2 p3 h3 p4 h4 p5 h5 p6 h6 p7 h7 p8 h8 p9 h9 p10 h10 p11 p12 p13 p14 p15 p16 p17 (Scalar.addi (Scalar.muli v2 2#32) 0#32) v2 d0 v13 v1889
      : TP F PUnit) := by
  unfold rest21
  rw [k0_part65_eq_skeleton]
  rfl

theorem rest22_eq (v1943 : BitVec 32) (v2 : BitVec 32) (d0 : Dev nD) (v13 : BitVec 32) (v1889 : BitVec 32) :
    rest22 p0 h0 p1 h1 p2 h2 p3 h3 p4 h4 p5 h5 p6 h6 p7 h7 p8 h8 p9 h9 p10 h10 p11 p12 p13 p14 p15 p16 p17 v1943 v2 d0 v13 v1889 =
    (do
      tile (slot3 p5 1 inb_S3x1024x1024_S1x1024x1024_1_0_0) (slotA p6 1 inb_S3x1024x1_S1x1024x1_1_0_0) (slot2 p8 1 inb_S2x1024x1024_S1x1024x1024_1_0_0) p9 p10 v1943 0 inb_S1024x1024_S256x1024_0_0 inb_S1024x1_S256x1_0_0
      rest23 p0 h0 p1 h1 p2 h2 p3 h3 p4 h4 p5 h5 p6 h6 p7 h7 p8 h8 p9 h9 p10 h10 p11 p12 p13 p14 p15 p16 p17 v1943 v2 d0 v13 v1889
      : TP F PUnit) := by
  unfold rest22
  rw [k0_part66_eq_skeleton]
  simp only [← tileS_eq]
  rfl

theorem rest23_eq (v1943 : BitVec 32) (v2 : BitVec 32) (d0 : Dev nD) (v13 : BitVec 32) (v1889 : BitVec 32) :
    rest23 p0 h0 p1 h1 p2 h2 p3 h3 p4 h4 p5 h5 p6 h6 p7 h7 p8 h8 p9 h9 p10 h10 p11 p12 p13 p14 p15 p16 p17 v1943 v2 d0 v13 v1889 =
    (do
      tile (slot3 p5 1 inb_S3x1024x1024_S1x1024x1024_1_0_0) (slotA p6 1 inb_S3x1024x1_S1x1024x1_1_0_0) (slot2 p8 1 inb_S2x1024x1024_S1x1024x1024_1_0_0) p9 p10 v1943 256 inb_S1024x1024_S256x1024_256_0 inb_S1024x1_S256x1_256_0
      tile (slot3 p5 1 inb_S3x1024x1024_S1x1024x1024_1_0_0) (slotA p6 1 inb_S3x1024x1_S1x1024x1_1_0_0) (slot2 p8 1 inb_S2x1024x1024_S1x1024x1024_1_0_0) p9 p10 v1943 512 inb_S1024x1024_S256x1024_512_0 inb_S1024x1_S256x1_512_0
      tile (slot3 p5 1 inb_S3x1024x1024_S1x1024x1024_1_0_0) (slotA p6 1 inb_S3x1024x1_S1x1024x1_1_0_0) (slot2 p8 1 inb_S2x1024x1024_S1x1024x1024_1_0_0) p9 p10 v1943 768 inb_S1024x1024_S256x1024_768_0 inb_S1024x1_S256x1_768_0
      fetch1 p2 p9 h9 p17 0 512 (inbW1 0 (by omega) 512 (by simp))
      fetch2 p3 p10 h10 p17 0 512 (inbW2 0 (by omega) 512 (by simp))
      rest24 p0 h0 p1 h1 p2 h2 p3 h3 p4 h4 p5 h5 p6 h6 p7 h7 p8 h8 p9 h9 p10 h10 p11 p12 p13 p14 p15 p16 p17 v1943 v2 d0 v13 v1889
      : TP F PUnit) := by
  unfold rest23
  rw [k0_part67_eq_skeleton, k0_part68_eq_skeleton, k0_part69_eq_skeleton]
  simp only [← tileS_eq]
  rfl

theorem rest24_eq (v1943 : BitVec 32) (v2 : BitVec 32) (d0 : Dev nD) (v13 : BitVec 32) (v1889 : BitVec 32) :
    rest24 p0 h0 p1 h1 p2 h2 p3 h3 p4 h4 p5 h5 p6 h6 p7 h7 p8 h8 p9 h9 p10 h10 p11 p12 p13 p14 p15 p16 p17 v1943 v2 d0 v13 v1889 =
    (do
      fetched1 p2 p9 h9 p17 0 512 (inbW1 0 (by omega) 512 (by simp))
      fetched2 p3 p10 h10 p17 0 512 (inbW2 0 (by omega) 512 (by simp))
      tile (slot3 p5 1 inb_S3x1024x1024_S1x1024x1024_1_0_0) (slotA p6 1 inb_S3x1024x1_S1x1024x1_1_0_0) (slot2 p8 1 inb_S2x1024x1024_S1x1024x1024_1_0_0) p9 p10 v1943 0 inb_S1024x1024_S256x1024_0_0 inb_S1024x1_S256x1_0_0
      tile (slot3 p5 1 inb_S3x1024x1024_S1x1024x1024_1_0_0) (slotA p6 1 inb_S3x1024x1_S1x1024x1_1_0_0) (slot2 p8 1 inb_S2x1024x1024_S1x1024x1024_1_0_0) p9 p10 v1943 256 inb_S1024x1024_S256x1024_256_0 inb_S1024x1_S256x1_256_0
      tile (slot3 p5 1 inb_S3x1024x1024_S1x1024x1024_1_0_0) (slotA p6 1 inb_S3x1024x1_S1x1024x1_1_0_0) (slot2 p8 1 inb_S2x1024x1024_S1x1024x1024_1_0_0) p9 p10 v1943 512 inb_S1024x1024_S256x1024_512_0 inb_S1024x1_S256x1_512_0
      rest25 p0 h0 p1 h1 p2 h2 p3 h3 p4 h4 p5 h5 p6 h6 p7 h7 p8 h8 p9 h9 p10 h10 p11 p12 p13 p14 p15 p16 p17 v1943 v2 d0 v13 v1889
      : TP F PUnit) := by
  unfold rest24
  rw [k0_part70_eq_skeleton, k0_part71_eq_skeleton, k0_part72_eq_skeleton]
  simp only [← tileS_eq]
  rfl

theorem rest25_eq (v1943 : BitVec 32) (v2 : BitVec 32) (d0 : Dev nD) (v13 : BitVec 32) (v1889 : BitVec 32) :
    rest25 p0 h0 p1 h1 p2 h2 p3 h3 p4 h4 p5 h5 p6 h6 p7 h7 p8 h8 p9 h9 p10 h10 p11 p12 p13 p14 p15 p16 p17 v1943 v2 d0 v13 v1889 =
    (do
      tile (slot3 p5 1 inb_S3x1024x1024_S1x1024x1024_1_0_0) (slotA p6 1 inb_S3x1024x1_S1x1024x1_1_0_0) (slot2 p8 1 inb_S2x1024x1024_S1x1024x1024_1_0_0) p9 p10 v1943 768 inb_S1024x1024_S256x1024_768_0 inb_S1024x1_S256x1_768_0
      rest26 p0 h0 p1 h1 p2 h2 p3 h3 p4 h4 p5 h5 p6 h6 p7 h7 p8 h8 p9 h9 p10 h10 p11 p12 p13 p14 p15 p16 p17 v1943 v2 d0 v13 v1889
      : TP F PUnit) := by
  unfold rest25
  rw [k0_part73_eq_skeleton]
  simp only [← tileS_eq]
  rfl

theorem rest26_eq (v1943 : BitVec 32) (v2 : BitVec 32) (d0 : Dev nD) (v13 : BitVec 32) (v1889 : BitVec 32) :
    rest26 p0 h0 p1 h1 p2 h2 p3 h3 p4 h4 p5 h5 p6 h6 p7 h7 p8 h8 p9 h9 p10 h10 p11 p12 p13 p14 p15 p16 p17 v1943 v2 d0 v13 v1889 =
    (do
      fetch1 p2 p9 h9 p17 0 1024 (inbW1 0 (by omega) 1024 (by simp))
      fetch2 p3 p10 h10 p17 0 1024 (inbW2 0 (by omega) 1024 (by simp))
      fetched1 p2 p9 h9 p17 0 1024 (inbW1 0 (by omega) 1024 (by simp))
      fetched2 p3 p10 h10 p17 0 1024 (inbW2 0 (by omega) 1024 (by simp))
      tile (slot3 p5 1 inb_S3x1024x1024_S1x1024x1024_1_0_0) (slotA p6 1 inb_S3x1024x1_S1x1024x1_1_0_0) (slot2 p8 1 inb_S2x1024x1024_S1x1024x1024_1_0_0) p9 p10 v1943 0 inb_S1024x1024_S256x1024_0_0 inb_S1024x1_S256x1_0_0
      tile (slot3 p5 1 inb_S3x1024x1024_S1x1024x1024_1_0_0) (slotA p6 1 inb_S3x1024x1_S1x1024x1_1_0_0) (slot2 p8 1 inb_S2x1024x1024_S1x1024x1024_1_0_0) p9 p10 v1943 256 inb_S1024x1024_S256x1024_256_0 inb_S1024x1_S256x1_256_0
      tile (slot3 p5 1 inb_S3x1024x1024_S1x1024x1024_1_0_0) (slotA p6 1 inb_S3x1024x1_S1x1024x1_1_0_0) (slot2 p8 1 inb_S2x1024x1024_S1x1024x1024_1_0_0) p9 p10 v1943 512 inb_S1024x1024_S256x1024_512_0 inb_S1024x1_S256x1_512_0
      tile (slot3 p5 1 inb_S3x1024x1024_S1x1024x1024_1_0_0) (slotA p6 1 inb_S3x1024x1_S1x1024x1_1_0_0) (slot2 p8 1 inb_S2x1024x1024_S1x1024x1024_1_0_0) p9 p10 v1943 768 inb_S1024x1024_S256x1024_768_0 inb_S1024x1_S256x1_768_0
      fetch1 p2 p9 h9 p17 0 1536 (inbW1 0 (by omega) 1536 (by simp))
      fetch2 p3 p10 h10 p17 0 1536 (inbW2 0 (by omega) 1536 (by simp))
      fetched1 p2 p9 h9 p17 0 1536 (inbW1 0 (by omega) 1536 (by simp))
      fetched2 p3 p10 h10 p17 0 1536 (inbW2 0 (by omega) 1536 (by simp))
      tile (slot3 p5 1 inb_S3x1024x1024_S1x1024x1024_1_0_0) (slotA p6 1 inb_S3x1024x1_S1x1024x1_1_0_0) (slot2 p8 1 inb_S2x1024x1024_S1x1024x1024_1_0_0) p9 p10 v1943 0 inb_S1024x1024_S256x1024_0_0 inb_S1024x1_S256x1_0_0
      tile (slot3 p5 1 inb_S3x1024x1024_S1x1024x1024_1_0_0) (slotA p6 1 inb_S3x1024x1_S1x1024x1_1_0_0) (slot2 p8 1 inb_S2x1024x1024_S1x1024x1024_1_0_0) p9 p10 v1943 256 inb_S1024x1024_S256x1024_256_0 inb_S1024x1_S256x1_256_0
      tile (slot3 p5 1 inb_S3x1024x1024_S1x1024x1024_1_0_0) (slotA p6 1 inb_S3x1024x1_S1x1024x1_1_0_0) (slot2 p8 1 inb_S2x1024x1024_S1x1024x1024_1_0_0) p9 p10 v1943 512 inb_S1024x1024_S256x1024_512_0 inb_S1024x1_S256x1_512_0
      tile (slot3 p5 1 inb_S3x1024x1024_S1x1024x1024_1_0_0) (slotA p6 1 inb_S3x1024x1_S1x1024x1_1_0_0) (slot2 p8 1 inb_S2x1024x1024_S1x1024x1024_1_0_0) p9 p10 v1943 768 inb_S1024x1024_S256x1024_768_0 inb_S1024x1_S256x1_768_0
      fetch1 p2 p9 h9 p17 1 0 (inbW1 1 (by omega) 0 (by simp))
      fetch2 p3 p10 h10 p17 1 0 (inbW2 1 (by omega) 0 (by simp))
      fetched1 p2 p9 h9 p17 1 0 (inbW1 1 (by omega) 0 (by simp))
      rest27 p0 h0 p1 h1 p2 h2 p3 h3 p4 h4 p5 h5 p6 h6 p7 h7 p8 h8 p9 h9 p10 h10 p11 p12 p13 p14 p15 p16 p17 (Scalar.addi (Scalar.muli v2 2#32) 1#32) v2 d0 v13 v1889
      : TP F PUnit) := by
  unfold rest26
  rw [k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
  simp only [← tileS_eq]
  rfl

theorem rest27_eq (v2441 : BitVec 32) (v2 : BitVec 32) (d0 : Dev nD) (v13 : BitVec 32) (v1889 : BitVec 32) :
    rest27 p0 h0 p1 h1 p2 h2 p3 h3 p4 h4 p5 h5 p6 h6 p7 h7 p8 h8 p9 h9 p10 h10 p11 p12 p13 p14 p15 p16 p17 v2441 v2 d0 v13 v1889 =
    (do
      fetched2 p3 p10 h10 p17 1 0 (inbW2 1 (by omega) 0 (by simp))
      tile (slot3 p5 1 inb_S3x1024x1024_S1x1024x1024_1_0_0) (slotA p6 1 inb_S3x1024x1_S1x1024x1_1_0_0) (slot2 p8 1 inb_S2x1024x1024_S1x1024x1024_1_0_0) p9 p10 v2441 0 inb_S1024x1024_S256x1024_0_0 inb_S1024x1_S256x1_0_0
      tile (slot3 p5 1 inb_S3x1024x1024_S1x1024x1024_1_0_0) (slotA p6 1 inb_S3x1024x1_S1x1024x1_1_0_0) (slot2 p8 1 inb_S2x1024x1024_S1x1024x1024_1_0_0) p9 p10 v2441 256 inb_S1024x1024_S256x1024_256_0 inb_S1024x1_S256x1_256_0
      rest28 p0 h0 p1 h1 p2 h2 p3 h3 p4 h4 p5 h5 p6 h6 p7 h7 p8 h8 p9 h9 p10 h10 p11 p12 p13 p14 p15 p16 p17 v2441 v2 d0 v13 v1889
      : TP F PUnit) := by
  unfold rest27
  rw [k0_part83_eq_skeleton, k0_part84_eq_skeleton]
  simp only [← tileS_eq]
  rfl

theorem rest28_eq (v2441 : BitVec 32) (v2 : BitVec 32) (d0 : Dev nD) (v13 : BitVec 32) (v1889 : BitVec 32) :
    rest28 p0 h0 p1 h1 p2 h2 p3 h3 p4 h4 p5 h5 p6 h6 p7 h7 p8 h8 p9 h9 p10 h10 p11 p12 p13 p14 p15 p16 p17 v2441 v2 d0 v13 v1889 =
    (do
      tile (slot3 p5 1 inb_S3x1024x1024_S1x1024x1024_1_0_0) (slotA p6 1 inb_S3x1024x1_S1x1024x1_1_0_0) (slot2 p8 1 inb_S2x1024x1024_S1x1024x1024_1_0_0) p9 p10 v2441 512 inb_S1024x1024_S256x1024_512_0 inb_S1024x1_S256x1_512_0
      tile (slot3 p5 1 inb_S3x1024x1024_S1x1024x1024_1_0_0) (slotA p6 1 inb_S3x1024x1_S1x1024x1_1_0_0) (slot2 p8 1 inb_S2x1024x1024_S1x1024x1024_1_0_0) p9 p10 v2441 768 inb_S1024x1024_S256x1024_768_0 inb_S1024x1_S256x1_768_0
      fetch1 p2 p9 h9 p17 1 512 (inbW1 1 (by omega) 512 (by simp))
      rest29 p0 h0 p1 h1 p2 h2 p3 h3 p4 h4 p5 h5 p6 h6 p7 h7 p8 h8 p9 h9 p10 h10 p11 p12 p13 p14 p15 p16 p17 v2441 v2 d0 v13 v1889
      : TP F PUnit) := by
  unfold rest28
  rw [k0_part85_eq_skeleton, k0_part86_eq_skeleton]
  simp only [← tileS_eq]
  rfl

theorem rest29_eq (v2441 : BitVec 32) (v2 : BitVec 32) (d0 : Dev nD) (v13 : BitVec 32) (v1889 : BitVec 32) :
    rest29 p0 h0 p1 h1 p2 h2 p3 h3 p4 h4 p5 h5 p6 h6 p7 h7 p8 h8 p9 h9 p10 h10 p11 p12 p13 p14 p15 p16 p17 v2441 v2 d0 v13 v1889 =
    (do
      fetch2 p3 p10 h10 p17 1 512 (inbW2 1 (by omega) 512 (by simp))
      fetched1 p2 p9 h9 p17 1 512 (inbW1 1 (by omega) 512 (by simp))
      fetched2 p3 p10 h10 p17 1 512 (inbW2 1 (by omega) 512 (by simp))
      tile (slot3 p5 1 inb_S3x1024x1024_S1x1024x1024_1_0_0) (slotA p6 1 inb_S3x1024x1_S1x1024x1_1_0_0) (slot2 p8 1 inb_S2x1024x1024_S1x1024x1024_1_0_0) p9 p10 v2441 0 inb_S1024x1024_S256x1024_0_0 inb_S1024x1_S256x1_0_0
      tile (slot3 p5 1 inb_S3x1024x1024_S1x1024x1024_1_0_0) (slotA p6 1 inb_S3x1024x1_S1x1024x1_1_0_0) (slot2 p8 1 inb_S2x1024x1024_S1x1024x1024_1_0_0) p9 p10 v2441 256 inb_S1024x1024_S256x1024_256_0 inb_S1024x1_S256x1_256_0
      tile (slot3 p5 1 inb_S3x1024x1024_S1x1024x1024_1_0_0) (slotA p6 1 inb_S3x1024x1_S1x1024x1_1_0_0) (slot2 p8 1 inb_S2x1024x1024_S1x1024x1024_1_0_0) p9 p10 v2441 512 inb_S1024x1024_S256x1024_512_0 inb_S1024x1_S256x1_512_0
      tile (slot3 p5 1 inb_S3x1024x1024_S1x1024x1024_1_0_0) (slotA p6 1 inb_S3x1024x1_S1x1024x1_1_0_0) (slot2 p8 1 inb_S2x1024x1024_S1x1024x1024_1_0_0) p9 p10 v2441 768 inb_S1024x1024_S256x1024_768_0 inb_S1024x1_S256x1_768_0
      fetch1 p2 p9 h9 p17 1 1024 (inbW1 1 (by omega) 1024 (by simp))
      fetch2 p3 p10 h10 p17 1 1024 (inbW2 1 (by omega) 1024 (by simp))
      fetched1 p2 p9 h9 p17 1 1024 (inbW1 1 (by omega) 1024 (by simp))
      fetched2 p3 p10 h10 p17 1 1024 (inbW2 1 (by omega) 1024 (by simp))
      tile (slot3 p5 1 inb_S3x1024x1024_S1x1024x1024_1_0_0) (slotA p6 1 inb_S3x1024x1_S1x1024x1_1_0_0) (slot2 p8 1 inb_S2x1024x1024_S1x1024x1024_1_0_0) p9 p10 v2441 0 inb_S1024x1024_S256x1024_0_0 inb_S1024x1_S256x1_0_0
      tile (slot3 p5 1 inb_S3x1024x1024_S1x1024x1024_1_0_0) (slotA p6 1 inb_S3x1024x1_S1x1024x1_1_0_0) (slot2 p8 1 inb_S2x1024x1024_S1x1024x1024_1_0_0) p9 p10 v2441 256 inb_S1024x1024_S256x1024_256_0 inb_S1024x1_S256x1_256_0
      tile (slot3 p5 1 inb_S3x1024x1024_S1x1024x1024_1_0_0) (slotA p6 1 inb_S3x1024x1_S1x1024x1_1_0_0) (slot2 p8 1 inb_S2x1024x1024_S1x1024x1024_1_0_0) p9 p10 v2441 512 inb_S1024x1024_S256x1024_512_0 inb_S1024x1_S256x1_512_0
      tile (slot3 p5 1 inb_S3x1024x1024_S1x1024x1024_1_0_0) (slotA p6 1 inb_S3x1024x1_S1x1024x1_1_0_0) (slot2 p8 1 inb_S2x1024x1024_S1x1024x1024_1_0_0) p9 p10 v2441 768 inb_S1024x1024_S256x1024_768_0 inb_S1024x1_S256x1_768_0
      fetch1 p2 p9 h9 p17 1 1536 (inbW1 1 (by omega) 1536 (by simp))
      fetch2 p3 p10 h10 p17 1 1536 (inbW2 1 (by omega) 1536 (by simp))
      fetched1 p2 p9 h9 p17 1 1536 (inbW1 1 (by omega) 1536 (by simp))
      fetched2 p3 p10 h10 p17 1 1536 (inbW2 1 (by omega) 1536 (by simp))
      rest30 p0 h0 p1 h1 p2 h2 p3 h3 p4 h4 p5 h5 p6 h6 p7 h7 p8 h8 p9 h9 p10 h10 p11 p12 p13 p14 p15 p16 p17 v2441 v2 d0 v13 v1889
      : TP F PUnit) := by
  unfold rest29
  rw [k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton]
  simp only [← tileS_eq]
  rfl

theorem rest30_eq (v2441 : BitVec 32) (v2 : BitVec 32) (d0 : Dev nD) (v13 : BitVec 32) (v1889 : BitVec 32) :
    rest30 p0 h0 p1 h1 p2 h2 p3 h3 p4 h4 p5 h5 p6 h6 p7 h7 p8 h8 p9 h9 p10 h10 p11 p12 p13 p14 p15 p16 p17 v2441 v2 d0 v13 v1889 =
    (do
      tile (slot3 p5 1 inb_S3x1024x1024_S1x1024x1024_1_0_0) (slotA p6 1 inb_S3x1024x1_S1x1024x1_1_0_0) (slot2 p8 1 inb_S2x1024x1024_S1x1024x1024_1_0_0) p9 p10 v2441 0 inb_S1024x1024_S256x1024_0_0 inb_S1024x1_S256x1_0_0
      tile (slot3 p5 1 inb_S3x1024x1024_S1x1024x1024_1_0_0) (slotA p6 1 inb_S3x1024x1_S1x1024x1_1_0_0) (slot2 p8 1 inb_S2x1024x1024_S1x1024x1024_1_0_0) p9 p10 v2441 256 inb_S1024x1024_S256x1024_256_0 inb_S1024x1_S256x1_256_0
      tile (slot3 p5 1 inb_S3x1024x1024_S1x1024x1024_1_0_0) (slotA p6 1 inb_S3x1024x1_S1x1024x1_1_0_0) (slot2 p8 1 inb_S2x1024x1024_S1x1024x1024_1_0_0) p9 p10 v2441 512 inb_S1024x1024_S256x1024_512_0 inb_S1024x1_S256x1_512_0
      tile (slot3 p5 1 inb_S3x1024x1024_S1x1024x1024_1_0_0) (slotA p6 1 inb_S3x1024x1_S1x1024x1_1_0_0) (slot2 p8 1 inb_S2x1024x1024_S1x1024x1024_1_0_0) p9 p10 v2441 768 inb_S1024x1024_S256x1024_768_0 inb_S1024x1_S256x1_768_0
      rest31 p0 h0 p1 h1 p2 h2 p3 h3 p4 h4 p5 h5 p6 h6 p7 h7 p8 h8 p9 h9 p10 h10 p11 p12 p13 p14 p15 p16 p17 d0 v13 (wrap4 (Scalar.subi (Scalar.subi v2 1#32) 1#32)) (1#32) v2 v1889
      : TP F PUnit) := by
  unfold rest30
  rw [k0_part96_eq_skeleton, k0_part97_eq_skeleton, k0_part98_eq_skeleton, k0_part99_eq_skeleton]
  simp only [← tileS_eq]
  rfl

theorem rest31_eq (d0 : Dev nD) (v13 : BitVec 32) (v2949 : BitVec 32) (c1_i32_2764 : BitVec 32) (v2 : BitVec 32) (v1889 : BitVec 32) :
    rest31 p0 h0 p1 h1 p2 h2 p3 h3 p4 h4 p5 h5 p6 h6 p7 h7 p8 h8 p9 h9 p10 h10 p11 p12 p13 p14 p15 p16 p17 d0 v13 v2949 c1_i32_2764 v2 v1889 =
    (do
      Prog.lift (.enqueueDma (slot2 p8 1 inb_S2x1024x1024_S1x1024x1024_1_0_0) (.remote (Dev.tc (⟨k0_dev11 d0, k0_dev11_lt d0⟩ : Dev nD)) (slot3 p7 1 inb_S3x1024x1024_S1x1024x1024_1_0_0) (.dma (sem2 p15 1 inb_S2_S1_1))) (.dma (sem3 p16 1 inb_S3_S1_1)) ((View.wordExact_bits rfl).reshape _ _) ((View.wordExact_bits rfl).reshape _ _) ⟨⟨rfl, Or.inl rfl⟩, trivial⟩)
      Prog.lift (.waitDma2 (sem3 p12 2 inb_S3_S1_2) (slot3 p5 1 inb_S3x1024x1024_S1x1024x1024_1_0_0) (slot3 p5 2 inb_S3x1024x1024_S1x1024x1024_2_0_0) ((View.wordExact_bits rfl).reshape _ _) ((View.wordExact_bits rfl).reshape _ _))
      Prog.lift (.waitDma2 (sem3 p14 2 inb_S3_S1_2) (slotA p6 1 inb_S3x1024x1_S1x1024x1_1_0_0) (slotA p6 2 inb_S3x1024x1_S1x1024x1_2_0_0) ((View.wordExact_bits rfl).reshape _ _) ((View.wordExact_bits rfl).reshape _ _))
      rest32 p0 h0 p1 h1 p2 h2 p3 h3 p4 h4 p5 h5 p6 h6 p7 h7 p8 h8 p9 h9 p10 h10 p11 p12 p13 p14 p15 p16 p17 v2 d0 v1889 v2949
      : TP F PUnit) := by
  unfold rest31
  rw [k0_part100_eq_skeleton]
  rfl

theorem rest32_eq (v2 : BitVec 32) (d0 : Dev nD) (v1889 : BitVec 32) (v2949 : BitVec 32) :
    rest32 p0 h0 p1 h1 p2 h2 p3 h3 p4 h4 p5 h5 p6 h6 p7 h7 p8 h8 p9 h9 p10 h10 p11 p12 p13 p14 p15 p16 p17 v2 d0 v1889 v2949 =
    (do
      Prog.lift (.waitDma2 (sem2 p15 0 inb_S2_S1_0) (slot3 p7 0 inb_S3x1024x1024_S1x1024x1024_0_0_0) (slot2 p8 0 inb_S2x1024x1024_S1x1024x1024_0_0_0) ((View.wordExact_bits rfl).reshape _ _) ((View.wordExact_bits rfl).reshape _ _))
      clear (slot2 p8 0 inb_S2x1024x1024_S1x1024x1024_0_0_0)
      fetch1 p2 p9 h9 p17 0 0 (inbW1 0 (by omega) 0 (by simp))
      fetch2 p3 p10 h10 p17 0 0 (inbW2 0 (by omega) 0 (by simp))
      fetched1 p2 p9 h9 p17 0 0 (inbW1 0 (by omega) 0 (by simp))
      rest33 p0 h0 p1 h1 p2 h2 p3 h3 p4 h4 p5 h5 p6 h6 p7 h7 p8 h8 p9 h9 p10 h10 p11 p12 p13 p14 p15 p16 p17 (Scalar.addi (Scalar.muli v2 2#32) 0#32) v2 d0 v1889 v2949
      : TP F PUnit) := by
  unfold rest32
  rw [k0_part101_eq_skeleton]
  rfl

theorem rest33_eq (v2989 : BitVec 32) (v2 : BitVec 32) (d0 : Dev nD) (v1889 : BitVec 32) (v2949 : BitVec 32) :
    rest33 p0 h0 p1 h1 p2 h2 p3 h3 p4 h4 p5 h5 p6 h6 p7 h7 p8 h8 p9 h9 p10 h10 p11 p12 p13 p14 p15 p16 p17 v2989 v2 d0 v1889 v2949 =
    (do
      fetched2 p3 p10 h10 p17 0 0 (inbW2 0 (by omega) 0 (by simp))
      tile (slot3 p5 2 inb_S3x1024x1024_S1x1024x1024_2_0_0) (slotA p6 2 inb_S3x1024x1_S1x1024x1_2_0_0) (slot2 p8 0 inb_S2x1024x1024_S1x1024x1024_0_0_0) p9 p10 v2989 0 inb_S1024x1024_S256x1024_0_0 inb_S1024x1_S256x1_0_0
      rest34 p0 h0 p1 h1 p2 h2 p3 h3 p4 h4 p5 h5 p6 h6 p7 h7 p8 h8 p9 h9 p10 h10 p11 p12 p13 p14 p15 p16 p17 v2989 v2 d0 v1889 v2949
      : TP F PUnit) := by
  unfold rest33
  rw [k0_part102_eq_skeleton]
  unfold k0_part102_skel
  simp only [pay171_eq]
  rfl

theorem rest34_eq (v2989 : BitVec 32) (v2 : BitVec 32) (d0 : Dev nD) (v1889 : BitVec 32) (v2949 : BitVec 32) :
    rest34 p0 h0 p1 h1 p2 h2 p3 h3 p4 h4 p5 h5 p6 h6 p7 h7 p8 h8 p9 h9 p10 h10 p11 p12 p13 p14 p15 p16 p17 v2989 v2 d0 v1889 v2949 =
    (do
      tile (slot3 p5 2 inb_S3x1024x1024_S1x1024x1024_2_0_0) (slotA p6 2 inb_S3x1024x1_S1x1024x1_2_0_0) (slot2 p8 0 inb_S2x1024x1024_S1x1024x1024_0_0_0) p9 p10 v2989 256 inb_S1024x1024_S256x1024_256_0 inb_S1024x1_S256x1_256_0
      rest35 p0 h0 p1 h1 p2 h2 p3 h3 p4 h4 p5 h5 p6 h6 p7 h7 p8 h8 p9 h9 p10 h10 p11 p12 p13 p14 p15 p16 p17 v2989 v2 d0 v1889 v2949
      : TP F PUnit) := by
  unfold rest34
  rw [k0_part103_eq_skeleton]
  simp only [← tileS_eq]
  rfl

theorem rest35_eq (v2989 : BitVec 32) (v2 : BitVec 32) (d0 : Dev nD) (v1889 : BitVec 32) (v2949 : BitVec 32) :
    rest35 p0 h0 p1 h1 p2 h2 p3 h3 p4 h4 p5 h5 p6 h6 p7 h7 p8 h8 p9 h9 p10 h10 p11 p12 p13 p14 p15 p16 p17 v2989 v2 d0 v1889 v2949 =
    (do
      tile (slot3 p5 2 inb_S3x1024x1024_S1x1024x1024_2_0_0) (slotA p6 2 inb_S3x1024x1_S1x1024x1_2_0_0) (slot2 p8 0 inb_S2x1024x1024_S1x1024x1024_0_0_0) p9 p10 v2989 512 inb_S1024x1024_S256x1024_512_0 inb_S1024x1_S256x1_512_0
      tile (slot3 p5 2 inb_S3x1024x1024_S1x1024x1024_2_0_0) (slotA p6 2 inb_S3x1024x1_S1x1024x1_2_0_0) (slot2 p8 0 inb_S2x1024x1024_S1x1024x1024_0_0_0) p9 p10 v2989 768 inb_S1024x1024_S256x1024_768_0 inb_S1024x1_S256x1_768_0
      fetch1 p2 p9 h9 p17 0 512 (inbW1 0 (by omega) 512 (by simp))
      rest36 p0 h0 p1 h1 p2 h2 p3 h3 p4 h4 p5 h5 p6 h6 p7 h7 p8 h8 p9 h9 p10 h10 p11 p12 p13 p14 p15 p16 p17 v2989 v2 d0 v1889 v2949
      : TP F PUnit) := by
  unfold rest35
  rw [k0_part104_eq_skeleton, k0_part105_eq_skeleton]
  simp only [← tileS_eq]
  rfl

theorem rest36_eq (v2989 : BitVec 32) (v2 : BitVec 32) (d0 : Dev nD) (v1889 : BitVec 32) (v2949 : BitVec 32) :
    rest36 p0 h0 p1 h1 p2 h2 p3 h3 p4 h4 p5 h5 p6 h6 p7 h7 p8 h8 p9 h9 p10 h10 p11 p12 p13 p14 p15 p16 p17 v2989 v2 d0 v1889 v2949 =
    (do
      fetch2 p3 p10 h10 p17 0 512 (inbW2 0 (by omega) 512 (by simp))
      fetched1 p2 p9 h9 p17 0 512 (inbW1 0 (by omega) 512 (by simp))
      fetched2 p3 p10 h10 p17 0 512 (inbW2 0 (by omega) 512 (by simp))
      tile (slot3 p5 2 inb_S3x1024x1024_S1x1024x1024_2_0_0) (slotA p6 2 inb_S3x1024x1_S1x1024x1_2_0_0) (slot2 p8 0 inb_S2x1024x1024_S1x1024x1024_0_0_0) p9 p10 v2989 0 inb_S1024x1024_S256x1024_0_0 inb_S1024x1_S256x1_0_0
      tile (slot3 p5 2 inb_S3x1024x1024_S1x1024x1024_2_0_0) (slotA p6 2 inb_S3x1024x1_S1x1024x1_2_0_0) (slot2 p8 0 inb_S2x1024x1024_S1x1024x1024_0_0_0) p9 p10 v2989 256 inb_S1024x1024_S256x1024_256_0 inb_S1024x1_S256x1_256_0
      tile (slot3 p5 2 inb_S3x1024x1024_S1x1024x1024_2_0_0) (slotA p6 2 inb_S3x1024x1_S1x1024x1_2_0_0) (slot2 p8 0 inb_S2x1024x1024_S1x1024x1024_0_0_0) p9 p10 v2989 512 inb_S1024x1024_S256x1024_512_0 inb_S1024x1_S256x1_512_0
      tile (slot3 p5 2 inb_S3x1024x1024_S1x1024x1024_2_0_0) (slotA p6 2 inb_S3x1024x1_S1x1024x1_2_0_0) (slot2 p8 0 inb_S2x1024x1024_S1x1024x1024_0_0_0) p9 p10 v2989 768 inb_S1024x1024_S256x1024_768_0 inb_S1024x1_S256x1_768_0
      rest37 p0 h0 p1 h1 p2 h2 p3 h3 p4 h4 p5 h5 p6 h6 p7 h7 p8 h8 p9 h9 p10 h10 p11 p12 p13 p14 p15 p16 p17 v2989 v2 d0 v1889 v2949
      : TP F PUnit) := by
  unfold rest36
  rw [k0_part106_eq_skeleton, k0_part107_eq_skeleton, k0_part108_eq_skeleton, k0_part109_eq_skeleton]
  simp only [← tileS_eq]
  rfl

theorem rest37_eq (v2989 : BitVec 32) (v2 : BitVec 32) (d0 : Dev nD) (v1889 : BitVec 32) (v2949 : BitVec 32) :
    rest37 p0 h0 p1 h1 p2 h2 p3 h3 p4 h4 p5 h5 p6 h6 p7 h7 p8 h8 p9 h9 p10 h10 p11 p12 p13 p14 p15 p16 p17 v2989 v2 d0 v1889 v2949 =
    (do
      fetch1 p2 p9 h9 p17 0 1024 (inbW1 0 (by omega) 1024 (by simp))
      fetch2 p3 p10 h10 p17 0 1024 (inbW2 0 (by omega) 1024 (by simp))
      fetched1 p2 p9 h9 p17 0 1024 (inbW1 0 (by omega) 1024 (by simp))
      fetched2 p3 p10 h10 p17 0 1024 (inbW2 0 (by omega) 1024 (by simp))
      tile (slot3 p5 2 inb_S3x1024x1024_S1x1024x1024_2_0_0) (slotA p6 2 inb_S3x1024x1_S1x1024x1_2_0_0) (slot2 p8 0 inb_S2x1024x1024_S1x1024x1024_0_0_0) p9 p10 v2989 0 inb_S1024x1024_S256x1024_0_0 inb_S1024x1_S256x1_0_0
      tile (slot3 p5 2 inb_S3x1024x1024_S1x1024x1024_2_0_0) (slotA p6 2 inb_S3x1024x1_S1x1024x1_2_0_0) (slot2 p8 0 inb_S2x1024x1024_S1x1024x1024_0_0_0) p9 p10 v2989 256 inb_S1024x1024_S256x1024_256_0 inb_S1024x1_S256x1_256_0
      tile (slot3 p5 2 inb_S3x1024x1024_S1x1024x1024_2_0_0) (slotA p6 2 inb_S3x1024x1_S1x1024x1_2_0_0) (slot2 p8 0 inb_S2x1024x1024_S1x1024x1024_0_0_0) p9 p10 v2989 512 inb_S1024x1024_S256x1024_512_0 inb_S1024x1_S256x1_512_0
      tile (slot3 p5 2 inb_S3x1024x1024_S1x1024x1024_2_0_0) (slotA p6 2 inb_S3x1024x1_S1x1024x1_2_0_0) (slot2 p8 0 inb_S2x1024x1024_S1x1024x1024_0_0_0) p9 p10 v2989 768 inb_S1024x1024_S256x1024_768_0 inb_S1024x1_S256x1_768_0
      fetch1 p2 p9 h9 p17 0 1536 (inbW1 0 (by omega) 1536 (by simp))
      fetch2 p3 p10 h10 p17 0 1536 (inbW2 0 (by omega) 1536 (by simp))
      fetched1 p2 p9 h9 p17 0 1536 (inbW1 0 (by omega) 1536 (by simp))
      fetched2 p3 p10 h10 p17 0 1536 (inbW2 0 (by omega) 1536 (by simp))
      tile (slot3 p5 2 inb_S3x1024x1024_S1x1024x1024_2_0_0) (slotA p6 2 inb_S3x1024x1_S1x1024x1_2_0_0) (slot2 p8 0 inb_S2x1024x1024_S1x1024x1024_0_0_0) p9 p10 v2989 0 inb_S1024x1024_S256x1024_0_0 inb_S1024x1_S256x1_0_0
      tile (slot3 p5 2 inb_S3x1024x1024_S1x1024x1024_2_0_0) (slotA p6 2 inb_S3x1024x1_S1x1024x1_2_0_0) (slot2 p8 0 inb_S2x1024x1024_S1x1024x1024_0_0_0) p9 p10 v2989 256 inb_S1024x1024_S256x1024_256_0 inb_S1024x1_S256x1_256_0
      tile (slot3 p5 2 inb_S3x1024x1024_S1x1024x1024_2_0_0) (slotA p6 2 inb_S3x1024x1_S1x1024x1_2_0_0) (slot2 p8 0 inb_S2x1024x1024_S1x1024x1024_0_0_0) p9 p10 v2989 512 inb_S1024x1024_S256x1024_512_0 inb_S1024x1_S256x1_512_0
      tile (slot3 p5 2 inb_S3x1024x1024_S1x1024x1024_2_0_0) (slotA p6 2 inb_S3x1024x1_S1x1024x1_2_0_0) (slot2 p8 0 inb_S2x1024x1024_S1x1024x1024_0_0_0) p9 p10 v2989 768 inb_S1024x1024_S256x1024_768_0 inb_S1024x1_S256x1_768_0
      fetch1 p2 p9 h9 p17 1 0 (inbW1 1 (by omega) 0 (by simp))
      fetch2 p3 p10 h10 p17 1 0 (inbW2 1 (by omega) 0 (by simp))
      rest38 p0 h0 p1 h1 p2 h2 p3 h3 p4 h4 p5 h5 p6 h6 p7 h7 p8 h8 p9 h9 p10 h10 p11 p12 p13 p14 p15 p16 p17 (Scalar.addi (Scalar.muli v2 2#32) 1#32) v2 d0 v1889 v2949
      : TP F PUnit) := by
  unfold rest37
  rw [k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
  simp only [← tileS_eq]
  rfl

theorem rest38_eq (v3487 : BitVec 32) (v2 : BitVec 32) (d0 : Dev nD) (v1889 : BitVec 32) (v2949 : BitVec 32) :
    rest38 p0 h0 p1 h1 p2 h2 p3 h3 p4 h4 p5 h5 p6 h6 p7 h7 p8 h8 p9 h9 p10 h10 p11 p12 p13 p14 p15 p16 p17 v3487 v2 d0 v1889 v2949 =
    (do
      fetched1 p2 p9 h9 p17 1 0 (inbW1 1 (by omega) 0 (by simp))
      fetched2 p3 p10 h10 p17 1 0 (inbW2 1 (by omega) 0 (by simp))
      tile (slot3 p5 2 inb_S3x1024x1024_S1x1024x1024_2_0_0) (slotA p6 2 inb_S3x1024x1_S1x1024x1_2_0_0) (slot2 p8 0 inb_S2x1024x1024_S1x1024x1024_0_0_0) p9 p10 v3487 0 inb_S1024x1024_S256x1024_0_0 inb_S1024x1_S256x1_0_0
      tile (slot3 p5 2 inb_S3x1024x1024_S1x1024x1024_2_0_0) (slotA p6 2 inb_S3x1024x1_S1x1024x1_2_0_0) (slot2 p8 0 inb_S2x1024x1024_S1x1024x1024_0_0_0) p9 p10 v3487 256 inb_S1024x1024_S256x1024_256_0 inb_S1024x1_S256x1_256_0
      tile (slot3 p5 2 inb_S3x1024x1024_S1x1024x1024_2_0_0) (slotA p6 2 inb_S3x1024x1_S1x1024x1_2_0_0) (slot2 p8 0 inb_S2x1024x1024_S1x1024x1024_0_0_0) p9 p10 v3487 512 inb_S1024x1024_S256x1024_512_0 inb_S1024x1_S256x1_512_0
      rest39 p0 h0 p1 h1 p2 h2 p3 h3 p4 h4 p5 h5 p6 h6 p7 h7 p8 h8 p9 h9 p10 h10 p11 p12 p13 p14 p15 p16 p17 v3487 v2 d0 v1889 v2949
      : TP F PUnit) := by
  unfold rest38
  rw [k0_part119_eq_skeleton, k0_part120_eq_skeleton, k0_part121_eq_skeleton]
  simp only [← tileS_eq]
  rfl

theorem rest39_eq (v3487 : BitVec 32) (v2 : BitVec 32) (d0 : Dev nD) (v1889 : BitVec 32) (v2949 : BitVec 32) :
    rest39 p0 h0 p1 h1 p2 h2 p3 h3 p4 h4 p5 h5 p6 h6 p7 h7 p8 h8 p9 h9 p10 h10 p11 p12 p13 p14 p15 p16 p17 v3487 v2 d0 v1889 v2949 =
    (do
      tile (slot3 p5 2 inb_S3x1024x1024_S1x1024x1024_2_0_0) (slotA p6 2 inb_S3x1024x1_S1x1024x1_2_0_0) (slot2 p8 0 inb_S2x1024x1024_S1x1024x1024_0_0_0) p9 p10 v3487 768 inb_S1024x1024_S256x1024_768_0 inb_S1024x1_S256x1_768_0
      fetch1 p2 p9 h9 p17 1 512 (inbW1 1 (by omega) 512 (by simp))
      rest40 p0 h0 p1 h1 p2 h2 p3 h3 p4 h4 p5 h5 p6 h6 p7 h7 p8 h8 p9 h9 p10 h10 p11 p12 p13 p14 p15 p16 p17 v3487 v2 d0 v1889 v2949
      : TP F PUnit) := by
  unfold rest39
  rw [k0_part122_eq_skeleton]
  simp only [← tileS_eq]
  rfl

theorem rest40_eq (v3487 : BitVec 32) (v2 : BitVec 32) (d0 : Dev nD) (v1889 : BitVec 32) (v2949 : BitVec 32) :
    rest40 p0 h0 p1 h1 p2 h2 p3 h3 p4 h4 p5 h5 p6 h6 p7 h7 p8 h8 p9 h9 p10 h10 p11 p12 p13 p14 p15 p16 p17 v3487 v2 d0 v1889 v2949 =
    (do
      fetch2 p3 p10 h10 p17 1 512 (inbW2 1 (by omega) 512 (by simp))
      fetched1 p2 p9 h9 p17 1 512 (inbW1 1 (by omega) 512 (by simp))
      fetched2 p3 p10 h10 p17 1 512 (inbW2 1 (by omega) 512 (by simp))
      tile (slot3 p5 2 inb_S3x1024x1024_S1x1024x1024_2_0_0) (slotA p6 2 inb_S3x1024x1_S1x1024x1_2_0_0) (slot2 p8 0 inb_S2x1024x1024_S1x1024x1024_0_0_0) p9 p10 v3487 0 inb_S1024x1024_S256x1024_0_0 inb_S1024x1_S256x1_0_0
      tile (slot3 p5 2 inb_S3x1024x1024_S1x1024x1024_2_0_0) (slotA p6 2 inb_S3x1024x1_S1x1024x1_2_0_0) (slot2 p8 0 inb_S2x1024x1024_S1x1024x1024_0_0_0) p9 p10 v3487 256 inb_S1024x1024_S256x1024_256_0 inb_S1024x1_S256x1_256_0
      tile (slot3 p5 2 inb_S3x1024x1024_S1x1024x1024_2_0_0) (slotA p6 2 inb_S3x1024x1_S1x1024x1_2_0_0) (slot2 p8 0 inb_S2x1024x1024_S1x1024x1024_0_0_0) p9 p10 v3487 512 inb_S1024x1024_S256x1024_512_0 inb_S1024x1_S256x1_512_0
      tile (slot3 p5 2 inb_S3x1024x1024_S1x1024x1024_2_0_0) (slotA p6 2 inb_S3x1024x1_S1x1024x1_2_0_0) (slot2 p8 0 inb_S2x1024x1024_S1x1024x1024_0_0_0) p9 p10 v3487 768 inb_S1024x1024_S256x1024_768_0 inb_S1024x1_S256x1_768_0
      fetch1 p2 p9 h9 p17 1 1024 (inbW1 1 (by omega) 1024 (by simp))
      fetch2 p3 p10 h10 p17 1 1024 (inbW2 1 (by omega) 1024 (by simp))
      fetched1 p2 p9 h9 p17 1 1024 (inbW1 1 (by omega) 1024 (by simp))
      fetched2 p3 p10 h10 p17 1 1024 (inbW2 1 (by omega) 1024 (by simp))
      tile (slot3 p5 2 inb_S3x1024x1024_S1x1024x1024_2_0_0) (slotA p6 2 inb_S3x1024x1_S1x1024x1_2_0_0) (slot2 p8 0 inb_S2x1024x1024_S1x1024x1024_0_0_0) p9 p10 v3487 0 inb_S1024x1024_S256x1024_0_0 inb_S1024x1_S256x1_0_0
      tile (slot3 p5 2 inb_S3x1024x1024_S1x1024x1024_2_0_0) (slotA p6 2 inb_S3x1024x1_S1x1024x1_2_0_0) (slot2 p8 0 inb_S2x1024x1024_S1x1024x1024_0_0_0) p9 p10 v3487 256 inb_S1024x1024_S256x1024_256_0 inb_S1024x1_S256x1_256_0
      tile (slot3 p5 2 inb_S3x1024x1024_S1x1024x1024_2_0_0) (slotA p6 2 inb_S3x1024x1_S1x1024x1_2_0_0) (slot2 p8 0 inb_S2x1024x1024_S1x1024x1024_0_0_0) p9 p10 v3487 512 inb_S1024x1024_S256x1024_512_0 inb_S1024x1_S256x1_512_0
      tile (slot3 p5 2 inb_S3x1024x1024_S1x1024x1024_2_0_0) (slotA p6 2 inb_S3x1024x1_S1x1024x1_2_0_0) (slot2 p8 0 inb_S2x1024x1024_S1x1024x1024_0_0_0) p9 p10 v3487 768 inb_S1024x1024_S256x1024_768_0 inb_S1024x1_S256x1_768_0
      fetch1 p2 p9 h9 p17 1 1536 (inbW1 1 (by omega) 1536 (by simp))
      fetch2 p3 p10 h10 p17 1 1536 (inbW2 1 (by omega) 1536 (by simp))
      fetched1 p2 p9 h9 p17 1 1536 (inbW1 1 (by omega) 1536 (by simp))
      fetched2 p3 p10 h10 p17 1 1536 (inbW2 1 (by omega) 1536 (by simp))
      rest41 p0 h0 p1 h1 p2 h2 p3 h3 p4 h4 p5 h5 p6 h6 p7 h7 p8 h8 p9 h9 p10 h10 p11 p12 p13 p14 p15 p16 p17 v3487 v2 d0 v1889 v2949
      : TP F PUnit) := by
  unfold rest40
  rw [k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton]
  simp only [← tileS_eq]
  rfl

theorem rest41_eq (v3487 : BitVec 32) (v2 : BitVec 32) (d0 : Dev nD) (v1889 : BitVec 32) (v2949 : BitVec 32) :
    rest41 p0 h0 p1 h1 p2 h2 p3 h3 p4 h4 p5 h5 p6 h6 p7 h7 p8 h8 p9 h9 p10 h10 p11 p12 p13 p14 p15 p16 p17 v3487 v2 d0 v1889 v2949 =
    (do
      tile (slot3 p5 2 inb_S3x1024x1024_S1x1024x1024_2_0_0) (slotA p6 2 inb_S3x1024x1_S1x1024x1_2_0_0) (slot2 p8 0 inb_S2x1024x1024_S1x1024x1024_0_0_0) p9 p10 v3487 0 inb_S1024x1024_S256x1024_0_0 inb_S1024x1_S256x1_0_0
      rest42 p0 h0 p1 h1 p2 h2 p3 h3 p4 h4 p5 h5 p6 h6 p7 h7 p8 h8 p9 h9 p10 h10 p11 p12 p13 p14 p15 p16 p17 v3487 v2 d0 v1889 v2949
      : TP F PUnit) := by
  unfold rest41
  rw [k0_part132_eq_skeleton]
  simp only [← tileS_eq]
  rfl

theorem rest42_eq (v3487 : BitVec 32) (v2 : BitVec 32) (d0 : Dev nD) (v1889 : BitVec 32) (v2949 : BitVec 32) :
    rest42 p0 h0 p1 h1 p2 h2 p3 h3 p4 h4 p5 h5 p6 h6 p7 h7 p8 h8 p9 h9 p10 h10 p11 p12 p13 p14 p15 p16 p17 v3487 v2 d0 v1889 v2949 =
    (do
      tile (slot3 p5 2 inb_S3x1024x1024_S1x1024x1024_2_0_0) (slotA p6 2 inb_S3x1024x1_S1x1024x1_2_0_0) (slot2 p8 0 inb_S2x1024x1024_S1x1024x1024_0_0_0) p9 p10 v3487 256 inb_S1024x1024_S256x1024_256_0 inb_S1024x1_S256x1_256_0
      tile (slot3 p5 2 inb_S3x1024x1024_S1x1024x1024_2_0_0) (slotA p6 2 inb_S3x1024x1_S1x1024x1_2_0_0) (slot2 p8 0 inb_S2x1024x1024_S1x1024x1024_0_0_0) p9 p10 v3487 512 inb_S1024x1024_S256x1024_512_0 inb_S1024x1_S256x1_512_0
      tile (slot3 p5 2 inb_S3x1024x1024_S1x1024x1024_2_0_0) (slotA p6 2 inb_S3x1024x1_S1x1024x1_2_0_0) (slot2 p8 0 inb_S2x1024x1024_S1x1024x1024_0_0_0) p9 p10 v3487 768 inb_S1024x1024_S256x1024_768_0 inb_S1024x1_S256x1_768_0
      rest43 p0 h0 p1 h1 p2 h2 p3 h3 p4 h4 p5 h5 p6 h6 p7 h7 p8 h8 p9 h9 p10 h10 p11 p12 p13 p14 p15 p16 p17 d0 v1889 v2949 (wrap4 (Scalar.subi (Scalar.subi v2 1#32) 2#32))
      : TP F PUnit) := by
  unfold rest42
  rw [k0_part133_eq_skeleton, k0_part134_eq_skeleton, k0_part135_eq_skeleton]
  simp only [← tileS_eq]
  rfl

theorem rest43_eq (d0 : Dev nD) (v1889 : BitVec 32) (v2949 : BitVec 32) (v3995 : BitVec 32) :
    rest43 p0 h0 p1 h1 p2 h2 p3 h3 p4 h4 p5 h5 p6 h6 p7 h7 p8 h8 p9 h9 p10 h10 p11 p12 p13 p14 p15 p16 p17 d0 v1889 v2949 v3995 =
    (do
      Prog.lift (.enqueueDma (slot2 p8 0 inb_S2x1024x1024_S1x1024x1024_0_0_0) (.remote (Dev.tc (⟨k0_dev12 d0, k0_dev12_lt d0⟩ : Dev nD)) (slot3 p7 2 inb_S3x1024x1024_S1x1024x1024_2_0_0) (.dma (sem2 p15 0 inb_S2_S1_0))) (.dma (sem3 p16 2 inb_S3_S1_2)) ((View.wordExact_bits rfl).reshape _ _) ((View.wordExact_bits rfl).reshape _ _) ⟨⟨rfl, Or.inl rfl⟩, trivial⟩)
      Prog.lift (.waitDma2 (sem3 p16 0 inb_S3_S1_0) (slot2 p8 0 inb_S2x1024x1024_S1x1024x1024_0_0_0) (slot3 p7 0 inb_S3x1024x1024_S1x1024x1024_0_0_0) ((View.wordExact_bits rfl).reshape _ _) ((View.wordExact_bits rfl).reshape _ _))
      Prog.lift (.waitDma2 (sem3 p16 1 inb_S3_S1_1) (slot2 p8 1 inb_S2x1024x1024_S1x1024x1024_1_0_0) (slot3 p7 1 inb_S3x1024x1024_S1x1024x1024_1_0_0) ((View.wordExact_bits rfl).reshape _ _) ((View.wordExact_bits rfl).reshape _ _))
      rest44 p0 h0 p1 h1 p2 h2 p3 h3 p4 h4 p5 h5 p6 h6 p7 h7 p8 h8 p9 h9 p10 h10 p11 p12 p13 p14 p15 p16 p17 v3995
      : TP F PUnit) := by
  unfold rest43
  rw [k0_part136_eq_skeleton]
  rfl

theorem rest44_eq (v3995 : BitVec 32) :
    rest44 p0 h0 p1 h1 p2 h2 p3 h3 p4 h4 p5 h5 p6 h6 p7 h7 p8 h8 p9 h9 p10 h10 p11 p12 p13 p14 p15 p16 p17 v3995 =
    (do
      Prog.lift (.waitDma2 (sem3 p16 2 inb_S3_S1_2) (slot2 p8 0 inb_S2x1024x1024_S1x1024x1024_0_0_0) (slot3 p7 2 inb_S3x1024x1024_S1x1024x1024_2_0_0) ((View.wordExact_bits rfl).reshape _ _) ((View.wordExact_bits rfl).reshape _ _))
      addSlot p4 p7 0 inb_S3x1024x1024_S1x1024x1024_0_0_0
      addSlot p4 p7 1 inb_S3x1024x1024_S1x1024x1024_1_0_0
      addSlot p4 p7 2 inb_S3x1024x1024_S1x1024x1024_2_0_0
      rest45 p0 h0 p1 h1 p2 h2 p3 h3 p4 h4 p5 h5 p6 h6 p7 h7 p8 h8 p9 h9 p10 h10 p11 p12 p13 p14 p15 p16 p17
      : TP F PUnit) := by
  unfold rest44
  rw [k0_part137_eq_skeleton]
  rfl

theorem rest45_eq :
    rest45 p0 h0 p1 h1 p2 h2 p3 h3 p4 h4 p5 h5 p6 h6 p7 h7 p8 h8 p9 h9 p10 h10 p11 p12 p13 p14 p15 p16 p17 =
    (do
      Prog.lift (.waitDma2 (sem3 p11 0 inb_S3_S1_0) (slot3 p5 0 inb_S3x1024x1024_S1x1024x1024_0_0_0) p0 ((View.wordExact_bits rfl).reshape _ _) h0.wordExact)
      Prog.lift (.waitDma2 (sem3 p13 0 inb_S3_S1_0) (slotA p6 0 inb_S3x1024x1_S1x1024x1_0_0_0) p1 ((View.wordExact_bits rfl).reshape _ _) h1.wordExact)
      Prog.lift (.waitDma2 (sem3 p11 1 inb_S3_S1_1) (slot3 p5 1 inb_S3x1024x1024_S1x1024x1024_1_0_0) (slot3 p5 0 inb_S3x1024x1024_S1x1024x1024_0_0_0) ((View.wordExact_bits rfl).reshape _ _) ((View.wordExact_bits rfl).reshape _ _))
      Prog.lift (.waitDma2 (sem3 p13 1 inb_S3_S1_1) (slotA p6 1 inb_S3x1024x1_S1x1024x1_1_0_0) (slotA p6 0 inb_S3x1024x1_S1x1024x1_0_0_0) ((View.wordExact_bits rfl).reshape _ _) ((View.wordExact_bits rfl).reshape _ _))
      rest46 p5 p6 p7 p8 p11 p13 p15
      : TP F PUnit) := by
  unfold rest45
  rw [k0_part138_eq_skeleton]
  rfl

/-- The printed body is its parts in order. -/
theorem body_chain : cc0_body (F := F) p0 h0 p1 h1 p2 h2 p3 h3 p4 h4 p5 h5 p6 h6 p7 h7 p8 h8 p9 h9 p10 h10 p11 p12 p13 p14 p15 p16 p17 =
    (do
      let ⟨d0, v2, v13, v14, v30, v31, v32, c0_i32_20⟩ : Σ' (d0 : Dev nD) (v2 : BitVec 32) (v13 : BitVec 32) (v14 : Sems sig S_) (v30 : BitVec 32) (v31 : BitVec 32) (v32 : BitVec 1), BitVec 32 ← k0_part1 p0 h0 p1 h1 p2 h2 p3 h3 p4 h4 p5 h5 p6 h6 p7 h7 p8 h8 p9 h9 p10 h10 p11 p12 p13 p14 p15 p16 p17
      let c1_i32_45 : BitVec 32 ← k0_part2 p0 h0 p1 h1 p2 h2 p3 h3 p4 h4 p5 h5 p6 h6 p7 h7 p8 h8 p9 h9 p10 h10 p11 p12 p13 p14 p15 p16 p17 d0 v2 v13 v14 v30 v31 v32 c0_i32_20
      let v73 : BitVec 32 ← k0_part3 p0 h0 p1 h1 p2 h2 p3 h3 p4 h4 p5 h5 p6 h6 p7 h7 p8 h8 p9 h9 p10 h10 p11 p12 p13 p14 p15 p16 p17 d0 v2 v13 c1_i32_45
      let ⟨v123, v125⟩ : Σ' (v123 : FVec F S256x512 .f32), FVec F S256x1024 .f32 ← k0_part4 p0 h0 p1 h1 p2 h2 p3 h3 p4 h4 p5 h5 p6 h6 p7 h7 p8 h8 p9 h9 p10 h10 p11 p12 p13 p14 p15 p16 p17 v73
      let v159 : FVec F S256x1024 .f32 ← k0_part5 p0 h0 p1 h1 p2 h2 p3 h3 p4 h4 p5 h5 p6 h6 p7 h7 p8 h8 p9 h9 p10 h10 p11 p12 p13 p14 p15 p16 p17 v73 v123 v125
      k0_part6 p0 h0 p1 h1 p2 h2 p3 h3 p4 h4 p5 h5 p6 h6 p7 h7 p8 h8 p9 h9 p10 h10 p11 p12 p13 p14 p15 p16 p17 v159
      let ⟨v219, v221⟩ : Σ' (v219 : FVec F S256x512 .f32), FVec F S256x1024 .f32 ← k0_part7 p0 h0 p1 h1 p2 h2 p3 h3 p4 h4 p5 h5 p6 h6 p7 h7 p8 h8 p9 h9 p10 h10 p11 p12 p13 p14 p15 p16 p17 v73
      let v255 : FVec F S256x1024 .f32 ← k0_part8 p0 h0 p1 h1 p2 h2 p3 h3 p4 h4 p5 h5 p6 h6 p7 h7 p8 h8 p9 h9 p10 h10 p11 p12 p13 p14 p15 p16 p17 v73 v219 v221
      k0_part9 p0 h0 p1 h1 p2 h2 p3 h3 p4 h4 p5 h5 p6 h6 p7 h7 p8 h8 p9 h9 p10 h10 p11 p12 p13 p14 p15 p16 p17 v255
      let ⟨v315, v317⟩ : Σ' (v315 : FVec F S256x512 .f32), FVec F S256x1024 .f32 ← k0_part10 p0 h0 p1 h1 p2 h2 p3 h3 p4 h4 p5 h5 p6 h6 p7 h7 p8 h8 p9 h9 p10 h10 p11 p12 p13 p14 p15 p16 p17 v73
      let v351 : FVec F S256x1024 .f32 ← k0_part11 p0 h0 p1 h1 p2 h2 p3 h3 p4 h4 p5 h5 p6 h6 p7 h7 p8 h8 p9 h9 p10 h10 p11 p12 p13 p14 p15 p16 p17 v73 v315 v317
      k0_part12 p0 h0 p1 h1 p2 h2 p3 h3 p4 h4 p5 h5 p6 h6 p7 h7 p8 h8 p9 h9 p10 h10 p11 p12 p13 p14 p15 p16 p17 v351
      let ⟨v411, v413⟩ : Σ' (v411 : FVec F S256x512 .f32), FVec F S256x1024 .f32 ← k0_part13 p0 h0 p1 h1 p2 h2 p3 h3 p4 h4 p5 h5 p6 h6 p7 h7 p8 h8 p9 h9 p10 h10 p11 p12 p13 p14 p15 p16 p17 v73
      let v447 : FVec F S256x1024 .f32 ← k0_part14 p0 h0 p1 h1 p2 h2 p3 h3 p4 h4 p5 h5 p6 h6 p7 h7 p8 h8 p9 h9 p10 h10 p11 p12 p13 p14 p15 p16 p17 v73 v411 v413
      let v459 : BitVec 32 ← k0_part15 p0 h0 p1 h1 p2 h2 p3 h3 p4 h4 p5 h5 p6 h6 p7 h7 p8 h8 p9 h9 p10 h10 p11 p12 p13 p14 p15 p16 p17 v2 v447
      let v509 : FVec F S256x512 .f32 ← k0_part16 p0 h0 p1 h1 p2 h2 p3 h3 p4 h4 p5 h5 p6 h6 p7 h7 p8 h8 p9 h9 p10 h10 p11 p12 p13 p14 p15 p16 p17 v459
      let v541 : FVec F S256x1 .f32 ← k0_part17 p0 h0 p1 h1 p2 h2 p3 h3 p4 h4 p5 h5 p6 h6 p7 h7 p8 h8 p9 h9 p10 h10 p11 p12 p13 p14 p15 p16 p17 v459 v509
      k0_part18 p0 h0 p1 h1 p2 h2 p3 h3 p4 h4 p5 h5 p6 h6 p7 h7 p8 h8 p9 h9 p10 h10 p11 p12 p13 p14 p15 p16 p17 v541
      let v605 : FVec F S256x512 .f32 ← k0_part19 p0 h0 p1 h1 p2 h2 p3 h3 p4 h4 p5 h5 p6 h6 p7 h7 p8 h8 p9 h9 p10 h10 p11 p12 p13 p14 p15 p16 p17 v459
      let v637 : FVec F S256x1 .f32 ← k0_part20 p0 h0 p1 h1 p2 h2 p3 h3 p4 h4 p5 h5 p6 h6 p7 h7 p8 h8 p9 h9 p10 h10 p11 p12 p13 p14 p15 p16 p17 v459 v605
      k0_part21 p0 h0 p1 h1 p2 h2 p3 h3 p4 h4 p5 h5 p6 h6 p7 h7 p8 h8 p9 h9 p10 h10 p11 p12 p13 p14 p15 p16 p17 v637
      let v701 : FVec F S256x512 .f32 ← k0_part22 p0 h0 p1 h1 p2 h2 p3 h3 p4 h4 p5 h5 p6 h6 p7 h7 p8 h8 p9 h9 p10 h10 p11 p12 p13 p14 p15 p16 p17 v459
      let v733 : FVec F S256x1 .f32 ← k0_part23 p0 h0 p1 h1 p2 h2 p3 h3 p4 h4 p5 h5 p6 h6 p7 h7 p8 h8 p9 h9 p10 h10 p11 p12 p13 p14 p15 p16 p17 v459 v701
      k0_part24 p0 h0 p1 h1 p2 h2 p3 h3 p4 h4 p5 h5 p6 h6 p7 h7 p8 h8 p9 h9 p10 h10 p11 p12 p13 p14 p15 p16 p17 v733
      let v797 : FVec F S256x512 .f32 ← k0_part25 p0 h0 p1 h1 p2 h2 p3 h3 p4 h4 p5 h5 p6 h6 p7 h7 p8 h8 p9 h9 p10 h10 p11 p12 p13 p14 p15 p16 p17 v459
      let v829 : FVec F S256x1 .f32 ← k0_part26 p0 h0 p1 h1 p2 h2 p3 h3 p4 h4 p5 h5 p6 h6 p7 h7 p8 h8 p9 h9 p10 h10 p11 p12 p13 p14 p15 p16 p17 v459 v797
      let v856 : BitVec 32 ← k0_part27 p0 h0 p1 h1 p2 h2 p3 h3 p4 h4 p5 h5 p6 h6 p7 h7 p8 h8 p9 h9 p10 h10 p11 p12 p13 p14 p15 p16 p17 v13 v829
      let v883 : BitVec 32 ← k0_part28 p0 h0 p1 h1 p2 h2 p3 h3 p4 h4 p5 h5 p6 h6 p7 h7 p8 h8 p9 h9 p10 h10 p11 p12 p13 p14 p15 p16 p17 d0 v2 v13 v856
      let v915 : FVec F S256x512 .f32 ← k0_part29 p0 h0 p1 h1 p2 h2 p3 h3 p4 h4 p5 h5 p6 h6 p7 h7 p8 h8 p9 h9 p10 h10 p11 p12 p13 p14 p15 p16 p17 v883
      let v942 : FVec F S256x512 .f32 ← k0_part30 p0 h0 p1 h1 p2 h2 p3 h3 p4 h4 p5 h5 p6 h6 p7 h7 p8 h8 p9 h9 p10 h10 p11 p12 p13 p14 p15 p16 p17 v883 v915
      let ⟨v969, v972, v973⟩ : Σ' (v969 : FVec F S256x512 .f32) (v972 : Vec F S256x1024 .f32), Vec F S512x1024 .f32 ← k0_part31 p0 h0 p1 h1 p2 h2 p3 h3 p4 h4 p5 h5 p6 h6 p7 h7 p8 h8 p9 h9 p10 h10 p11 p12 p13 p14 p15 p16 p17 v883 v942
      let v1002 : FVec F S256x1024 .f32 ← k0_part32 p0 h0 p1 h1 p2 h2 p3 h3 p4 h4 p5 h5 p6 h6 p7 h7 p8 h8 p9 h9 p10 h10 p11 p12 p13 p14 p15 p16 p17 v883 v969 v972 v973
      let v1030 : FVec F S256x1 .f32 ← k0_part33 p0 h0 p1 h1 p2 h2 p3 h3 p4 h4 p5 h5 p6 h6 p7 h7 p8 h8 p9 h9 p10 h10 p11 p12 p13 p14 p15 p16 p17 v883 v1002
      let ⟨v1057, v1060⟩ : Σ' (v1057 : FVec F S256x1 .f32), Vec F S256x1024 .f32 ← k0_part34 p0 h0 p1 h1 p2 h2 p3 h3 p4 h4 p5 h5 p6 h6 p7 h7 p8 h8 p9 h9 p10 h10 p11 p12 p13 p14 p15 p16 p17 v883 v1030
      let ⟨v1089, v1090⟩ : Σ' (v1089 : FVec F S256x1024 .f32), Vec F S1024x512 .f32 ← k0_part35 p0 h0 p1 h1 p2 h2 p3 h3 p4 h4 p5 h5 p6 h6 p7 h7 p8 h8 p9 h9 p10 h10 p11 p12 p13 p14 p15 p16 p17 v883 v1057 v1060
      let v1120 : FVec F S256x512 .f32 ← k0_part36 p0 h0 p1 h1 p2 h2 p3 h3 p4 h4 p5 h5 p6 h6 p7 h7 p8 h8 p9 h9 p10 h10 p11 p12 p13 p14 p15 p16 p17 v883 v1089 v1090
      k0_part37 p0 h0 p1 h1 p2 h2 p3 h3 p4 h4 p5 h5 p6 h6 p7 h7 p8 h8 p9 h9 p10 h10 p11 p12 p13 p14 p15 p16 p17 v1120
      k0_part38 p0 h0 p1 h1 p2 h2 p3 h3 p4 h4 p5 h5 p6 h6 p7 h7 p8 h8 p9 h9 p10 h10 p11 p12 p13 p14 p15 p16 p17 v883
      let ⟨v1204, v1205⟩ : Σ' (v1204 : Vec F S256x1 .i32), IVec S256x1 32 ← k0_part39 p0 h0 p1 h1 p2 h2 p3 h3 p4 h4 p5 h5 p6 h6 p7 h7 p8 h8 p9 h9 p10 h10 p11 p12 p13 p14 p15 p16 p17 v883
      let v1235 : FVec F S256x1 .f32 ← k0_part40 p0 h0 p1 h1 p2 h2 p3 h3 p4 h4 p5 h5 p6 h6 p7 h7 p8 h8 p9 h9 p10 h10 p11 p12 p13 p14 p15 p16 p17 v883 v1204 v1205
      k0_part41 p0 h0 p1 h1 p2 h2 p3 h3 p4 h4 p5 h5 p6 h6 p7 h7 p8 h8 p9 h9 p10 h10 p11 p12 p13 p14 p15 p16 p17 v1235
      let ⟨v1290, v1292⟩ : Σ' (v1290 : Vec F S256x1024 .f32), FVec F S256x1024 .f32 ← k0_part42 p0 h0 p1 h1 p2 h2 p3 h3 p4 h4 p5 h5 p6 h6 p7 h7 p8 h8 p9 h9 p10 h10 p11 p12 p13 p14 p15 p16 p17 v883
      let v1320 : FVec F S256x1024 .f32 ← k0_part43 p0 h0 p1 h1 p2 h2 p3 h3 p4 h4 p5 h5 p6 h6 p7 h7 p8 h8 p9 h9 p10 h10 p11 p12 p13 p14 p15 p16 p17 v883 v1290 v1292
      let v1347 : FVec F S256x1024 .f32 ← k0_part44 p0 h0 p1 h1 p2 h2 p3 h3 p4 h4 p5 h5 p6 h6 p7 h7 p8 h8 p9 h9 p10 h10 p11 p12 p13 p14 p15 p16 p17 v883 v1320
      let ⟨v1380, c1_i32_1195⟩ : Σ' (v1380 : BitVec 32), BitVec 32 ← k0_part45 p0 h0 p1 h1 p2 h2 p3 h3 p4 h4 p5 h5 p6 h6 p7 h7 p8 h8 p9 h9 p10 h10 p11 p12 p13 p14 p15 p16 p17 v2 v883 v1347
      let ⟨v1381, v1409⟩ : Σ' (v1381 : BitVec 32), FVec F S256x1024 .f32 ← k0_part46 p0 h0 p1 h1 p2 h2 p3 h3 p4 h4 p5 h5 p6 h6 p7 h7 p8 h8 p9 h9 p10 h10 p11 p12 p13 p14 p15 p16 p17 v1380 c1_i32_1195
      let ⟨v1438, cst_1252⟩ : Σ' (v1438 : FVec F S256x512 .f32), F .f32 ← k0_part47 p0 h0 p1 h1 p2 h2 p3 h3 p4 h4 p5 h5 p6 h6 p7 h7 p8 h8 p9 h9 p10 h10 p11 p12 p13 p14 p15 p16 p17 v1381 v1409
      let v1467 : FVec F S256x512 .f32 ← k0_part48 p0 h0 p1 h1 p2 h2 p3 h3 p4 h4 p5 h5 p6 h6 p7 h7 p8 h8 p9 h9 p10 h10 p11 p12 p13 p14 p15 p16 p17 v1381 v1438 cst_1252
      let ⟨v1494, v1497⟩ : Σ' (v1494 : FVec F S256x512 .f32), Vec F S256x1024 .f32 ← k0_part49 p0 h0 p1 h1 p2 h2 p3 h3 p4 h4 p5 h5 p6 h6 p7 h7 p8 h8 p9 h9 p10 h10 p11 p12 p13 p14 p15 p16 p17 v1381 v1467
      k0_part50 p0 h0 p1 h1 p2 h2 p3 h3 p4 h4 p5 h5 p6 h6 p7 h7 p8 h8 p9 h9 p10 h10 p11 p12 p13 p14 p15 p16 p17 v1494 v1497
      let v1555 : FVec F S256x1 .f32 ← k0_part51 p0 h0 p1 h1 p2 h2 p3 h3 p4 h4 p5 h5 p6 h6 p7 h7 p8 h8 p9 h9 p10 h10 p11 p12 p13 p14 p15 p16 p17 v1381
      let v1582 : FVec F S256x1 .f32 ← k0_part52 p0 h0 p1 h1 p2 h2 p3 h3 p4 h4 p5 h5 p6 h6 p7 h7 p8 h8 p9 h9 p10 h10 p11 p12 p13 p14 p15 p16 p17 v1381 v1555
      let v1614 : FVec F S256x1024 .f32 ← k0_part53 p0 h0 p1 h1 p2 h2 p3 h3 p4 h4 p5 h5 p6 h6 p7 h7 p8 h8 p9 h9 p10 h10 p11 p12 p13 p14 p15 p16 p17 v1381 v1582
      k0_part54 p0 h0 p1 h1 p2 h2 p3 h3 p4 h4 p5 h5 p6 h6 p7 h7 p8 h8 p9 h9 p10 h10 p11 p12 p13 p14 p15 p16 p17 v1614
      let v1667 : FVec F S256x1024 .f32 ← k0_part55 p0 h0 p1 h1 p2 h2 p3 h3 p4 h4 p5 h5 p6 h6 p7 h7 p8 h8 p9 h9 p10 h10 p11 p12 p13 p14 p15 p16 p17 v1381
      k0_part56 p0 h0 p1 h1 p2 h2 p3 h3 p4 h4 p5 h5 p6 h6 p7 h7 p8 h8 p9 h9 p10 h10 p11 p12 p13 p14 p15 p16 p17 v1381 v1667
      k0_part57 p0 h0 p1 h1 p2 h2 p3 h3 p4 h4 p5 h5 p6 h6 p7 h7 p8 h8 p9 h9 p10 h10 p11 p12 p13 p14 p15 p16 p17 v1381
      k0_part58 p0 h0 p1 h1 p2 h2 p3 h3 p4 h4 p5 h5 p6 h6 p7 h7 p8 h8 p9 h9 p10 h10 p11 p12 p13 p14 p15 p16 p17 v1381
      let v1785 : FVec F S256x512 .f32 ← k0_part59 p0 h0 p1 h1 p2 h2 p3 h3 p4 h4 p5 h5 p6 h6 p7 h7 p8 h8 p9 h9 p10 h10 p11 p12 p13 p14 p15 p16 p17 v1381
      let ⟨v1812, v1815⟩ : Σ' (v1812 : FVec F S256x512 .f32), Vec F S256x1024 .f32 ← k0_part60 p0 h0 p1 h1 p2 h2 p3 h3 p4 h4 p5 h5 p6 h6 p7 h7 p8 h8 p9 h9 p10 h10 p11 p12 p13 p14 p15 p16 p17 v1381 v1785
      let v1845 : FVec F S256x1024 .f32 ← k0_part61 p0 h0 p1 h1 p2 h2 p3 h3 p4 h4 p5 h5 p6 h6 p7 h7 p8 h8 p9 h9 p10 h10 p11 p12 p13 p14 p15 p16 p17 v1381 v1812 v1815
      let v1872 : FVec F S256x1024 .f32 ← k0_part62 p0 h0 p1 h1 p2 h2 p3 h3 p4 h4 p5 h5 p6 h6 p7 h7 p8 h8 p9 h9 p10 h10 p11 p12 p13 p14 p15 p16 p17 v1381 v1845
      let v1889 : BitVec 32 ← k0_part63 p0 h0 p1 h1 p2 h2 p3 h3 p4 h4 p5 h5 p6 h6 p7 h7 p8 h8 p9 h9 p10 h10 p11 p12 p13 p14 p15 p16 p17 d0 v2 v13 v1872
      k0_part64 p0 h0 p1 h1 p2 h2 p3 h3 p4 h4 p5 h5 p6 h6 p7 h7 p8 h8 p9 h9 p10 h10 p11 p12 p13 p14 p15 p16 p17 d0 v13
      let v1943 : BitVec 32 ← k0_part65 p0 h0 p1 h1 p2 h2 p3 h3 p4 h4 p5 h5 p6 h6 p7 h7 p8 h8 p9 h9 p10 h10 p11 p12 p13 p14 p15 p16 p17 d0 v2
      k0_part66 p0 h0 p1 h1 p2 h2 p3 h3 p4 h4 p5 h5 p6 h6 p7 h7 p8 h8 p9 h9 p10 h10 p11 p12 p13 p14 p15 p16 p17 v1943
      let v2019 : IVec S256x1 32 ← k0_part67 p0 h0 p1 h1 p2 h2 p3 h3 p4 h4 p5 h5 p6 h6 p7 h7 p8 h8 p9 h9 p10 h10 p11 p12 p13 p14 p15 p16 p17 v1943
      let v2047 : FVec F S256x1 .f32 ← k0_part68 p0 h0 p1 h1 p2 h2 p3 h3 p4 h4 p5 h5 p6 h6 p7 h7 p8 h8 p9 h9 p10 h10 p11 p12 p13 p14 p15 p16 p17 v1943 v2019
      k0_part69 p0 h0 p1 h1 p2 h2 p3 h3 p4 h4 p5 h5 p6 h6 p7 h7 p8 h8 p9 h9 p10 h10 p11 p12 p13 p14 p15 p16 p17 v2047
      let v2105 : FVec F S256x1024 .f32 ← k0_part70 p0 h0 p1 h1 p2 h2 p3 h3 p4 h4 p5 h5 p6 h6 p7 h7 p8 h8 p9 h9 p10 h10 p11 p12 p13 p14 p15 p16 p17 v1943
      let v2132 : FVec F S256x1024 .f32 ← k0_part71 p0 h0 p1 h1 p2 h2 p3 h3 p4 h4 p5 h5 p6 h6 p7 h7 p8 h8 p9 h9 p10 h10 p11 p12 p13 p14 p15 p16 p17 v1943 v2105
      k0_part72 p0 h0 p1 h1 p2 h2 p3 h3 p4 h4 p5 h5 p6 h6 p7 h7 p8 h8 p9 h9 p10 h10 p11 p12 p13 p14 p15 p16 p17 v1943 v2132
      k0_part73 p0 h0 p1 h1 p2 h2 p3 h3 p4 h4 p5 h5 p6 h6 p7 h7 p8 h8 p9 h9 p10 h10 p11 p12 p13 p14 p15 p16 p17 v1943
      let ⟨v2221, v2222⟩ : Σ' (v2221 : FVec F S256x512 .f32), FVec F S256x512 .f32 ← k0_part74 p0 h0 p1 h1 p2 h2 p3 h3 p4 h4 p5 h5 p6 h6 p7 h7 p8 h8 p9 h9 p10 h10 p11 p12 p13 p14 p15 p16 p17 v1943
      let v2250 : FVec F S256x512 .f32 ← k0_part75 p0 h0 p1 h1 p2 h2 p3 h3 p4 h4 p5 h5 p6 h6 p7 h7 p8 h8 p9 h9 p10 h10 p11 p12 p13 p14 p15 p16 p17 v1943 v2221 v2222
      let ⟨v2277, v2280⟩ : Σ' (v2277 : FVec F S256x512 .f32), Vec F S256x1024 .f32 ← k0_part76 p0 h0 p1 h1 p2 h2 p3 h3 p4 h4 p5 h5 p6 h6 p7 h7 p8 h8 p9 h9 p10 h10 p11 p12 p13 p14 p15 p16 p17 v1943 v2250
      let v2310 : FVec F S256x1024 .f32 ← k0_part77 p0 h0 p1 h1 p2 h2 p3 h3 p4 h4 p5 h5 p6 h6 p7 h7 p8 h8 p9 h9 p10 h10 p11 p12 p13 p14 p15 p16 p17 v1943 v2277 v2280
      let v2338 : FVec F S256x1 .f32 ← k0_part78 p0 h0 p1 h1 p2 h2 p3 h3 p4 h4 p5 h5 p6 h6 p7 h7 p8 h8 p9 h9 p10 h10 p11 p12 p13 p14 p15 p16 p17 v1943 v2310
      let v2365 : FVec F S256x1 .f32 ← k0_part79 p0 h0 p1 h1 p2 h2 p3 h3 p4 h4 p5 h5 p6 h6 p7 h7 p8 h8 p9 h9 p10 h10 p11 p12 p13 p14 p15 p16 p17 v1943 v2338
      let v2397 : FVec F S256x1024 .f32 ← k0_part80 p0 h0 p1 h1 p2 h2 p3 h3 p4 h4 p5 h5 p6 h6 p7 h7 p8 h8 p9 h9 p10 h10 p11 p12 p13 p14 p15 p16 p17 v1943 v2365
      let ⟨v2426, cst_2240⟩ : Σ' (v2426 : FVec F S256x512 .f32), F .f32 ← k0_part81 p0 h0 p1 h1 p2 h2 p3 h3 p4 h4 p5 h5 p6 h6 p7 h7 p8 h8 p9 h9 p10 h10 p11 p12 p13 p14 p15 p16 p17 v1943 v2397
      let v2441 : BitVec 32 ← k0_part82 p0 h0 p1 h1 p2 h2 p3 h3 p4 h4 p5 h5 p6 h6 p7 h7 p8 h8 p9 h9 p10 h10 p11 p12 p13 p14 p15 p16 p17 v2 v2426 cst_2240
      let v2479 : FVec F S256x1024 .f32 ← k0_part83 p0 h0 p1 h1 p2 h2 p3 h3 p4 h4 p5 h5 p6 h6 p7 h7 p8 h8 p9 h9 p10 h10 p11 p12 p13 p14 p15 p16 p17 v2441
      k0_part84 p0 h0 p1 h1 p2 h2 p3 h3 p4 h4 p5 h5 p6 h6 p7 h7 p8 h8 p9 h9 p10 h10 p11 p12 p13 p14 p15 p16 p17 v2441 v2479
      let v2541 : Vec F S256x1 .i32 ← k0_part85 p0 h0 p1 h1 p2 h2 p3 h3 p4 h4 p5 h5 p6 h6 p7 h7 p8 h8 p9 h9 p10 h10 p11 p12 p13 p14 p15 p16 p17 v2441
      k0_part86 p0 h0 p1 h1 p2 h2 p3 h3 p4 h4 p5 h5 p6 h6 p7 h7 p8 h8 p9 h9 p10 h10 p11 p12 p13 p14 p15 p16 p17 v2441 v2541
      let v2597 : FVec F S256x512 .f32 ← k0_part87 p0 h0 p1 h1 p2 h2 p3 h3 p4 h4 p5 h5 p6 h6 p7 h7 p8 h8 p9 h9 p10 h10 p11 p12 p13 p14 p15 p16 p17 v2441
      let ⟨v2624, v2627, v2628, cst_2444⟩ : Σ' (v2624 : FVec F S256x512 .f32) (v2627 : Vec F S256x1024 .f32) (v2628 : Vec F S512x1024 .f32), FVec F S256x1024 .f32 ← k0_part88 p0 h0 p1 h1 p2 h2 p3 h3 p4 h4 p5 h5 p6 h6 p7 h7 p8 h8 p9 h9 p10 h10 p11 p12 p13 p14 p15 p16 p17 v2441 v2597
      let v2657 : FVec F S256x1024 .f32 ← k0_part89 p0 h0 p1 h1 p2 h2 p3 h3 p4 h4 p5 h5 p6 h6 p7 h7 p8 h8 p9 h9 p10 h10 p11 p12 p13 p14 p15 p16 p17 v2441 v2624 v2627 v2628 cst_2444
      let ⟨v2684, v2687⟩ : Σ' (v2684 : FVec F S256x1024 .f32), Vec F S256x1024 .f32 ← k0_part90 p0 h0 p1 h1 p2 h2 p3 h3 p4 h4 p5 h5 p6 h6 p7 h7 p8 h8 p9 h9 p10 h10 p11 p12 p13 p14 p15 p16 p17 v2441 v2657
      let ⟨v2715, v2716⟩ : Σ' (v2715 : Vec F S256x1024 .f32), FVec F S256x1024 .f32 ← k0_part91 p0 h0 p1 h1 p2 h2 p3 h3 p4 h4 p5 h5 p6 h6 p7 h7 p8 h8 p9 h9 p10 h10 p11 p12 p13 p14 p15 p16 p17 v2441 v2684 v2687
      let ⟨v2744, v2745, cst_2559⟩ : Σ' (v2744 : FVec F S256x1024 .f32) (v2745 : Vec F S1024x512 .f32), FVec F S256x512 .f32 ← k0_part92 p0 h0 p1 h1 p2 h2 p3 h3 p4 h4 p5 h5 p6 h6 p7 h7 p8 h8 p9 h9 p10 h10 p11 p12 p13 p14 p15 p16 p17 v2441 v2715 v2716
      let v2775 : FVec F S256x512 .f32 ← k0_part93 p0 h0 p1 h1 p2 h2 p3 h3 p4 h4 p5 h5 p6 h6 p7 h7 p8 h8 p9 h9 p10 h10 p11 p12 p13 p14 p15 p16 p17 v2441 v2744 v2745 cst_2559
      let v2802 : FVec F S256x512 .f32 ← k0_part94 p0 h0 p1 h1 p2 h2 p3 h3 p4 h4 p5 h5 p6 h6 p7 h7 p8 h8 p9 h9 p10 h10 p11 p12 p13 p14 p15 p16 p17 v2441 v2775
      k0_part95 p0 h0 p1 h1 p2 h2 p3 h3 p4 h4 p5 h5 p6 h6 p7 h7 p8 h8 p9 h9 p10 h10 p11 p12 p13 p14 p15 p16 p17 v2802
      let v2861 : IVec S256x1 1 ← k0_part96 p0 h0 p1 h1 p2 h2 p3 h3 p4 h4 p5 h5 p6 h6 p7 h7 p8 h8 p9 h9 p10 h10 p11 p12 p13 p14 p15 p16 p17 v2441
      let v2890 : FVec F S256x1 .f32 ← k0_part97 p0 h0 p1 h1 p2 h2 p3 h3 p4 h4 p5 h5 p6 h6 p7 h7 p8 h8 p9 h9 p10 h10 p11 p12 p13 p14 p15 p16 p17 v2441 v2861
      let ⟨v2917, v2920⟩ : Σ' (v2917 : FVec F S256x1 .f32), Vec F S256x1024 .f32 ← k0_part98 p0 h0 p1 h1 p2 h2 p3 h3 p4 h4 p5 h5 p6 h6 p7 h7 p8 h8 p9 h9 p10 h10 p11 p12 p13 p14 p15 p16 p17 v2441 v2890
      let ⟨v2949, c1_i32_2764⟩ : Σ' (v2949 : BitVec 32), BitVec 32 ← k0_part99 p0 h0 p1 h1 p2 h2 p3 h3 p4 h4 p5 h5 p6 h6 p7 h7 p8 h8 p9 h9 p10 h10 p11 p12 p13 p14 p15 p16 p17 v2 v2917 v2920
      k0_part100 p0 h0 p1 h1 p2 h2 p3 h3 p4 h4 p5 h5 p6 h6 p7 h7 p8 h8 p9 h9 p10 h10 p11 p12 p13 p14 p15 p16 p17 d0 v13 v2949 c1_i32_2764
      let v2989 : BitVec 32 ← k0_part101 p0 h0 p1 h1 p2 h2 p3 h3 p4 h4 p5 h5 p6 h6 p7 h7 p8 h8 p9 h9 p10 h10 p11 p12 p13 p14 p15 p16 p17 v2
      k0_part102 p0 h0 p1 h1 p2 h2 p3 h3 p4 h4 p5 h5 p6 h6 p7 h7 p8 h8 p9 h9 p10 h10 p11 p12 p13 p14 p15 p16 p17 v2989
      k0_part103 p0 h0 p1 h1 p2 h2 p3 h3 p4 h4 p5 h5 p6 h6 p7 h7 p8 h8 p9 h9 p10 h10 p11 p12 p13 p14 p15 p16 p17 v2989
      let v3093 : FVec F S256x1 .f32 ← k0_part104 p0 h0 p1 h1 p2 h2 p3 h3 p4 h4 p5 h5 p6 h6 p7 h7 p8 h8 p9 h9 p10 h10 p11 p12 p13 p14 p15 p16 p17 v2989
      k0_part105 p0 h0 p1 h1 p2 h2 p3 h3 p4 h4 p5 h5 p6 h6 p7 h7 p8 h8 p9 h9 p10 h10 p11 p12 p13 p14 p15 p16 p17 v3093
      let ⟨v3145, v3148, v3149⟩ : Σ' (v3145 : FVec F S256x512 .f32) (v3148 : Vec F S256x1024 .f32), Vec F S512x1024 .f32 ← k0_part106 p0 h0 p1 h1 p2 h2 p3 h3 p4 h4 p5 h5 p6 h6 p7 h7 p8 h8 p9 h9 p10 h10 p11 p12 p13 p14 p15 p16 p17 v2989
      let v3178 : FVec F S256x1024 .f32 ← k0_part107 p0 h0 p1 h1 p2 h2 p3 h3 p4 h4 p5 h5 p6 h6 p7 h7 p8 h8 p9 h9 p10 h10 p11 p12 p13 p14 p15 p16 p17 v2989 v3145 v3148 v3149
      let v3205 : FVec F S256x1024 .f32 ← k0_part108 p0 h0 p1 h1 p2 h2 p3 h3 p4 h4 p5 h5 p6 h6 p7 h7 p8 h8 p9 h9 p10 h10 p11 p12 p13 p14 p15 p16 p17 v2989 v3178
      k0_part109 p0 h0 p1 h1 p2 h2 p3 h3 p4 h4 p5 h5 p6 h6 p7 h7 p8 h8 p9 h9 p10 h10 p11 p12 p13 p14 p15 p16 p17 v2989 v3205
      let ⟨v3265, v3266⟩ : Σ' (v3265 : FVec F S256x1024 .f32), Vec F S1024x512 .f32 ← k0_part110 p0 h0 p1 h1 p2 h2 p3 h3 p4 h4 p5 h5 p6 h6 p7 h7 p8 h8 p9 h9 p10 h10 p11 p12 p13 p14 p15 p16 p17 v2989
      let v3296 : FVec F S256x512 .f32 ← k0_part111 p0 h0 p1 h1 p2 h2 p3 h3 p4 h4 p5 h5 p6 h6 p7 h7 p8 h8 p9 h9 p10 h10 p11 p12 p13 p14 p15 p16 p17 v2989 v3265 v3266
      let v3323 : FVec F S256x512 .f32 ← k0_part112 p0 h0 p1 h1 p2 h2 p3 h3 p4 h4 p5 h5 p6 h6 p7 h7 p8 h8 p9 h9 p10 h10 p11 p12 p13 p14 p15 p16 p17 v2989 v3296
      let ⟨v3350, v3353⟩ : Σ' (v3350 : FVec F S256x512 .f32), Vec F S256x1024 .f32 ← k0_part113 p0 h0 p1 h1 p2 h2 p3 h3 p4 h4 p5 h5 p6 h6 p7 h7 p8 h8 p9 h9 p10 h10 p11 p12 p13 p14 p15 p16 p17 v2989 v3323
      let ⟨v3380, v3381⟩ : Σ' (v3380 : Vec F S256x1 .i32), IVec S256x1 32 ← k0_part114 p0 h0 p1 h1 p2 h2 p3 h3 p4 h4 p5 h5 p6 h6 p7 h7 p8 h8 p9 h9 p10 h10 p11 p12 p13 p14 p15 p16 p17 v2989 v3350 v3353
      let v3411 : FVec F S256x1 .f32 ← k0_part115 p0 h0 p1 h1 p2 h2 p3 h3 p4 h4 p5 h5 p6 h6 p7 h7 p8 h8 p9 h9 p10 h10 p11 p12 p13 p14 p15 p16 p17 v2989 v3380 v3381
      let v3438 : FVec F S256x1 .f32 ← k0_part116 p0 h0 p1 h1 p2 h2 p3 h3 p4 h4 p5 h5 p6 h6 p7 h7 p8 h8 p9 h9 p10 h10 p11 p12 p13 p14 p15 p16 p17 v2989 v3411
      let v3470 : FVec F S256x1024 .f32 ← k0_part117 p0 h0 p1 h1 p2 h2 p3 h3 p4 h4 p5 h5 p6 h6 p7 h7 p8 h8 p9 h9 p10 h10 p11 p12 p13 p14 p15 p16 p17 v2989 v3438
      let v3487 : BitVec 32 ← k0_part118 p0 h0 p1 h1 p2 h2 p3 h3 p4 h4 p5 h5 p6 h6 p7 h7 p8 h8 p9 h9 p10 h10 p11 p12 p13 p14 p15 p16 p17 v2 v3470
      let v3525 : FVec F S256x1024 .f32 ← k0_part119 p0 h0 p1 h1 p2 h2 p3 h3 p4 h4 p5 h5 p6 h6 p7 h7 p8 h8 p9 h9 p10 h10 p11 p12 p13 p14 p15 p16 p17 v3487
      let v3557 : FVec F S256x1024 .f32 ← k0_part120 p0 h0 p1 h1 p2 h2 p3 h3 p4 h4 p5 h5 p6 h6 p7 h7 p8 h8 p9 h9 p10 h10 p11 p12 p13 p14 p15 p16 p17 v3487 v3525
      k0_part121 p0 h0 p1 h1 p2 h2 p3 h3 p4 h4 p5 h5 p6 h6 p7 h7 p8 h8 p9 h9 p10 h10 p11 p12 p13 p14 p15 p16 p17 v3487 v3557
      k0_part122 p0 h0 p1 h1 p2 h2 p3 h3 p4 h4 p5 h5 p6 h6 p7 h7 p8 h8 p9 h9 p10 h10 p11 p12 p13 p14 p15 p16 p17 v3487
      let v3643 : FVec F S256x512 .f32 ← k0_part123 p0 h0 p1 h1 p2 h2 p3 h3 p4 h4 p5 h5 p6 h6 p7 h7 p8 h8 p9 h9 p10 h10 p11 p12 p13 p14 p15 p16 p17 v3487
      let ⟨v3670, v3673⟩ : Σ' (v3670 : FVec F S256x512 .f32), Vec F S256x1024 .f32 ← k0_part124 p0 h0 p1 h1 p2 h2 p3 h3 p4 h4 p5 h5 p6 h6 p7 h7 p8 h8 p9 h9 p10 h10 p11 p12 p13 p14 p15 p16 p17 v3487 v3643
      let ⟨v3700, v3702⟩ : Σ' (v3700 : Vec F S256x1024 .f32), FVec F S256x1024 .f32 ← k0_part125 p0 h0 p1 h1 p2 h2 p3 h3 p4 h4 p5 h5 p6 h6 p7 h7 p8 h8 p9 h9 p10 h10 p11 p12 p13 p14 p15 p16 p17 v3487 v3670 v3673
      let v3730 : FVec F S256x1024 .f32 ← k0_part126 p0 h0 p1 h1 p2 h2 p3 h3 p4 h4 p5 h5 p6 h6 p7 h7 p8 h8 p9 h9 p10 h10 p11 p12 p13 p14 p15 p16 p17 v3487 v3700 v3702
      let v3758 : FVec F S256x1 .f32 ← k0_part127 p0 h0 p1 h1 p2 h2 p3 h3 p4 h4 p5 h5 p6 h6 p7 h7 p8 h8 p9 h9 p10 h10 p11 p12 p13 p14 p15 p16 p17 v3487 v3730
      let v3790 : FVec F S256x1024 .f32 ← k0_part128 p0 h0 p1 h1 p2 h2 p3 h3 p4 h4 p5 h5 p6 h6 p7 h7 p8 h8 p9 h9 p10 h10 p11 p12 p13 p14 p15 p16 p17 v3487 v3758
      let v3819 : FVec F S256x512 .f32 ← k0_part129 p0 h0 p1 h1 p2 h2 p3 h3 p4 h4 p5 h5 p6 h6 p7 h7 p8 h8 p9 h9 p10 h10 p11 p12 p13 p14 p15 p16 p17 v3487 v3790
      let v3848 : FVec F S256x512 .f32 ← k0_part130 p0 h0 p1 h1 p2 h2 p3 h3 p4 h4 p5 h5 p6 h6 p7 h7 p8 h8 p9 h9 p10 h10 p11 p12 p13 p14 p15 p16 p17 v3487 v3819
      k0_part131 p0 h0 p1 h1 p2 h2 p3 h3 p4 h4 p5 h5 p6 h6 p7 h7 p8 h8 p9 h9 p10 h10 p11 p12 p13 p14 p15 p16 p17 v3848
      k0_part132 p0 h0 p1 h1 p2 h2 p3 h3 p4 h4 p5 h5 p6 h6 p7 h7 p8 h8 p9 h9 p10 h10 p11 p12 p13 p14 p15 p16 p17 v3487
      let v3935 : IVec S256x1 32 ← k0_part133 p0 h0 p1 h1 p2 h2 p3 h3 p4 h4 p5 h5 p6 h6 p7 h7 p8 h8 p9 h9 p10 h10 p11 p12 p13 p14 p15 p16 p17 v3487
      let v3963 : FVec F S256x1 .f32 ← k0_part134 p0 h0 p1 h1 p2 h2 p3 h3 p4 h4 p5 h5 p6 h6 p7 h7 p8 h8 p9 h9 p10 h10 p11 p12 p13 p14 p15 p16 p17 v3487 v3935
      let v3995 : BitVec 32 ← k0_part135 p0 h0 p1 h1 p2 h2 p3 h3 p4 h4 p5 h5 p6 h6 p7 h7 p8 h8 p9 h9 p10 h10 p11 p12 p13 p14 p15 p16 p17 v2 v3963
      k0_part136 p0 h0 p1 h1 p2 h2 p3 h3 p4 h4 p5 h5 p6 h6 p7 h7 p8 h8 p9 h9 p10 h10 p11 p12 p13 p14 p15 p16 p17 d0 v1889 v2949 v3995
      k0_part137 p0 h0 p1 h1 p2 h2 p3 h3 p4 h4 p5 h5 p6 h6 p7 h7 p8 h8 p9 h9 p10 h10 p11 p12 p13 p14 p15 p16 p17 v3995
      k0_part138 p0 h0 p1 h1 p2 h2 p3 h3 p4 h4 p5 h5 p6 h6 p7 h7 p8 h8 p9 h9 p10 h10 p11 p12 p13 p14 p15 p16 p17
      Prog.lift (.waitDma2 (sem3 p11 2 inb_S3_S1_2) (slot3 p5 2 inb_S3x1024x1024_S1x1024x1024_2_0_0) (slot3 p5 1 inb_S3x1024x1024_S1x1024x1024_1_0_0) ((View.wordExact_bits rfl).reshape _ _) ((View.wordExact_bits rfl).reshape _ _))
      Prog.lift (.waitDma2 (sem3 p13 2 inb_S3_S1_2) (slotA p6 2 inb_S3x1024x1_S1x1024x1_2_0_0) (slotA p6 1 inb_S3x1024x1_S1x1024x1_1_0_0) ((View.wordExact_bits rfl).reshape _ _) ((View.wordExact_bits rfl).reshape _ _))
      Prog.lift (.waitDma2 (sem2 p15 1 inb_S2_S1_1) (slot3 p7 1 inb_S3x1024x1024_S1x1024x1024_1_0_0) (slot2 p8 1 inb_S2x1024x1024_S1x1024x1024_1_0_0) ((View.wordExact_bits rfl).reshape _ _) ((View.wordExact_bits rfl).reshape _ _))
      Prog.lift (.waitDma2 (sem2 p15 0 inb_S2_S1_0) (slot3 p7 2 inb_S3x1024x1024_S1x1024x1024_2_0_0) (slot2 p8 0 inb_S2x1024x1024_S1x1024x1024_0_0_0) ((View.wordExact_bits rfl).reshape _ _) ((View.wordExact_bits rfl).reshape _ _))
      : TP F PUnit) := by
  rw [cc0_body_eq_skeleton]
  unfold cc0_body_skel
  simp only [k0_part139_eq_skeleton, k0_part140_eq_skeleton, k0_part141_eq_skeleton]
  unfold k0_part139_skel k0_part140_skel k0_part141_skel
  iterate 420 (first
    | with_reducible refine (bind_assoc _ _ _).trans ?_
    | with_reducible refine (pure_bind _ _).trans ?_
    | with_reducible refine bind_congr fun x => ?_
    | skip)
  rfl

theorem body_rest : cc0_body (F := F) p0 h0 p1 h1 p2 h2 p3 h3 p4 h4 p5 h5 p6 h6 p7 h7 p8 h8 p9 h9 p10 h10 p11 p12 p13 p14 p15 p16 p17 = rest0 p0 h0 p1 h1 p2 h2 p3 h3 p4 h4 p5 h5 p6 h6 p7 h7 p8 h8 p9 h9 p10 h10 p11 p12 p13 p14 p15 p16 p17 :=
  body_chain p0 h0 p1 h1 p2 h2 p3 h3 p4 h4 p5 h5 p6 h6 p7 h7 p8 h8 p9 h9 p10 h10 p11 p12 p13 p14 p15 p16 p17

end

end Cert.KernelIdeal.Moe
-- ==== Proof.KernI.lean ====
/- The printed kernel function is the structured program `kern`. -/
module

public import proofs.«01_k».proof.Proof.EqI

@[expose] public section

set_option maxRecDepth 65536

noncomputable section

namespace Cert.KernelIdeal.Moe

open Idealize.ShloMosaic Idealize.SL.Sem
open Cert.KernelIdeal Cert.KernelIdeal.Gen

variable {F : FTy → Type} [FloatOps F]

section
variable (p0 : Memref sig .tc .vmem S1024x1024 .f32) (h0 : p0.IsWhole)
    (p1 : Memref sig .tc .vmem S1024x1 .i32) (h1 : p1.IsWhole)
    (p2 : Memref sig .tc .hbm S2x1024x2048 .f32) (h2 : p2.IsWhole)
    (p3 : Memref sig .tc .hbm S2x2048x1024 .f32) (h3 : p3.IsWhole)
    (p4 : Memref sig .tc .vmem S1024x1024 .f32) (h4 : p4.IsWhole)
    (p5 : Memref sig .tc .vmem S3x1024x1024 .f32) (h5 : p5.IsWhole)
    (p6 : Memref sig .tc .vmem S3x1024x1 .i32) (h6 : p6.IsWhole)
    (p7 : Memref sig .tc .vmem S3x1024x1024 .f32) (h7 : p7.IsWhole)
    (p8 : Memref sig .tc .vmem S2x1024x1024 .f32) (h8 : p8.IsWhole)
    (p9 : Memref sig .tc .vmem S1024x512 .f32) (h9 : p9.IsWhole)
    (p10 : Memref sig .tc .vmem S512x1024 .f32) (h10 : p10.IsWhole)
    (p11 : DmaSems sig S3)
    (p12 : DmaSems sig S3)
    (p13 : DmaSems sig S3)
    (p14 : DmaSems sig S3)
    (p15 : DmaSems sig S2)
    (p16 : DmaSems sig S3)
    (p17 : DmaSems sig S2)

/-- The kernel function is the structured program. -/
theorem body_kern : cc0_body (F := F) p0 h0 p1 h1 p2 h2 p3 h3 p4 h4 p5 h5 p6 h6 p7 h7 p8 h8 p9 h9 p10 h10 p11 p12 p13 p14 p15 p16 p17 = kern (F := F) p0 h0 p1 h1 p2 h2 p3 h3 p4 h4 p5 h5 p6 h6 p7 h7 p8 h8 p9 h9 p10 h10 p11 p12 p13 p14 p15 p16 p17 := by
  rw [body_rest]
  unfold kern pass expert blk
  conv_rhs => simp only [bind_assoc]
  refine (rest0_eq (F := F) ..).trans ?_
  iterate 12 refine bind_congr fun _ => ?_
  refine (rest1_eq (F := F) ..).trans ?_
  iterate 8 refine bind_congr fun _ => ?_
  refine (rest2_eq (F := F) ..).trans ?_
  iterate 8 refine bind_congr fun _ => ?_
  refine (rest3_eq (F := F) ..).trans ?_
  iterate 8 refine bind_congr fun _ => ?_
  refine (rest4_eq (F := F) ..).trans ?_
  iterate 7 refine bind_congr fun _ => ?_
  refine (rest5_eq (F := F) ..).trans ?_
  iterate 8 refine bind_congr fun _ => ?_
  refine (rest6_eq (F := F) ..).trans ?_
  iterate 8 refine bind_congr fun _ => ?_
  refine (rest7_eq (F := F) ..).trans ?_
  iterate 8 refine bind_congr fun _ => ?_
  refine (rest8_eq (F := F) ..).trans ?_
  iterate 7 refine bind_congr fun _ => ?_
  refine (rest9_eq (F := F) ..).trans ?_
  iterate 3 refine bind_congr fun _ => ?_
  refine (rest10_eq (F := F) ..).trans ?_
  iterate 19 refine bind_congr fun _ => ?_
  refine (rest11_eq (F := F) ..).trans ?_
  iterate 2 refine bind_congr fun _ => ?_
  refine (rest12_eq (F := F) ..).trans ?_
  iterate 5 refine bind_congr fun _ => ?_
  refine (rest13_eq (F := F) ..).trans ?_
  iterate 6 refine bind_congr fun _ => ?_
  refine (rest14_eq (F := F) ..).trans ?_
  iterate 12 refine bind_congr fun _ => ?_
  refine (rest15_eq (F := F) ..).trans ?_
  iterate 7 refine bind_congr fun _ => ?_
  refine (rest16_eq (F := F) ..).trans ?_
  iterate 3 refine bind_congr fun _ => ?_
  refine (rest17_eq (F := F) ..).trans ?_
  iterate 1 refine bind_congr fun _ => ?_
  refine (rest18_eq (F := F) ..).trans ?_
  iterate 2 refine bind_congr fun _ => ?_
  refine (rest19_eq (F := F) ..).trans ?_
  iterate 8 refine bind_congr fun _ => ?_
  refine (rest20_eq (F := F) ..).trans ?_
  iterate 3 refine bind_congr fun _ => ?_
  refine (rest21_eq (F := F) ..).trans ?_
  iterate 6 refine bind_congr fun _ => ?_
  refine (rest22_eq (F := F) ..).trans ?_
  iterate 1 refine bind_congr fun _ => ?_
  refine (rest23_eq (F := F) ..).trans ?_
  iterate 5 refine bind_congr fun _ => ?_
  refine (rest24_eq (F := F) ..).trans ?_
  iterate 5 refine bind_congr fun _ => ?_
  refine (rest25_eq (F := F) ..).trans ?_
  iterate 1 refine bind_congr fun _ => ?_
  refine (rest26_eq (F := F) ..).trans ?_
  iterate 19 refine bind_congr fun _ => ?_
  refine (rest27_eq (F := F) ..).trans ?_
  iterate 3 refine bind_congr fun _ => ?_
  refine (rest28_eq (F := F) ..).trans ?_
  iterate 3 refine bind_congr fun _ => ?_
  refine (rest29_eq (F := F) ..).trans ?_
  iterate 19 refine bind_congr fun _ => ?_
  refine (rest30_eq (F := F) ..).trans ?_
  iterate 4 refine bind_congr fun _ => ?_
  refine (rest31_eq (F := F) ..).trans ?_
  iterate 3 refine bind_congr fun _ => ?_
  refine (rest32_eq (F := F) ..).trans ?_
  iterate 5 refine bind_congr fun _ => ?_
  refine (rest33_eq (F := F) ..).trans ?_
  iterate 2 refine bind_congr fun _ => ?_
  refine (rest34_eq (F := F) ..).trans ?_
  iterate 1 refine bind_congr fun _ => ?_
  refine (rest35_eq (F := F) ..).trans ?_
  iterate 3 refine bind_congr fun _ => ?_
  refine (rest36_eq (F := F) ..).trans ?_
  iterate 7 refine bind_congr fun _ => ?_
  refine (rest37_eq (F := F) ..).trans ?_
  iterate 18 refine bind_congr fun _ => ?_
  refine (rest38_eq (F := F) ..).trans ?_
  iterate 5 refine bind_congr fun _ => ?_
  refine (rest39_eq (F := F) ..).trans ?_
  iterate 2 refine bind_congr fun _ => ?_
  refine (rest40_eq (F := F) ..).trans ?_
  iterate 19 refine bind_congr fun _ => ?_
  refine (rest41_eq (F := F) ..).trans ?_
  iterate 1 refine bind_congr fun _ => ?_
  refine (rest42_eq (F := F) ..).trans ?_
  iterate 3 refine bind_congr fun _ => ?_
  refine (rest43_eq (F := F) ..).trans ?_
  iterate 3 refine bind_congr fun _ => ?_
  refine (rest44_eq (F := F) ..).trans ?_
  iterate 4 refine bind_congr fun _ => ?_
  refine (rest45_eq (F := F) ..).trans ?_
  iterate 4 refine bind_congr fun _ => ?_
  rfl

end

end Cert.KernelIdeal.Moe
-- ==== Proof.LaunchI.lean ====
/- The launch: the kernel's run on all four devices, from any memory to the computed result. -/
module

public import proofs.«01_k».proof.Proof.BodyI
public import proofs.«01_k».proof.Proof.KernI
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The tokens, dealt around -/

/-- The tokens a device pays with: how far the paid device is, its cell, the round and the duty. -/
def tk : Fin 21 → ℕ × Fin 18 × ℕ × Fin 3 := ![(1, 0, 0, 2), (2, 0, 0, 1), (3, 0, 0, 0), (0, 1, 0, 0), (0, 2, 0, 0), (0, 3, 0, 0), (0, 7, 0, 0), (0, 8, 0, 0), (0, 9, 0, 0), (0, 13, 0, 0), (0, 14, 0, 0), (0, 13, 1, 0), (1, 4, 0, 0), (1, 5, 0, 0), (1, 6, 0, 0), (1, 10, 0, 0), (1, 11, 0, 0), (1, 12, 0, 0), (3, 15, 0, 0), (2, 16, 0, 0), (1, 17, 0, 0)]

/-- The turn of the ring by `j`. -/
def turn (j : ℕ) : Dev nD ≃ Dev nD where
  toFun := rot j
  invFun := rot (3 * j)
  left_inv c := Fin.ext (by have := c.isLt; show ((c.val + j) % 4 + 3 * j) % 4 = c.val; change c.val < 4 at this; omega)
  right_inv c := Fin.ext (by have := c.isLt; show ((c.val + 3 * j) % 4 + j) % 4 = c.val; change c.val < 4 at this; omega)

/-- Token `i` at the device whose cell it belongs to, and at the device `j` before that pays it. -/
def tokAt (c : Dev nD) (i : Fin 21) : sProp 𝕄 := dutyTok EB (kc c (tk i).2.1) (tk i).2.2.1 (tk i).2.2.2

theorem dealt : (bigSep Finset.univ fun c : Dev nD => bigSep Finset.univ fun i : Fin 21 => (tokAt c i : sProp 𝕄))
    = bigSep Finset.univ fun c : Dev nD => bigSep Finset.univ fun i : Fin 21 => tokAt (rot (tk i).1 c) i := by
  rw [← bigSep_univ_prod (fun p : Dev nD × Fin 21 => (tokAt p.1 p.2 : sProp 𝕄)),
    ← bigSep_univ_prod (fun p : Dev nD × Fin 21 => (tokAt (rot (tk p.2).1 p.1) p.2 : sProp 𝕄))]
  exact bigSep_univ_equiv ⟨fun p => (turn (tk p.2).1 p.1, p.2), fun p => ((turn (tk p.2).1).symm p.1, p.2),
    fun p => Prod.ext ((turn (tk p.2).1).left_inv p.1) rfl, fun p => Prod.ext ((turn (tk p.2).1).right_inv p.1) rfl⟩ _

theorem toks_of (c : Dev nD) : (bigSep Finset.univ fun i : Fin 21 => (tokAt (rot (tk i).1 c) i : sProp 𝕄)) ⊢ toks c := by
  rw [bigSep_eq_bigSepL_of_eq [0, 1, 2, 3, 4, 5, 6, 7, 8, 9, 10, 11, 12, 13, 14, 15, 16, 17, 18, 19, 20] (by decide) (by decide)]
  show (iprop(dutyTok EB (kc (rot 1 c) 0) 0 2 ∗ dutyTok EB (kc (rot 2 c) 0) 0 1 ∗ dutyTok EB (kc (rot 3 c) 0) 0 0 ∗ dutyTok EB (kc (rot 0 c) 1) 0 0 ∗ dutyTok EB (kc (rot 0 c) 2) 0 0 ∗ dutyTok EB (kc (rot 0 c) 3) 0 0 ∗ dutyTok EB (kc (rot 0 c) 7) 0 0 ∗ dutyTok EB (kc (rot 0 c) 8) 0 0 ∗ dutyTok EB (kc (rot 0 c) 9) 0 0 ∗ dutyTok EB (kc (rot 0 c) 13) 0 0 ∗ dutyTok EB (kc (rot 0 c) 14) 0 0 ∗ dutyTok EB (kc (rot 0 c) 13) 1 0 ∗ dutyTok EB (kc (rot 1 c) 4) 0 0 ∗ dutyTok EB (kc (rot 1 c) 5) 0 0 ∗ dutyTok EB (kc (rot 1 c) 6) 0 0 ∗ dutyTok EB (kc (rot 1 c) 10) 0 0 ∗ dutyTok EB (kc (rot 1 c) 11) 0 0 ∗ dutyTok EB (kc (rot 1 c) 12) 0 0 ∗ dutyTok EB (kc (rot 3 c) 15) 0 0 ∗ dutyTok EB (kc (rot 2 c) 16) 0 0 ∗ dutyTok EB (kc (rot 1 c) 17) 0 0) : sProp 𝕄) ⊢ toks c
  rw [rot_zero]
  exact BIBase.Entails.rfl

theorem posns_of (c : Dev nD) : (bigSep Finset.univ fun k : Fin 18 => (atPos EB (kc c k) 0 ∅ 0 : sProp 𝕄)) ⊢ posns c := by
  rw [bigSep_eq_bigSepL_of_eq [0, 1, 2, 3, 4, 5, 6, 7, 8, 9, 10, 11, 12, 13, 14, 15, 16, 17] (by decide) (by decide)]
  exact BIBase.Entails.rfl

/-! ### The ghost state at launch -/

def kcell (p : Dev nD × Fin 18) : GSem nD τ sig := kc p.1 p.2
theorem kcell_inj : Function.Injective kcell := fun a b h =>
  Prod.ext (congrArg (fun g : GSem nD τ sig => g.1.1) h) (ksem_injective (congrArg Prod.snd h))
def ringCells : Finset (GSem nD τ sig) := Finset.univ.map ⟨kcell, kcell_inj⟩

def tokOf (p : Dev nD × Fin 21) : GSem nD τ sig × ℕ × Fin 3 := (kc p.1 (tk p.2).2.1, (tk p.2).2.2.1, (tk p.2).2.2.2)
theorem tk_inj : Function.Injective fun i => (tk i).2 := by decide
theorem tokOf_inj : Function.Injective tokOf := fun a b h => by
  have h1 : kc a.1 (tk a.2).2.1 = kc b.1 (tk b.2).2.1 := congrArg Prod.fst h
  exact Prod.ext (congrArg (fun g : GSem nD τ sig => g.1.1) h1)
    (tk_inj (Prod.ext (ksem_injective (congrArg Prod.snd h1)) (congrArg (fun x : GSem nD τ sig × ℕ × Fin 3 => x.2) h : (tk a.2).2.2 = (tk b.2).2.2)))
def ringToks : Finset (GSem nD τ sig × ℕ × Fin 3) := Finset.univ.map ⟨tokOf, tokOf_inj⟩

def u₀ : UU :=
  (Rounds.initOf (Pipeline.cells cfgs cellOf_inj) (Pipeline.launchToks cfgs cellOf_inj), (Rounds.initOf ringCells ringToks, 1))

/-- What the launch deals a device: its cells at their starts, its positions there, its cells' tokens. -/
def G (c : Dev nD) : sProp 𝕄 :=
  iprop((bigSep Finset.univ fun k : Fin 18 => roundState EB (ringRd m) (kc c k) 0)
    ∗ (bigSep Finset.univ fun k : Fin 18 => atPos EB (kc c k) 0 ∅ 0) ∗ (bigSep Finset.univ fun k : Fin 18 => reached EB (kc c k) 0)
    ∗ bigSep Finset.univ fun i : Fin 21 => tokAt c i)

theorem over_cells (Φ : GSem nD τ sig → sProp 𝕄) :
    bigSep ringCells Φ = bigSep Finset.univ fun c : Dev nD => bigSep Finset.univ fun k : Fin 18 => Φ (kc c k) := by
  unfold ringCells; rw [bigSep_map, bigSep_univ_prod]; rfl
theorem over_toks : bigSep ringToks (fun x => (dutyTok EB x.1 x.2.1 x.2.2 : sProp 𝕄))
    = bigSep Finset.univ fun c : Dev nD => bigSep Finset.univ fun i : Fin 21 => tokAt c i := by
  unfold ringToks; rw [bigSep_map, bigSep_univ_prod]; rfl

theorem fund_ring : (BI.own (EB (Rounds.initOf ringCells ringToks)) : sProp 𝕄) ⊢ |==> bigSep Finset.univ (G m) := by
  iintro H
  imod (Rounds.fund EB (ringRd m) ringCells ringToks) $$ H with ⟨Hs, Hr, Ha, Ht⟩
  imodintro
  ihave Hs := (BIBase.Entails.of_eq (over_cells fun g => roundState EB (ringRd m) g 0)) $$ Hs
  ihave Ha := (BIBase.Entails.of_eq (over_cells fun g => atPos EB g 0 ∅ 0)) $$ Ha
  ihave Hr := (BIBase.Entails.of_eq (over_cells fun g => reached EB g 0)) $$ Hr
  ihave Ht := (BIBase.Entails.of_eq over_toks) $$ Ht
  unfold G; simp only [bigSep_sep']
  isplitl [Hs]; · iexact Hs
  isplitl [Ha]; · iexact Ha
  isplitl [Hr]; · iexact Hr
  iexact Ht

/-! ### The semaphores -/

/-- The kernel's own semaphores: the protocol's, and the two of the weight fetches. -/
abbrev osem : Fin 19 → SemLoc sig := fun i => .dma (⟨i.val + 3, by show i.val + 3 < 22; omega⟩ : Fin 22)
theorem ownSemFacts : Pipeline.OwnSemFacts cfg0.spec osem := by decide

/-- The fetch semaphores at zero. -/
def fetchSems (c : Dev nD) : sProp 𝕄 :=
  iprop(semVal ((c : Thread nD τ), SemLoc.dma (sem2 cc0_scratch12 0 inb_S2_S1_0)) 0 ∗ semVal ((c : Thread nD τ), SemLoc.dma (sem2 cc0_scratch12 1 inb_S2_S1_1)) 0)

theorem ownSems_eq (c : Dev nD) :
    (Pipeline.ownSems0 (Ix := Unit) (Name := ℕ) (U := UU) (Lvl := ℕ) (Val := Elt F) (τ := τ) osem c : sProp 𝕄)
      = iprop(semVal (kc c 1) 0 ∗ semVal (kc c 2) 0 ∗ semVal (kc c 3) 0 ∗ semVal (kc c 4) 0 ∗ semVal (kc c 5) 0 ∗ semVal (kc c 6) 0 ∗ semVal (kc c 7) 0 ∗ semVal (kc c 8) 0 ∗ semVal (kc c 9) 0 ∗ semVal (kc c 10) 0 ∗ semVal (kc c 11) 0 ∗ semVal (kc c 12) 0 ∗ semVal (kc c 13) 0 ∗ semVal (kc c 14) 0 ∗ semVal (kc c 15) 0 ∗ semVal (kc c 16) 0 ∗ semVal (kc c 17) 0 ∗ fetchSems c) := by
  rw [Pipeline.ownSems0_eq_of_list c osem [0, 1, 2, 3, 4, 5, 6, 7, 8, 9, 10, 11, 12, 13, 14, 15, 16, 17, 18] (by decide) (by decide)]; rfl
theorem freeSems_eq (c : Dev nD) : (unscopedSems0 c : sProp 𝕄) = semVal (kc c 0) 0 := by
  unfold unscopedSems0; rw [bigSep_eq_bigSepL_of_eq [SemLoc.reg barS] (by decide) (by decide)]; rfl
theorem closed_eq (c : Dev nD) : (closed c : sProp 𝕄) = bigSep Finset.univ fun k : Fin 18 => semVal (kc c k) 0 := by
  rw [bigSep_eq_bigSepL_of_eq [0, 1, 2, 3, 4, 5, 6, 7, 8, 9, 10, 11, 12, 13, 14, 15, 16, 17] (by decide) (by decide)]; rfl

theorem sems_in (c : Dev nD) :
    (iprop(Pipeline.ownSems0 (Ix := Unit) (Name := ℕ) (U := UU) (Lvl := ℕ) (Val := Elt F) (τ := τ) osem c ∗ unscopedSems0 c) : sProp 𝕄)
      ⊢ iprop(closed c ∗ fetchSems c) := by
  rw [ownSems_eq, freeSems_eq]; unfold closed
  iintro ⟨⟨H1, H2, H3, H4, H5, H6, H7, H8, H9, H10, H11, H12, H13, H14, H15, H16, H17, HF⟩, H0⟩
  isplitr [HF]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iexact HF
theorem sems_out (c : Dev nD) :
    (iprop(closed c ∗ fetchSems c) : sProp 𝕄) ⊢ iprop(unscopedSems0 c
      ∗ Pipeline.ownSems0 (Ix := Unit) (Name := ℕ) (U := UU) (Lvl := ℕ) (Val := Elt F) (τ := τ) osem c) := by
  rw [ownSems_eq, freeSems_eq]; unfold closed
  iintro ⟨⟨H0, H1, H2, H3, H4, H5, H6, H7, H8, H9, H10, H11, H12, H13, H14, H15, H16, H17⟩, HF⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact HF

/-! ### What every device starts from -/

/-- The invariants and the marks, at the names `K`. -/
def laws (K : Dev nD × Fin 18 → ℕ) : sProp 𝕄 :=
  iprop(bigSep Finset.univ (fun p : Dev nD × Fin 18 => cellInv EB (ringRd m) (K p) (kc p.1 p.2))
    ∗ bigSep Finset.univ (fun p : Dev nD × Fin 18 => reached EB (kc p.1 p.2) 0))
instance laws_persistent (K : Dev nD × Fin 18 → ℕ) : BI.Persistent (laws m K : sProp 𝕄) := by unfold laws; infer_instance

/-- A device's own part. -/
def mine (c : Dev nD) : sProp 𝕄 := iprop(posns c ∗ toks c ∗ fetchSems c)
def G' (c : Dev nD) : sProp 𝕄 := iprop(∃ K, laws m K ∗ mine c)

theorem core_alloc (c : Dev nD) :
    (iprop(Pipeline.ownSems0 (Ix := Unit) (Name := ℕ) (U := UU) (Lvl := ℕ) (Val := Elt F) (τ := τ) osem c ∗ unscopedSems0 c ∗ G m c) : sProp 𝕄)
      ⊢ |={Set.univ}=> iprop((bigSep Finset.univ fun k : Fin 18 => iprop(∃ κ : ℕ, cellInv EB (ringRd m) κ (kc c k)))
          ∗ (bigSep Finset.univ fun k : Fin 18 => reached EB (kc c k) 0)
          ∗ (bigSep Finset.univ fun i : Fin 21 => tokAt c i) ∗ posns c ∗ fetchSems c) := by
  have hI : (iprop((bigSep Finset.univ fun k : Fin 18 => semVal (kc c k) 0) ∗ bigSep Finset.univ fun k : Fin 18 => roundState EB (ringRd m) (kc c k) 0) : sProp 𝕄)
      ⊢ |={Set.univ}=> bigSep Finset.univ fun k : Fin 18 => iprop(∃ κ : ℕ, cellInv EB (ringRd m) κ (kc c k)) := by
    rw [← bigSep_sep']
    exact (bigSep_mono fun k _ => (Rounds.body_intro EB (ringRd m) (kc c k)).trans inv_alloc).trans (bigSep_fupd _ _)
  unfold G
  iintro ⟨Ho, Hu, Hs, Ha, Hr, Ht⟩
  ihave H := (sems_in c) $$ [Ho Hu]
  · isplitl [Ho] <;> iassumption
  icases H with ⟨Hc, Hf⟩
  ihave Hc := (BIBase.Entails.of_eq (closed_eq c)) $$ Hc
  ihave Hp := (posns_of c) $$ Ha
  imod hI $$ [Hc Hs] with HI
  · isplitl [Hc] <;> iassumption
  imodintro
  isplitl [HI]; · iexact HI
  isplitl [Hr]; · iexact Hr
  isplitl [Ht]; · iexact Ht
  isplitl [Hp] <;> iassumption

theorem with_laws {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 18 => iprop(∃ κ : ℕ, cellInv EB (ringRd m) κ (kc c k)))
          ∗ (bigSep Finset.univ fun k : Fin 18 => reached EB (kc c k) 0)
          ∗ (bigSep Finset.univ fun i : Fin 21 => tokAt c i) ∗ posns c ∗ fetchSems c) : sProp 𝕄)
      ⊢ bigSep Finset.univ (G' m) := by
  have hm : (iprop((bigSep Finset.univ fun c : Dev nD => bigSep Finset.univ fun i : Fin 21 => tokAt c i)
      ∗ (bigSep Finset.univ fun c : Dev nD => posns c) ∗ (bigSep Finset.univ fun c : Dev nD => fetchSems c)) : sProp 𝕄)
      ⊢ bigSep Finset.univ fun c : Dev nD => mine c := by
    unfold mine
    simp only [bigSep_sep']
    iintro ⟨Ht, Hp, Hf⟩
    isplitl [Hp]; · iexact Hp
    isplitl [Ht]
    · ihave Ht := (BIBase.Entails.of_eq dealt) $$ Ht
      have ht : (bigSep Finset.univ fun c : Dev nD => bigSep Finset.univ fun i : Fin 21 => (tokAt (rot (tk i).1 c) i : sProp 𝕄))
          ⊢ bigSep Finset.univ fun c : Dev nD => toks c := bigSep_mono fun c _ => toks_of c
      iapply ht; iexact Ht
    iexact Hf
  rw [bigSep_sep', bigSep_sep', bigSep_sep', bigSep_sep',
    ← bigSep_univ_prod (fun p : Dev nD × Fin 18 => (iprop(∃ κ : ℕ, cellInv EB (ringRd m) κ (kc p.1 p.2)) : sProp 𝕄)),
    ← bigSep_univ_prod (fun p : Dev nD × Fin 18 => (reached EB (kc p.1 p.2) 0 : sProp 𝕄))]
  iintro ⟨HI, #HR, Ht, Hp, Hf⟩
  ihave HK := (BI.bigSep_exists_pi Finset.univ (fun (p : Dev nD × Fin 18) (κ : ℕ) => (cellInv EB (ringRd m) κ (kc p.1 p.2) : sProp 𝕄))) $$ HI
  icases HK with ⟨%K, #HI⟩
  ihave Hm := hm $$ [Ht Hp Hf]
  · isplitl [Ht]; · iexact Ht
    isplitl [Hp] <;> iassumption
  have hg : ∀ c ∈ (Finset.univ : Finset (Dev nD)), (iprop(laws m K ∗ mine c) : sProp 𝕄) ⊢ G' m c := fun c _ => by
    unfold G'; iintro H; iexists K; iexact H
  iapply (with_laws (R := laws m K) hg)
  isplitr
  · unfold laws; isplitl; · iexact HI
    iexact HR
  · iexact Hm

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The credit at launch -/

/-- The credit a device gets for the dues `l` that every device owes. -/
def due (c : Dev nD) : List (ℕ × Fin 18) → sProp 𝕄
  | [] => iprop(emp)
  | p :: l => iprop(due c l ∗ cred (tallyAt (kc c p.2) () (amt p.2)))

theorem launch_due (c : Dev nD) : ∀ l : List (ℕ × Fin 18), (Pipeline.launchCred (fun d => owe d l) c : sProp 𝕄) ⊢ due c l
  | [] => BIBase.Entails.of_eq (Pipeline.launchCred_zero c)
  | p :: l => by
    show (Pipeline.launchCred (fun d => owe d l + tallyAt (kc (rot p.1 d) p.2) () (amt p.2)) c : sProp 𝕄) ⊢ _
    rw [Pipeline.launchCred_add (fun d => owe d l)]
    exact BI.sep_mono (launch_due c l) (Pipeline.launchCred_tallyAt (ksem p.2) (rot p.1) (rot (3 * p.1)) (turn p.1).right_inv (turn p.1).left_inv () (amt p.2) c)

theorem creds_of (c : Dev nD) : (Pipeline.launchCred (fun d => owe d dues) c : sProp 𝕄) ⊢ creds c := by
  refine BIBase.Entails.trans (launch_due c dues) ?_
  have h3 : (iprop(cred (tallyAt (kc c 0) () (amt 0)) ∗ cred (tallyAt (kc c 0) () (amt 0)) ∗ cred (tallyAt (kc c 0) () (amt 0))) : sProp 𝕄)
      ⊢ cred (tallyAt (kc c 0) () 3) := by
    have e : tallyAt (kc c 0) () (amt 0) + (tallyAt (kc c 0) () (amt 0) + tallyAt (kc c 0) () (amt 0)) = (tallyAt (kc c 0) () 3 : CellTallies nD τ sig Unit) := by
      rw [tallyAt_add, tallyAt_add]; rfl
    rw [← e]
    exact (sep_mono_right (cred_add _ _).2).trans (cred_add _ _).2
  unfold creds dues due due due due due due due due due due due due due
  iintro ⟨⟨⟨⟨⟨⟨⟨⟨⟨⟨⟨⟨-, H17⟩, H16⟩, H12⟩, H6⟩, H15⟩, H11⟩, H5⟩, H10⟩, H4⟩, HB3⟩, HB2⟩, HB1⟩
  isplitl [HB1 HB2 HB3]
  · iapply h3
    isplitl [HB1]; · iexact HB1
    isplitl [HB2] <;> iassumption
  isplitl [H4]; · iexact H4
  isplitl [H10]; · iexact H10
  isplitl [H5]; · iexact H5
  isplitl [H11]; · iexact H11
  isplitl [H6]; · iexact H6
  isplitl [H12]; · iexact H12
  isplitl [H15]; · iexact H15
  isplitl [H16]; · iexact H16
  iexact H17

/-! ### The pipeline's data -/

/-- The weights, as they are from start to end. -/
def weights (c : Dev nD) : sProp 𝕄 :=
  iprop((((c : Thread nD τ).loc main_arg2) ↦{fullShare} m ((c : Thread nD τ).loc main_arg2))
    ∗ (((c : Thread nD τ).loc main_arg3) ↦{fullShare} m ((c : Thread nD τ).loc main_arg3)))

/-- Before the one point, and after it. -/
def Φ₀ (c : Dev nD) : sProp 𝕄 := iprop(∃ K, known m K ∗ posns c ∗ toks c ∗ creds c ∗ gear m c ∗ slots c)
def Φ₁ (c : Dev nD) : sProp 𝕄 := iprop(closed c ∗ gear m c ∗ slots c)

def dats (_ : Fin 1) (c : Dev nD) : Dat τ (Elt F) Unit ℕ UU ℕ cfg0 c where
  A w := m ((cfg0.win w).arr.view.loc (c : Thread nD τ))
  after w _ := match w with
    | ⟨0, _⟩ => xb m c
    | ⟨1, _⟩ => ab m c
    | ⟨2, _⟩ => outV m c
  Φ t := match t with
    | ⟨0, _⟩ => Φ₀ m c
    | ⟨_ + 1, _⟩ => Φ₁ m c
  q _ := fullShare
  owed t := match t with
    | ⟨0, _⟩ => owe c dues
    | ⟨_ + 1, _⟩ => 0

def bodyPre (c : Dev nD) : sProp 𝕄 :=
  iprop(Φ₀ m c ∗ (dats m 0 c).owesAt () t0_0.castSucc
    ∗ (∃ d, owns (c : Thread nD τ) xM fullShare ((dats m 0 c).before (0 : Fin 3) t0_0 d))
    ∗ (∃ d, owns (c : Thread nD τ) aM fullShare ((dats m 0 c).before (1 : Fin 3) t0_0 d))
    ∗ (∃ d, owns (c : Thread nD τ) oM fullShare ((dats m 0 c).before (2 : Fin 3) t0_0 d)))
def bodyPost (c : Dev nD) : sProp 𝕄 :=
  iprop(Φ₁ m c ∗ (dats m 0 c).owesAt () t0_0.succ
    ∗ owns (c : Thread nD τ) xM fullShare (xb m c) ∗ owns (c : Thread nD τ) aM fullShare (ab m c) ∗ owns (c : Thread nD τ) oM fullShare (outV m c))

theorem before_x (c : Dev nD) (d) : (dats m 0 c).before (0 : Fin 3) t0_0 d = xb m c := by
  unfold Dat.before; rw [if_pos (fetch0_0 t0_0)]; rfl
theorem before_a (c : Dev nD) (d) : (dats m 0 c).before (1 : Fin 3) t0_0 d = ab m c := by
  unfold Dat.before; rw [if_pos (fetch0_1 t0_0)]; rfl

theorem body_start (c : Dev nD) : (bodyPre m c : sProp 𝕄) ⊢ iprop(∃ K, pre m K c) := by
  unfold bodyPre Φ₀ pre Dat.owesAt Pipeline.owesWithin ow
  rw [show (dats m 0 c).owed t0_0.castSucc = owe c dues from rfl]
  simp only [before_x, before_a]
  iintro ⟨⟨%K, #HK, Hp, Ht, Hc, Hg, Hs⟩, ⟨%W, -, HO⟩, ⟨%d0, Hx⟩, ⟨%d1, Ha⟩, ⟨%d2, Ho⟩⟩
  iexists K
  isplitr; · iexact HK
  isplitl [Hp]; · iexact Hp
  isplitl [Ht]; · iexact Ht
  isplitl [Hc]; · iexact Hc
  isplitl [Hg]; · iexact Hg
  isplitl [Hs]; · iexact Hs
  isplitl [HO]; · iexists W; iexact HO
  isplitl [Hx]; · iexact Hx
  isplitl [Ha]; · iexact Ha
  iexists _; iexact Ho

theorem body_end (c : Dev nD) : (post m c : sProp 𝕄) ⊢ bodyPost m c := by
  unfold bodyPost Φ₁ post Dat.owesAt Pipeline.owesWithin ow
  rw [show (dats m 0 c).owed t0_0.succ = 0 from rfl]
  iintro ⟨Hc, Hg, Hs, ⟨%W, HO⟩, Hx, Ha, Ho⟩
  isplitl [Hc Hg Hs]
  · isplitl [Hc]; · iexact Hc
    isplitl [Hg] <;> iassumption
  isplitl [HO]
  · iexists W
    isplitr; · ipureintro; exact fun _ _ => Or.inl trivial
    iexact HO
  isplitl [Hx]; · iexact Hx
  isplitl [Ha] <;> iassumption

set_option maxRecDepth 40000 in
theorem body_obligation (c : Dev nD) : BodyObligation (dats (F := F) m 0 c) (defs₀ (F := F)) 𝒱₀ () Set.univ := fun t => by
  rw [fin_N0 t]
  rw [bigSep_W0, bigSep_W0]
  show (bodyPre m c : sProp 𝕄) ⊢ runs c (cc0_body (F := F) xM (Memref.isWhole_whole _) aM (Memref.isWhole_whole _) W1M (Memref.isWhole_whole _)
      W2M (Memref.isWhole_whole _) oM (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) u1M (Memref.isWhole_whole _) u2M (Memref.isWhole_whole _)
      cc0_scratch6 cc0_scratch7 cc0_scratch8 cc0_scratch9 cc0_scratch10 cc0_scratch11 cc0_scratch12) (fun _ => bodyPost m c)
  rw [body_kern]
  refine BIBase.Entails.trans (body_start m c) ?_
  iintro ⟨%K, H⟩
  iapply (wp_mono _ _ _ fun _ => body_end m c)
  iapply (run_kern m K c); iexact H

/-! ### The launch theorem's conditions -/

theorem share_eq (c : Dev nD) (w : Fin cfg0.W) : (dats m 0 c).share w = fullShare := by unfold Dat.share; split <;> rfl

theorem waits (c : Dev nD) : (levAts L lv : sProp 𝕄) ⊢ Pipeline.cellsWaits cfgs (dats m) () 0 c :=
  Pipeline.cellsWaits_intro cfgs (dats m) () 0 c fun w s t => by
    have hz : lv ((c : Thread nD τ), .dma ((cfg0.win w).sem s)) () = 0 := by fin_cases w <;> fin_cases s <;> rfl
    rcases t with ⟨_ | _, ht⟩
    · exact mayWait_owe c (l := dues) fun p hp => by rw [hz]; revert p; decide
    · exact mayWait_owe c (l := []) fun p hp => absurd hp (List.not_mem_nil)

def start (c : Dev nD) : sProp 𝕄 := iprop(G' m c ∗ creds c ∗ levAts L lv ∗ weights m c)

theorem start_intro (c : Dev nD) :
    iprop(Pipeline.unscopedRestP Pipeline.Prefetch.none cfg0.spec c (fun b => m ((c : Thread nD τ).loc b)) ∗ levAts L lv
        ∗ Pipeline.launchCred (fun d => owe d dues) c ∗ prngReg c (ρ c) ∗ G' m c)
      ⊢ |={Set.univ}=> iprop(start m c ∗ emp) := by
  rw [Pipeline.unscopedRestP_none, unscopedRest0_eq]
  iintro ⟨Hw, Hl, Hc, -, HG⟩
  ihave Hc := (creds_of c) $$ Hc
  imodintro
  unfold start weights
  isplitl
  · isplitl [HG]; · iexact HG
    isplitl [Hc]; · iexact Hc
    isplitl [Hl]; · iexact Hl
    iexact Hw
  · iempintro

/-- A whole buffer as a reference to it. -/
theorem any_some (c : Dev nD) (b : Ref sig .tc) (X : Buf (Elt F) ((c : Thread nD τ).loc b)) :
    ((((c : Thread nD τ).loc b) ↦{fullShare} X) : sProp 𝕄) = (((Memref.whole b).view.loc (c : Thread nD τ)) ↦[(Memref.whole b).view.set]{fullShare} X) := by
  rw [View.set_whole]
theorem own_any {s : Shape} {e : EltTy} (c : Dev nD) (M : Memref sig .tc .vmem s e) (X : Buf (Elt F) (M.view.loc (c : Thread nD τ))) :
    (((M.view.loc (c : Thread nD τ)) ↦[M.view.set]{fullShare} X) : sProp 𝕄) ⊢ some' c M := by
  unfold some' owns
  iintro H
  iexists _; iexists X
  isplitr; · ipureintro; rfl
  iexact H
theorem any_own {s : Shape} {e : EltTy} (c : Dev nD) (M : Memref sig .tc .vmem s e) :
    (some' c M : sProp 𝕄) ⊢ iprop(∃ X, (M.view.loc (c : Thread nD τ)) ↦[M.view.set]{fullShare} X) := by
  unfold some' owns
  iintro ⟨%Y, %X, -, H⟩
  iexists X; iexact H

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold start G' laws mine weights Φ₀ known gear slots fetchSems
  rw [any_some c main_arg2, any_some c main_arg3]
  iintro ⟨⟨⟨%K, ⟨HI, HR⟩, Hp, Ht, Hf1, Hf2⟩, Hc, Hl, Hw1, Hw2⟩, -, Hb0, Hb1, Hb2, Hb3, ⟨%U, HU⟩, ⟨%V, HV⟩⟩
  iexists K
  isplitl [HI HR Hl]
  · isplitl [HI]; · iexact HI
    isplitl [HR] <;> iassumption
  isplitl [Hp]; · iexact Hp
  isplitl [Ht]; · iexact Ht
  isplitl [Hc]; · iexact Hc
  isplitl [HU HV Hw1 Hw2 Hf1 Hf2]
  · isplitl [HU]
    · ihave HU := (BIBase.Entails.of_eq (any_some c cc0_scratch4 U)) $$ HU
      iapply (own_any c u1M U); iexact HU
    isplitl [HV]
    · ihave HV := (BIBase.Entails.of_eq (any_some c cc0_scratch5 V)) $$ HV
      iapply (own_any c u2M V); iexact HV
    isplitl [Hw1]; · iexact Hw1
    isplitl [Hw2]; · iexact Hw2
    isplitl [Hf1] <;> iassumption
  isplitl [Hb0]; · iexact Hb0
  isplitl [Hb1]; · iexact Hb1
  isplitl [Hb2] <;> iassumption

/-- What the exit passes on: the barrier semaphore and the weights. -/
def kept (c : Dev nD) : sProp 𝕄 := iprop(unscopedSems0 c ∗ weights m c)

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq]
  unfold Φ₁ kept gear slots weights
  rw [any_some c main_arg2, any_some c main_arg3]
  iintro ⟨Hc, ⟨HU, HV, Hw1, Hw2, Hf1, Hf2⟩, Hb0, Hb1, Hb2, Hb3⟩
  ihave Hs := (sems_out c) $$ [Hc Hf1 Hf2]
  · isplitl [Hc]; · iexact Hc
    unfold fetchSems; isplitl [Hf1] <;> iassumption
  icases Hs with ⟨Hu, Ho⟩
  ihave HU := (any_own c u1M) $$ HU
  ihave HV := (any_own c u2M) $$ HV
  icases HU with ⟨%U, HU⟩
  icases HV with ⟨%V, HV⟩
  isplitl [Hu Hw1 Hw2]
  · isplitl [Hu]; · iexact Hu
    isplitl [Hw1] <;> iassumption
  isplitl [Ho]; · iexact Ho
  isplitl [Hb0]; · iexact Hb0
  isplitl [Hb1]; · iexact Hb1
  isplitl [Hb2]; · iexact Hb2
  isplitl [Hb3]; · iexact Hb3
  isplitl [HU]
  · iexists U; rw [any_some c cc0_scratch4 U]; iexact HU
  · iexists V; rw [any_some c cc0_scratch5 V]; iexact HV

/-- A whole buffer held is what the memory holds. -/
theorem read_one (c : Dev nD) (b : Ref sig .tc) (X : Buf (Elt F) ((c : Thread nD τ).loc b)) (s' : Phys nD τ sig (Elt F)) :
    (iprop((((c : Thread nD τ).loc b) ↦{fullShare} X) ∗ SI s') : sProp 𝕄) ⊢ iprop(⌜s'.mem.mem ((c : Thread nD τ).loc b) = X⌝ ∗ SI s') := by
  have h := pointsTo_read_all (Ix := Unit) (Name := ℕ) (U := UU) (Lvl := ℕ) ({()} : Finset Unit) (fun _ => (c : Thread nD τ).loc b) (fun _ => X) s'
  rw [bigSep_singleton] at h
  refine BIBase.Entails.trans h ?_
  iintro ⟨%h', H⟩
  isplitr; · ipureintro; exact h' () (Finset.mem_singleton_self _)
  iexact H

/-! ### The run -/

/-- What the run leaves: each window's array as computed, the weights unchanged. -/
def Done (s : MemSt nD τ sig (Elt F)) : Prop := ∀ c : Dev nD,
  (∀ w : Fin cfg0.W, s.mem ((cfg0.win w).arr.view.loc (c : Thread nD τ)) = (dats m 0 c).arrAt w cfg0.N)
    ∧ s.mem ((c : Thread nD τ).loc main_arg2) = m ((c : Thread nD τ).loc main_arg2)
    ∧ s.mem ((c : Thread nD τ).loc main_arg3) = m ((c : Thread nD τ).loc main_arg3)

set_option maxRecDepth 40000 in
/-- From any memory with zero counters, every fair execution on the four devices ends, with the computed contents, the
    weights unchanged and the counters zero again. -/
theorem run_main : θ_run defs (onTc (τ := τ) (main (F := F))) ⟨m, fun _ => 0, ρ⟩ (fun r => Done m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owe d dues) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      have h2 : (BI.own (embR (nD := nD) (τ := τ) (sig := sig) (Ix := Unit) (Val := Elt F) (Name := ℕ) (Lvl := ℕ) (A := UR sig nD τ) (Rounds.initOf ringCells ringToks, (1 : Counters))) : sProp 𝕄)
          ⊢ BI.own (EB (Rounds.initOf ringCells ringToks)) := by
        refine BIBase.Entails.trans (own_pair_emb _ _ _) ?_
        have h3 : (BI.own (((Emb.inl : Emb UB (UB × Counters)).trans embR) (Rounds.initOf ringCells ringToks)) : sProp 𝕄)
            ⊢ BI.own (EB (Rounds.initOf ringCells ringToks)) := BIBase.Entails.of_eq rfl
        iintro ⟨H, -⟩
        iapply h3; iexact H
      ihave HB := h2 $$ HX
      imod (fund_ring m) $$ HB with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => by
      unfold kept weights
      iintro ⟨⟨Hu, Hw1, Hw2⟩, -, HSI⟩
      imod (Pipeline.unscopedSems0_read (X := unscopedSems0 c) (c := c) fupd_intro s') $$ [Hu HSI] with ⟨%h1, HSI⟩
      · isplitl [Hu] <;> iassumption
      ihave H := (read_one c main_arg2 _ s') $$ [Hw1 HSI]
      · isplitl [Hw1] <;> iassumption
      icases H with ⟨%h2, HSI⟩
      ihave H := (read_one c main_arg3 _ s') $$ [Hw2 HSI]
      · isplitl [Hw2] <;> iassumption
      icases H with ⟨%h3, HSI⟩
      imodintro
      isplitr; · ipureintro; exact ⟨h1, h2, h3⟩
      iexact HSI)
    (hQ := fun _ h hs => ⟨fun c => ⟨fun w => (h c).1 w, (h c).2.2.2⟩, sem_eq_zero hs fun c => (h c).2.2.1⟩)

theorem done_arg0 {s : MemSt nD τ sig (Elt F)} (h : Done m s) (c : Dev nD) : s.mem ((c : Thread nD τ).loc main_arg0) = m ((c : Thread nD τ).loc main_arg0) :=
  ((h c).1 (0 : Fin 3)).trans ((dats m 0 c).arrAt_in (0 : Fin 3) rfl _)
theorem done_arg1 {s : MemSt nD τ sig (Elt F)} (h : Done m s) (c : Dev nD) : s.mem ((c : Thread nD τ).loc main_arg1) = m ((c : Thread nD τ).loc main_arg1) :=
  ((h c).1 (1 : Fin 3)).trans ((dats m 0 c).arrAt_in (1 : Fin 3) rfl _)
/-- The result, read as the pipeline wrote it. -/
theorem done_out {s : MemSt nD τ sig (Elt F)} (h : Done m s) (c : Dev nD) :
    (win0_2.blk (0 : Fin 1)).view.read (Elt F) (s.mem ((c : Thread nD τ).loc main_v1)) = outV m c := by
  rw [show s.mem ((c : Thread nD τ).loc main_v1) = (dats m 0 c).arrAt (2 : Fin 3) cfg0.N from (h c).1 (2 : Fin 3),
    show cfg0.N = ((0 : Fin 1) : Fin cfg0.N).val + 1 from rfl, (dats m 0 c).arrAt_succ (2 : Fin 3) (0 : Fin 1),
    show (cfg0.win (2 : Fin 3)).flush (0 : Fin 1) = true from flush0_2 _, if_pos rfl]
  exact View.read_write_univ _ _

end Cert.KernelIdeal.Moe

end
-- ==== Proof.Value.lean ====
/- What a pass computes over the extended reals: at each row and column of the accumulator, the feed-forward
   product of each of the device's two experts, kept where the row's token is assigned to that expert. -/
module

public import proofs.«01_k».proof.Proof.PassI
public import Idealize.ShloMosaic.Lib.ValueIdx
public import Idealize.ShloMosaic.Lib.ValueLayout
public import Idealize.ShloMosaic.Lib.MatmulPlain
public import Idealize.ShloMosaic.Lib.Pointwise.Reshape

@[expose] public section

noncomputable section

namespace Cert.KernelIdeal.Moe

open Cert.KernelIdeal Cert.KernelIdeal.Gen
open Idealize.ShloMosaic hiding ix2 ix3
open Idealize.ShloMosaic.ValueIdx
open scoped BigOperators

/-! ### Feed-forward products -/

/-- One column of `max(x · W1, 0) · W2`: `x` a row, `w1` the first weight, `w2` the column of the second. -/
def ffn {n : ℕ} (x : Fin 1024 → EReal) (w1 : Fin 1024 → Fin n → EReal) (w2 : Fin n → EReal) : EReal :=
  ∑ k : Fin n, max (∑ j : Fin 1024, x j * w1 j k) 0 * w2 k

/-- A row cleared contributes nothing. -/
theorem ffn_zero {n : ℕ} (w1 : Fin 1024 → Fin n → EReal) (w2 : Fin n → EReal) : ffn (fun _ => 0) w1 w2 = 0 := by
  unfold ffn
  simp

/-- A mask as the kernel multiplies by it. -/
def mk (v a : BitVec 32) : EReal := FloatOps.sitofp (F := Ideal) .f32 ((IntOp.cmpi .eq a v).setWidth 32)

theorem mk_eq (v : BitVec 32) : mk v v = 1 := by
  have h : (IntOp.cmpi .eq v v).setWidth 32 = 1#32 := by simp [IntOp.cmpi]
  unfold mk
  rw [h]
  show (((1#32 : BitVec 32).toInt : ℝ) : EReal) = 1
  simp

theorem mk_ne (v a : BitVec 32) (hne : a ≠ v) : mk v a = 0 := by
  have h : (IntOp.cmpi .eq a v).setWidth 32 = 0#32 := by simp [IntOp.cmpi, beq_eq_false_iff_ne.mpr hne]
  unfold mk
  rw [h]
  show (((0#32 : BitVec 32).toInt : ℝ) : EReal) = 0
  simp

/-- The product of a masked row is the row's product, or nothing. -/
theorem ffn_mask {n : ℕ} (v a : BitVec 32) (x : Fin 1024 → EReal) (w1 : Fin 1024 → Fin n → EReal) (w2 : Fin n → EReal) :
    ffn (fun j => x j * mk v a) w1 w2 = if a = v then ffn x w1 w2 else 0 := by
  split
  · next h => subst h; simp only [mk_eq, mul_one]
  · next h => simp only [mk_ne v a h, mul_zero]; exact ffn_zero w1 w2

/-- Four blocks of the hidden features are all of them. -/
theorem ffn_blocks (x : Fin 1024 → EReal) (w1 : Fin 1024 → Fin 2048 → EReal) (w2 : Fin 2048 → EReal)
    (b : Fin 4 → Fin 512 → Fin 2048) (hb : ∀ t k, (b t k).val = 512 * t.val + k.val) :
    (∑ t : Fin 4, ffn x (fun j k => w1 j (b t k)) (fun k => w2 (b t k))) = ffn x w1 w2 := by
  unfold ffn
  rw [← Fintype.sum_prod_type']
  refine Fintype.sum_equiv ((Equiv.ofBijective (fun p : Fin 4 × Fin 512 => b p.1 p.2) ⟨?_, ?_⟩)) _ _ fun p => rfl
  · rintro ⟨t, k⟩ ⟨t', k'⟩ h
    have h' := congrArg Fin.val h
    simp only [hb] at h'
    have := k.isLt; have := k'.isLt
    exact Prod.ext (Fin.ext (by simp only; omega)) (Fin.ext (by simp only; omega))
  · intro n
    have := n.isLt
    refine ⟨(⟨n.val / 512, by omega⟩, ⟨n.val % 512, by omega⟩), Fin.ext ?_⟩
    rw [hb]
    simp only
    omega

/-! ### A tile, a block, an expert, a pass -/

theorem broadcastTo_a1_ab_apply {α : Type} {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

theorem tileVal_apply (v : BitVec 32) (a : Vec Ideal S256x1 .i32) (x : Vec Ideal S256x1024 .f32) (w1 : Vec Ideal S1024x512 .f32)
    (d : Vec Ideal S256x1024 .f32) (w2 : Vec Ideal S512x1024 .f32) (p : Fin 256) (q : Fin 1024) :
    tileVal (F := Ideal) v a x w1 d w2 (ix2 p q)
      = d (ix2 p q) + ffn (fun j => x (ix2 p j) * mk v (a (ix2 p (0 : Fin 1)))) (fun j k => w1 (ix2 j k)) (fun k => w2 (ix2 k q)) := by
  unfold tileVal
  simp only [shapeCast_id]
  rw [addf_apply]
  refine congrArg (d (ix2 p q) + ·) ?_
  refine (Ideal.matmul_plain_apply (M := 256) (K := 512) (N := 1024) none _ w2 _ p q).trans ?_
  rw [show (constant S256x1024 .f32 0x00000000#32 : FVec Ideal S256x1024 .f32) (ix2 p q) = 0 from Ideal.ofBits_zero_f32, zero_add]
  refine Finset.sum_congr rfl fun k _ => congrArg (· * w2 (ix2 k q)) ?_
  refine congrArg₂ max ?_ Ideal.ofBits_zero_f32
  refine (Ideal.matmul_plain_apply (M := 256) (K := 1024) (N := 512) none _ w1 _ p k).trans ?_
  rw [show (constant S256x512 .f32 0x00000000#32 : FVec Ideal S256x512 .f32) (ix2 p k) = 0 from Ideal.ofBits_zero_f32, zero_add]
  refine Finset.sum_congr rfl fun j _ => congrArg (· * w1 (ix2 j k)) ?_
  rw [mulf_apply]
  refine congrArg (x (ix2 p j) * ·) ?_
  exact broadcastTo_a1_ab_apply (by decide) _ _ p j

section
variable (v : BitVec 32) (A : Vec Ideal S1024x1 .i32) (X : Vec Ideal S1024x1024 .f32)

/-- A row's masked elements. -/
def mrow (p : Fin 1024) : Fin 1024 → EReal := fun j => X (ix2 p j) * mk v (A (ix2 p (0 : Fin 1)))

theorem unit_idx2 {n0 n1 m0 m1 : ℕ} (o0 o1 : ℕ) (h : ∀ i, (![o0, o1] : Fin 2 → Nat) i + (⟨2, ![m0, m1]⟩ : Shape).size i ≤ (⟨2, ![n0, n1]⟩ : Shape).size i)
    (a : Fin m0) (b : Fin m1) (a' : Fin n0) (b' : Fin n1) (ha : a'.val = o0 + a.val) (hb : b'.val = o1 + b.val) :
    (Rect.unit (s := ⟨2, ![n0, n1]⟩) ![o0, o1] (⟨2, ![m0, m1]⟩ : Shape).size h).idx (ix2 a b) = ix2 a' b' := by
  funext ax
  apply Fin.ext
  match ax with
  | ⟨0, _⟩ => show o0 + 1 * a.val = a'.val; omega
  | ⟨1, _⟩ => show o1 + 1 * b.val = b'.val; omega

theorem unit_idx3 {n0 n1 n2 m0 m1 m2 : ℕ} (o0 o1 o2 : ℕ)
    (h : ∀ i, (![o0, o1, o2] : Fin 3 → Nat) i + (⟨3, ![m0, m1, m2]⟩ : Shape).size i ≤ (⟨3, ![n0, n1, n2]⟩ : Shape).size i)
    (a : Fin m0) (b : Fin m1) (c : Fin m2) (a' : Fin n0) (b' : Fin n1) (c' : Fin n2)
    (ha : a'.val = o0 + a.val) (hb : b'.val = o1 + b.val) (hc : c'.val = o2 + c.val) :
    (Rect.unit (s := ⟨3, ![n0, n1, n2]⟩) ![o0, o1, o2] (⟨3, ![m0, m1, m2]⟩ : Shape).size h).idx (ix3 a b c) = ix3 a' b' c' := by
  funext ax
  apply Fin.ext
  match ax with
  | ⟨0, _⟩ => show o0 + 1 * a.val = a'.val; omega
  | ⟨1, _⟩ => show o1 + 1 * b.val = b'.val; omega
  | ⟨2, _⟩ => show o2 + 1 * c.val = c'.val; omega

/-- The accumulator after one tile: its rows gain the product, the others stay. -/
theorem tileUpd_apply (r : ℕ) (hr : ∀ i, (![r, 0] : Fin 2 → Nat) i + S256x1024.size i ≤ S1024x1024.size i)
    (ha : ∀ i, (![r, 0] : Fin 2 → Nat) i + S256x1.size i ≤ S1024x1.size i)
    (U : Vec Ideal S1024x512 .f32) (V : Vec Ideal S512x1024 .f32) (D : Vec Ideal S1024x1024 .f32) (p q : Fin 1024) :
    tileUpd (F := Ideal) v r hr ha A X U V D (ix2 p q)
      = if r ≤ p.val ∧ p.val < r + 256 then
          D (ix2 p q) + ffn (mrow v A X p) (fun j k => U (ix2 j k)) (fun k => V (ix2 k q))
        else D (ix2 p q) := by
  unfold tileUpd
  split
  · next h =>
    have hp : p.val - r < 256 := by omega
    have e : ∀ c : Fin 1024, (Rect.unit (s := S1024x1024) ![r, 0] S256x1024.size hr).idx (ix2 (⟨p.val - r, hp⟩ : Fin 256) c) = ix2 p c :=
      fun c => unit_idx2 r 0 hr ⟨p.val - r, hp⟩ c p c (by show p.val = r + (p.val - r); omega) (by omega)
    have ea : (Rect.unit (s := S1024x1) ![r, 0] S256x1.size ha).idx (ix2 (⟨p.val - r, hp⟩ : Fin 256) (0 : Fin 1)) = ix2 p (0 : Fin 1) :=
      unit_idx2 r 0 ha ⟨p.val - r, hp⟩ (0 : Fin 1) p (0 : Fin 1) (by show p.val = r + (p.val - r); omega) (by rfl)
    have e1 : ∀ (j : Fin 1024) (k : Fin 512), (Rect.unit (s := S1024x512) ![0, 0] S1024x512.size inb_S1024x512_S1024x512_0_0).idx (ix2 j k) = ix2 j k :=
      fun j k => unit_idx2 0 0 inb_S1024x512_S1024x512_0_0 j k j k (by omega) (by omega)
    have e2 : ∀ (k : Fin 512) (c : Fin 1024), (Rect.unit (s := S512x1024) ![0, 0] S512x1024.size inb_S512x1024_S512x1024_0_0).idx (ix2 k c) = ix2 k c :=
      fun k c => unit_idx2 0 0 inb_S512x1024_S512x1024_0_0 k c k c (by omega) (by omega)
    conv_lhs => rw [← e q]
    refine ((Rect.unit (s := S1024x1024) ![r, 0] S256x1024.size hr).overlay_emb D _ (ix2 (⟨p.val - r, hp⟩ : Fin 256) q)).trans ?_
    refine (tileVal_apply v _ _ _ _ _ (⟨p.val - r, hp⟩ : Fin 256) q).trans ?_
    unfold mrow
    simp only [View.ld, e, ea, e1, e2]
  · next h =>
    refine Rect.overlay_of_not_mem _ D _ fun hm => h ?_
    obtain ⟨i, hi⟩ := (Rect.unit (s := S1024x1024) ![r, 0] S256x1024.size hr).toLoadRect.exists_idx_of_mem hm
    have h0 : r + 1 * (i 0).val = p.val := congrArg Fin.val (congrFun hi (0 : Fin 2))
    have h1 : (i 0).val < 256 := (i 0).isLt
    omega

/-- After the four tiles every row has its product. -/
theorem tilesUpd_apply (U : Vec Ideal S1024x512 .f32) (V : Vec Ideal S512x1024 .f32) (D : Vec Ideal S1024x1024 .f32) (p q : Fin 1024) :
    tilesUpd (F := Ideal) v A X U V D (ix2 p q)
      = D (ix2 p q) + ffn (mrow v A X p) (fun j k => U (ix2 j k)) (fun k => V (ix2 k q)) := by
  unfold tilesUpd
  simp only [tileUpd_apply]
  have := p.isLt
  by_cases h1 : p.val < 256
  · simp [show p.val < 256 from h1, show ¬ 256 ≤ p.val by omega, show ¬ 512 ≤ p.val by omega, show ¬ 768 ≤ p.val by omega]
  · by_cases h2 : p.val < 512
    · simp [show ¬ p.val < 256 by omega, show 256 ≤ p.val by omega, show p.val < 512 from h2, show ¬ 512 ≤ p.val by omega, show ¬ 768 ≤ p.val by omega]
    · by_cases h3 : p.val < 768
      · simp [show ¬ p.val < 256 by omega, show ¬ p.val < 512 by omega, show 512 ≤ p.val by omega, show p.val < 768 from h3, show ¬ 768 ≤ p.val by omega]
      · simp [show ¬ p.val < 256 by omega, show ¬ p.val < 512 by omega, show ¬ p.val < 768 by omega, show 768 ≤ p.val by omega, show p.val < 1024 from p.isLt]

variable (B1 : Vec Ideal S2x1024x2048 .f32) (B2 : Vec Ideal S2x2048x1024 .f32)

/-- Where the weight block from `o` lies among the hidden features. -/
def feat (t : Fin 4) (k : Fin 512) : Fin 2048 := ⟨512 * t.val + k.val, by have := t.isLt; have := k.isLt; omega⟩

theorem blkUpd_apply (e : Fin 2) (t : Fin 4) (o : ℕ) (ho : o = 0 ∨ o = 512 ∨ o = 1024 ∨ o = 1536) (hto : o = 512 * t.val)
    (D : Vec Ideal S1024x1024 .f32) (p q : Fin 1024) :
    blkUpd (F := Ideal) v e.val e.isLt o ho B1 B2 A X D (ix2 p q)
      = D (ix2 p q) + ffn (mrow v A X p) (fun j k => B1 (ix3 e j (feat t k))) (fun k => B2 (ix3 e (feat t k) q)) := by
  unfold blkUpd
  rw [tilesUpd_apply]
  refine congrArg (D (ix2 p q) + ·) ?_
  have e1 : ∀ (j : Fin 1024) (k : Fin 512), w1blk B1 e.val o (inbW1 e.val e.isLt o ho) (ix2 j k) = B1 (ix3 e j (feat t k)) := fun j k => by
    unfold w1blk
    rw [reshapeEquiv_ix2_1ab]
    exact congrArg B1 (unit_idx3 e.val 0 o (inbW1 e.val e.isLt o ho) ⟨0, Nat.one_pos⟩ j k e j (feat t k) (by simp) (by simp) (by rw [hto]; rfl))
  have e2 : ∀ (k : Fin 512) , w2blk B2 e.val o (inbW2 e.val e.isLt o ho) (ix2 k q) = B2 (ix3 e (feat t k) q) := fun k => by
    unfold w2blk
    rw [reshapeEquiv_ix2_1ab]
    exact congrArg B2 (unit_idx3 e.val o 0 (inbW2 e.val e.isLt o ho) ⟨0, Nat.one_pos⟩ k q e (feat t k) q (by simp) (by rw [hto]; rfl) (by simp))
  simp only [e1, e2]

/-- What expert `e` of the device adds. -/
theorem expertUpd_apply (e : Fin 2) (D : Vec Ideal S1024x1024 .f32) (p q : Fin 1024) :
    expertUpd (F := Ideal) v e.val e.isLt B1 B2 A X D (ix2 p q)
      = D (ix2 p q) + if A (ix2 p (0 : Fin 1)) = v then
          ffn (fun j => X (ix2 p j)) (fun j k => B1 (ix3 e j k)) (fun k => B2 (ix3 e k q)) else 0 := by
  unfold expertUpd
  rw [blkUpd_apply v A X B1 B2 e 3 1536 (by simp) rfl, blkUpd_apply v A X B1 B2 e 2 1024 (by simp) rfl,
    blkUpd_apply v A X B1 B2 e 1 512 (by simp) rfl, blkUpd_apply v A X B1 B2 e 0 0 (by simp) rfl]
  rw [← ffn_mask, ← ffn_blocks _ _ _ feat (fun _ _ => rfl), Fin.sum_univ_four]
  simp only [add_assoc]
  rfl

end

/-- A pass at a row and a column. -/
theorem passVal_apply (v2 : BitVec 32) (A : Vec Ideal S1024x1 .i32) (X : Vec Ideal S1024x1024 .f32)
    (B1 : Vec Ideal S2x1024x2048 .f32) (B2 : Vec Ideal S2x2048x1024 .f32) (p q : Fin 1024) :
    passVal (F := Ideal) v2 B1 B2 A X (ix2 p q)
      = (if A (ix2 p (0 : Fin 1)) = v2 * 2#32 + 0#32 then
          ffn (fun j => X (ix2 p j)) (fun j k => B1 (ix3 (0 : Fin 2) j k)) (fun k => B2 (ix3 (0 : Fin 2) k q)) else 0)
        + (if A (ix2 p (0 : Fin 1)) = v2 * 2#32 + 1#32 then
          ffn (fun j => X (ix2 p j)) (fun j k => B1 (ix3 (1 : Fin 2) j k)) (fun k => B2 (ix3 (1 : Fin 2) k q)) else 0) := by
  unfold passVal
  refine (expertUpd_apply _ A X B1 B2 (1 : Fin 2) _ p q).trans ?_
  refine congrArg₂ (· + ·) ?_ rfl
  refine (expertUpd_apply _ A X B1 B2 (0 : Fin 2) _ p q).trans ?_
  refine (congrArg₂ (· + ·) ?_ rfl).trans (zero_add _)
  exact Ideal.ofBits_zero_f32

end Cert.KernelIdeal.Moe

end
-- ==== Proof.RefValue.lean ====
/- The reference's result over the extended reals, at each row and column: the feed-forward product of the expert the
   row's token is assigned to, and nothing for a token assigned to none of the eight. -/
module

public import proofs.«01_k».proof.Proof.Value
public import proofs.«01_k».proof.Proof.Gen.ReferenceIdeal.Run
public import Idealize.ShloMosaic.Lib.StackMember

@[expose] public section

noncomputable section

namespace Cert.ReferenceIdeal.Moe

open Cert.ReferenceIdeal Cert.ReferenceIdeal.Gen
open Cert.KernelIdeal.Moe (ffn)
open Idealize.ShloMosaic hiding ix2 ix3
open Idealize.ShloMosaic.ValueIdx Idealize.ShloMosaic.TcCoe
open scoped BigOperators

/-- A choice by equality of two words. -/
theorem select_eq_word {α : Type} (a w : BitVec 32) (x y : α) :
    Scalar.select (IntOp.cmpi .eq a w) x y = if a = w then x else y := by
  by_cases h : a = w
  · subst h
    have e : IntOp.cmpi .eq a a = 1#1 := by simp [IntOp.cmpi]
    rw [e, select_one, if_pos rfl]
  · have e : IntOp.cmpi .eq a w = 0#1 := by simp [IntOp.cmpi, beq_eq_false_iff_ne.mpr h]
    rw [e, select_zero, if_neg h]

/-- One expert's step: its product for the rows assigned to it, the result so far for the others. -/
theorem step_apply (e : Fin 8) (w : BitVec 32) (a : IVec S4096x1 32) (x : FVec Ideal S4096x1024 .f32)
    (W1 : FVec Ideal S8x1024x2048 .f32) (W2 : FVec Ideal S8x2048x1024 .f32) (prev : FVec Ideal S4096x1024 .f32)
    (h1 : S8x1024x2048.Slices ![e.val, 0, 0] S1x1024x2048) (h2 : S8x2048x1024.Slices ![e.val, 0, 0] S1x2048x1024)
    (i : Fin 4096) (q : Fin 1024) :
    select (broadcastInDim S4096x1024 ![0, 1] bcast_S4096x1_S4096x1024_0_1
        (cmpi .eq a (broadcastInDim S4096x1 ![] bcast_S_S4096x1 (constantI S_ 32 w))))
      (Host.dotGeneral dot_S4096x2048_S2048x1024_S4096x1024_1_0_0_1_n_n none
        (maximumf (Host.dotGeneral dot_S4096x1024_S1024x2048_S4096x2048_1_0_0_1_n_n none x
            (shapeCast S1024x2048 (extractStridedSlice S1x1024x2048 ![e.val, 0, 0] W1 h1) shapeCasts_S1x1024x2048_S1024x2048))
          (broadcastInDim S4096x2048 ![] bcast_S_S4096x2048 (constant S_ .f32 0x00000000#32)))
        (shapeCast S2048x1024 (extractStridedSlice S1x2048x1024 ![e.val, 0, 0] W2 h2) shapeCasts_S1x2048x1024_S2048x1024))
      prev (ix2 i q)
    = if a (ix2 i (0 : Fin 1)) = w then
        ffn (fun j => x (ix2 i j)) (fun j k => W1 (ix3 e j k)) (fun k => W2 (ix3 e k q))
      else prev (ix2 i q) := by
  rw [select_apply]
  have hc : broadcastInDim S4096x1024 ![0, 1] bcast_S4096x1_S4096x1024_0_1
      (cmpi .eq a (broadcastInDim S4096x1 ![] bcast_S_S4096x1 (constantI S_ 32 w))) (ix2 i q)
      = IntOp.cmpi .eq (a (ix2 i (0 : Fin 1))) w := by
    refine (broadcastInDim_apply _ _ _ (ix2 i q) (ix2 i (0 : Fin 1)) fun ax => ?_).trans rfl
    match ax with
    | ⟨0, _⟩ => rfl
    | ⟨1, _⟩ => rfl
  rw [hc, select_eq_word]
  refine if_congr Iff.rfl ?_ rfl
  refine (StackMember.dotGeneral_plain_apply (m := 4096) (k := 2048) (n := 1024) none _ _ i q).trans ?_
  refine Finset.sum_congr rfl fun k _ => congrArg₂ (· * ·) (congrArg₂ max ?_ Ideal.ofBits_zero_f32) ?_
  · refine (StackMember.dotGeneral_plain_apply (m := 4096) (k := 1024) (n := 2048) none _ _ i k).trans ?_
    refine Finset.sum_congr rfl fun j _ => congrArg (x (ix2 i j) * ·) ?_
    refine (shapeCast_1ab_ab_apply _ shapeCasts_S1x1024x2048_S1024x2048 j k).trans ?_
    refine extractStridedSlice_apply _ _ _ _ (ix3 e j k) fun ax => ?_
    match ax with
    | ⟨0, _⟩ => rfl
    | ⟨1, _⟩ => exact (Nat.zero_add _).symm
    | ⟨2, _⟩ => exact (Nat.zero_add _).symm
  · refine (shapeCast_1ab_ab_apply _ shapeCasts_S1x2048x1024_S2048x1024 k q).trans ?_
    refine extractStridedSlice_apply _ _ _ _ (ix3 e k q) fun ax => ?_
    match ax with
    | ⟨0, _⟩ => rfl
    | ⟨1, _⟩ => exact (Nat.zero_add _).symm
    | ⟨2, _⟩ => exact (Nat.zero_add _).symm

/-- The choice among eight by a word is the sum of what each word selects. -/
theorem pick (a : BitVec 32) (f : Fin 8 → EReal) :
    (if a = 7#32 then f 7 else if a = 6#32 then f 6 else if a = 5#32 then f 5 else if a = 4#32 then f 4
      else if a = 3#32 then f 3 else if a = 2#32 then f 2 else if a = 1#32 then f 1 else if a = 0#32 then f 0 else 0)
    = ∑ e : Fin 8, if a = BitVec.ofNat 32 e.val then f e else 0 := by
  rw [Fin.sum_univ_eight]
  by_cases h7 : a = 7#32
  · subst h7; simp
  by_cases h6 : a = 6#32
  · subst h6; simp
  by_cases h5 : a = 5#32
  · subst h5; simp
  by_cases h4 : a = 4#32
  · subst h4; simp
  by_cases h3 : a = 3#32
  · subst h3; simp
  by_cases h2 : a = 2#32
  · subst h2; simp
  by_cases h1 : a = 1#32
  · subst h1; simp
  simp [h1, h2, h3, h4, h5, h6, h7]

/-- The reference's result at a row and a column. -/
theorem ref_apply (m : (ℓ : Loc nD τ sig) → Buf (Elt Ideal) ℓ) (c : Dev nD)
    (x : FVec Ideal S4096x1024 .f32) (a : IVec S4096x1 32) (W1 : FVec Ideal S8x1024x2048 .f32) (W2 : FVec Ideal S8x2048x1024 .f32)
    (hx : m ((c.tc : Thread nD τ).loc main_arg0) = x) (ha : m ((c.tc : Thread nD τ).loc main_arg1) = a)
    (h1 : m ((c.tc : Thread nD τ).loc main_arg2) = W1) (h2 : m ((c.tc : Thread nD τ).loc main_arg3) = W2)
    (i : Fin 4096) (q : Fin 1024) :
    Value.res_main_v88 m c (ix2 i q)
      = ∑ e : Fin 8, if a (ix2 i (0 : Fin 1)) = BitVec.ofNat 32 e.val then
          ffn (fun j => x (ix2 i j)) (fun j k => W1 (ix3 e j k)) (fun k => W2 (ix3 e k q)) else 0 := by
  subst hx ha h1 h2
  rw [← pick _ fun e => ffn _ (fun j k => m ((c.tc : Thread nD τ).loc main_arg2) (ix3 e j k)) (fun k => m ((c.tc : Thread nD τ).loc main_arg3) (ix3 e k q))]
  unfold Value.res_main_v88
  refine (step_apply 7 _ _ _ _ _ _ _ _ i q).trans (if_congr Iff.rfl rfl ?_)
  refine (step_apply 6 _ _ _ _ _ _ _ _ i q).trans (if_congr Iff.rfl rfl ?_)
  refine (step_apply 5 _ _ _ _ _ _ _ _ i q).trans (if_congr Iff.rfl rfl ?_)
  refine (step_apply 4 _ _ _ _ _ _ _ _ i q).trans (if_congr Iff.rfl rfl ?_)
  refine (step_apply 3 _ _ _ _ _ _ _ _ i q).trans (if_congr Iff.rfl rfl ?_)
  refine (step_apply 2 _ _ _ _ _ _ _ _ i q).trans (if_congr Iff.rfl rfl ?_)
  refine (step_apply 1 _ _ _ _ _ _ _ _ i q).trans (if_congr Iff.rfl rfl ?_)
  refine (step_apply 0 _ _ _ _ _ _ _ _ i q).trans (if_congr Iff.rfl rfl ?_)
  exact Ideal.ofBits_zero_f32

end Cert.ReferenceIdeal.Moe

end
-- ==== Proof.Agree.lean ====
/- The kernel's result on a device is that device's block of the reference's result: the four devices' passes add up
   to the sum over the eight experts. -/
module

public import proofs.«01_k».proof.Proof.RingI
public import proofs.«01_k».proof.Proof.Value
public import proofs.«01_k».proof.Proof.RefValue
public import Idealize.ShloMosaic.Lib.Layout

@[expose] public section

set_option backward.proofsInPublic true

noncomputable section

namespace Cert.KernelIdeal.Moe

open Cert.KernelIdeal Cert.KernelIdeal.Gen
open Idealize.ShloMosaic hiding ix2 ix3 eq_ix2
open Idealize.ShloMosaic.ValueIdx Idealize.ShloMosaic.TcCoe
open scoped BigOperators

variable (m : (ℓ : Loc nD τ sig) → Buf (Elt Ideal) ℓ)

/-! ### The windows are the whole arrays -/

section
variable {F : FTy → Type} [FloatOps F]

theorem read0 (f : main_arg0.ty.Contents (Elt F)) : (win0_0.blk (0 : Fin 1)).view.read (Elt F) f = f :=
  Memref.read_access_unit_zero (Elt F) main_arg0 (show (fun a => (win0_0.index (0 : Fin 1)) a * main_arg0.ty.shape.size a) = fun _ => 0 from
    funext fun a => by fin_cases a <;> decide) (fun a => by fin_cases a <;> decide) f

theorem read1 (f : main_arg1.ty.Contents (Elt F)) : (win0_1.blk (0 : Fin 1)).view.read (Elt F) f = f :=
  Memref.read_access_unit_zero (Elt F) main_arg1 (show (fun a => (win0_1.index (0 : Fin 1)) a * main_arg1.ty.shape.size a) = fun _ => 0 from
    funext fun a => by fin_cases a <;> decide) (fun a => by fin_cases a <;> decide) f

theorem read2 (f : main_v1.ty.Contents (Elt F)) : (win0_2.blk (0 : Fin 1)).view.read (Elt F) f = f :=
  Memref.read_access_unit_zero (Elt F) main_v1 (show (fun a => (win0_2.index (0 : Fin 1)) a * main_v1.ty.shape.size a) = fun _ => 0 from
    funext fun a => by fin_cases a <;> decide) (fun a => by fin_cases a <;> decide) f

end

/-! ### The experts of a device -/

/-- The first expert of device `d`, and the second. -/
def ex0 (d : Dev nD) : Fin 8 := ⟨2 * d.val, by have : d.val < 4 := d.isLt; omega⟩
def ex1 (d : Dev nD) : Fin 8 := ⟨2 * d.val + 1, by have : d.val < 4 := d.isLt; omega⟩

theorem word0 (d : Dev nD) : posW d * 2#32 + 0#32 = BitVec.ofNat 32 (ex0 d).val := by
  revert d; decide
theorem word1 (d : Dev nD) : posW d * 2#32 + 1#32 = BitVec.ofNat 32 (ex1 d).val := by
  revert d; decide

/-- The passes of the four devices, in the order the kernel adds them, cover the eight experts. -/
theorem sum_rot (T : Fin 8 → EReal) (c : Dev nD) :
    T (ex0 c) + T (ex1 c) + (T (ex0 (rot 1 c)) + T (ex1 (rot 1 c))) + (T (ex0 (rot 2 c)) + T (ex1 (rot 2 c)))
      + (T (ex0 (rot 3 c)) + T (ex1 (rot 3 c))) = ∑ e : Fin 8, T e := by
  rw [Fin.sum_univ_eight]
  change Fin 4 at c
  fin_cases c
  · show T 0 + T 1 + (T 2 + T 3) + (T 4 + T 5) + (T 6 + T 7) = _
    abel
  · show T 2 + T 3 + (T 4 + T 5) + (T 6 + T 7) + (T 0 + T 1) = _
    abel
  · show T 4 + T 5 + (T 6 + T 7) + (T 0 + T 1) + (T 2 + T 3) = _
    abel
  · show T 6 + T 7 + (T 0 + T 1) + (T 2 + T 3) + (T 4 + T 5) = _
    abel

section
variable (x : FVec Ideal ⟨2, ![4096, 1024]⟩ .f32) (a : IVec ⟨2, ![4096, 1]⟩ 32) (W1 : FVec Ideal ⟨3, ![8, 1024, 2048]⟩ .f32)
  (W2 : FVec Ideal ⟨3, ![8, 2048, 1024]⟩ .f32)
  (hx : ∀ c : Dev nD, m ((c : Thread nD τ).loc main_arg0) = Layout.block ⟨2, ![1024, 1024]⟩ ⟨2, ![4096, 1024]⟩ 0 4 c x)
  (ha : ∀ c : Dev nD, m ((c : Thread nD τ).loc main_arg1) = Layout.block ⟨2, ![1024, 1]⟩ ⟨2, ![4096, 1]⟩ 0 4 c a)
  (h1 : ∀ c : Dev nD, m ((c : Thread nD τ).loc main_arg2) = Layout.block ⟨3, ![2, 1024, 2048]⟩ ⟨3, ![8, 1024, 2048]⟩ 0 4 c W1)
  (h2 : ∀ c : Dev nD, m ((c : Thread nD τ).loc main_arg3) = Layout.block ⟨3, ![2, 2048, 1024]⟩ ⟨3, ![8, 2048, 1024]⟩ 0 4 c W2)

/-- Row `p` of device `c`'s block among all rows. -/
def tokRow (c : Dev nD) (p : Fin 1024) : Fin 4096 := ⟨c.val * 1024 + p.val, by have : c.val < 4 := c.isLt; have := p.isLt; omega⟩

/-- What expert `e` gives row `p`, column `q` of device `c`'s block. -/
def share (c : Dev nD) (p q : Fin 1024) (e : Fin 8) : EReal :=
  if a (ix2 (tokRow c p) (0 : Fin 1)) = BitVec.ofNat 32 e.val then
    ffn (fun j => x (ix2 (tokRow c p) j)) (fun j k => W1 (ix3 e j k)) (fun k => W2 (ix3 e k q)) else 0

include hx in
theorem xb_apply (c : Dev nD) (p j : Fin 1024) : xb m c (ix2 p j) = x (ix2 (tokRow c p) j) := by
  unfold xb
  rw [read0, hx]
  refine congrArg x (funext fun b => Fin.ext ?_)
  match b with
  | ⟨0, _⟩ => rfl
  | ⟨1, _⟩ => rfl

include ha in
theorem ab_apply (c : Dev nD) (p : Fin 1024) : ab m c (ix2 p (0 : Fin 1)) = a (ix2 (tokRow c p) (0 : Fin 1)) := by
  unfold ab
  rw [read1, ha]
  refine congrArg a (funext fun b => Fin.ext ?_)
  match b with
  | ⟨0, _⟩ => rfl
  | ⟨1, _⟩ => rfl

include h1 in
theorem w1_apply (d : Dev nD) (e : Fin 2) (e' : Fin 8) (he : e'.val = d.val * 2 + e.val) (j : Fin 1024) (k : Fin 2048) :
    W1M.view.read (Elt Ideal) (m ((d : Thread nD τ).loc main_arg2)) (ix3 e j k) = W1 (ix3 e' j k) := by
  rw [h1]
  refine congrArg W1 (funext fun b => Fin.ext ?_)
  match b with
  | ⟨0, _⟩ => exact he.symm
  | ⟨1, _⟩ => rfl
  | ⟨2, _⟩ => rfl

include h2 in
theorem w2_apply (d : Dev nD) (e : Fin 2) (e' : Fin 8) (he : e'.val = d.val * 2 + e.val) (k : Fin 2048) (q : Fin 1024) :
    W2M.view.read (Elt Ideal) (m ((d : Thread nD τ).loc main_arg3)) (ix3 e k q) = W2 (ix3 e' k q) := by
  rw [h2]
  refine congrArg W2 (funext fun b => Fin.ext ?_)
  match b with
  | ⟨0, _⟩ => exact he.symm
  | ⟨1, _⟩ => rfl
  | ⟨2, _⟩ => rfl

include hx ha h1 h2 in
/-- What device `d` contributes to device `c`'s block is its two experts' shares. -/
theorem pv_apply (d c : Dev nD) (p q : Fin 1024) :
    pv m d c (ix2 p q) = share x a W1 W2 c p q (ex0 d) + share x a W1 W2 c p q (ex1 d) := by
  unfold pv share
  rw [passVal_apply, word0, word1, ab_apply m a ha]
  simp only [xb_apply m x hx]
  have e10 := w1_apply m W1 h1 d (0 : Fin 2) (ex0 d) (by show 2 * d.val = d.val * 2 + 0; omega)
  have e11 := w1_apply m W1 h1 d (1 : Fin 2) (ex1 d) (by show 2 * d.val + 1 = d.val * 2 + 1; omega)
  have e20 := w2_apply m W2 h2 d (0 : Fin 2) (ex0 d) (by show 2 * d.val = d.val * 2 + 0; omega)
  have e21 := w2_apply m W2 h2 d (1 : Fin 2) (ex1 d) (by show 2 * d.val + 1 = d.val * 2 + 1; omega)
  simp only [e10, e11, e20, e21]

include hx ha h1 h2 in
theorem outV_apply (c : Dev nD) (p q : Fin 1024) :
    outV m c (ix2 p q) = ∑ e : Fin 8, share x a W1 W2 c p q e := by
  unfold outV
  simp only [addf_apply, pv_apply m x a W1 W2 hx ha h1 h2]
  exact sum_rot (share x a W1 W2 c p q) c

end

/-- The kernel's result on device `c` is block `c` of the reference's. -/
theorem outV_block (m' : (ℓ : Loc Cert.ReferenceIdeal.nD Cert.ReferenceIdeal.τ Cert.ReferenceIdeal.sig) → Buf (Elt Ideal) ℓ) (c' : Dev Cert.ReferenceIdeal.nD)
    (hx : ∀ c : Dev nD, m ((c : Thread nD τ).loc main_arg0) = Layout.block ⟨2, ![1024, 1024]⟩ ⟨2, ![4096, 1024]⟩ 0 4 c (m' ((c'.tc : Thread _ Cert.ReferenceIdeal.τ).loc Cert.ReferenceIdeal.main_arg0)))
    (ha : ∀ c : Dev nD, m ((c : Thread nD τ).loc main_arg1) = Layout.block ⟨2, ![1024, 1]⟩ ⟨2, ![4096, 1]⟩ 0 4 c (m' ((c'.tc : Thread _ Cert.ReferenceIdeal.τ).loc Cert.ReferenceIdeal.main_arg1)))
    (h1 : ∀ c : Dev nD, m ((c : Thread nD τ).loc main_arg2) = Layout.block ⟨3, ![2, 1024, 2048]⟩ ⟨3, ![8, 1024, 2048]⟩ 0 4 c (m' ((c'.tc : Thread _ Cert.ReferenceIdeal.τ).loc Cert.ReferenceIdeal.main_arg2)))
    (h2 : ∀ c : Dev nD, m ((c : Thread nD τ).loc main_arg3) = Layout.block ⟨3, ![2, 2048, 1024]⟩ ⟨3, ![8, 2048, 1024]⟩ 0 4 c (m' ((c'.tc : Thread _ Cert.ReferenceIdeal.τ).loc Cert.ReferenceIdeal.main_arg3)))
    (c : Dev nD) :
    outV m c = Layout.block ⟨2, ![1024, 1024]⟩ ⟨2, ![4096, 1024]⟩ 0 4 c (Cert.ReferenceIdeal.Value.res_main_v88 m' c') := by
  funext i
  rw [eq_ix2 i]
  refine (outV_apply m _ _ _ _ hx ha h1 h2 c (i 0) (i 1)).trans ?_
  refine ((Cert.ReferenceIdeal.Moe.ref_apply m' c' _ _ _ _ rfl rfl rfl rfl (tokRow c (i 0)) (i 1)).symm).trans ?_
  refine congrArg (Cert.ReferenceIdeal.Value.res_main_v88 m' c') (funext fun b => Fin.ext ?_)
  match b with
  | ⟨0, _⟩ => rfl
  | ⟨1, _⟩ => rfl

end Cert.KernelIdeal.Moe

end
-- ==== Proof.lean ====
/- The certificate's claims: both readings of the kernel run on the four devices with their arguments kept and every
   counter back at zero, so does the reference, and over the extended reals each device's result is its block of the
   reference's. -/
module

public import proofs.«01_k».proof.Defs
public import proofs.«01_k».proof.Proof.Gen.ReferenceIdeal
public import proofs.«01_k».proof.Proof.Gen.ReferenceIdeal.Run
public import proofs.«01_k».proof.Proof.LaunchI
public import proofs.«01_k».proof.Proof.LaunchK
public import proofs.«01_k».proof.Proof.Agree

@[expose] public section

noncomputable section

namespace Cert.Proof

open Idealize.ShloMosaic Idealize.SL.Sem

/-- The kernel over bit patterns. -/
theorem frame_k : Cert.quiescent_Kernel := by
  intro m g _
  exact (θ_run Cert.Kernel.defs _ _).mono
    (fun _ h => ⟨fun c => ⟨Cert.Kernel.Moe.done_arg0 m h.1 c, Cert.Kernel.Moe.done_arg1 m h.1 c, (h.1 c).2.1, (h.1 c).2.2⟩, h.2⟩)
    (Cert.Kernel.Moe.run_main (F := Bits) m g)

/-- The kernel over the extended reals. -/
theorem frame_i : Cert.quiescent_KernelIdeal := by
  intro m g _
  exact (θ_run Cert.KernelIdeal.defs _ _).mono
    (fun _ h => ⟨fun c => ⟨Cert.KernelIdeal.Moe.done_arg0 m h.1 c, Cert.KernelIdeal.Moe.done_arg1 m h.1 c, (h.1 c).2.1, (h.1 c).2.2⟩, h.2⟩)
    (Cert.KernelIdeal.Moe.run_main (F := Ideal) m g)

/-- The reference, which has no counters. -/
theorem frame_r : Cert.quiescent_ReferenceIdeal := by
  intro m g _
  exact (θ_run Cert.ReferenceIdeal.defs _ _).mono
    (fun r h => ⟨fun c => (h c).2, sem_eq_zero_of_no_sems (by decide) r.2⟩)
    (Cert.ReferenceIdeal.Value.run (F := Ideal) m g)

/-- The result's value: the kernel's run leaves on each device its block of what the reference's run leaves. -/
theorem value : Cert.algebraic_KernelIdeal_ReferenceIdeal := by
  intro m g m' g' _ hagree
  refine ⟨Cert.ReferenceIdeal.Value.res_main_v88 m' 0, ?_, ?_⟩
  · refine (θ_run Cert.KernelIdeal.defs _ _).mono
      (fun _ h c => ⟨?_, Cert.KernelIdeal.Moe.done_arg0 m h.1 c, Cert.KernelIdeal.Moe.done_arg1 m h.1 c, (h.1 c).2.1, (h.1 c).2.2⟩)
      (Cert.KernelIdeal.Moe.run_main (F := Ideal) m g)
    refine (Cert.KernelIdeal.Moe.read2 _).symm.trans ?_
    refine (Cert.KernelIdeal.Moe.done_out m h.1 c).trans ?_
    exact Cert.KernelIdeal.Moe.outV_block m m' 0 (fun c => (hagree c).1) (fun c => (hagree c).2.1) (fun c => (hagree c).2.2.1)
      (fun c => (hagree c).2.2.2) c
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, frame_k, frame_i, frame_r, trivial, value⟩

end Cert.Proof

end
